-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S4096x2048 : Shape := ⟨2, ![4096, 2048]⟩
abbrev S4x2x256x512 : Shape := ⟨4, ![4, 2, 256, 512]⟩
abbrev S4x2 : Shape := ⟨2, ![4, 2]⟩
abbrev S4 : Shape := ⟨1, ![4]⟩
abbrev S_ : Shape := ⟨0, ![]⟩
abbrev S256x256 : Shape := ⟨2, ![256, 256]⟩
abbrev S1x1 : Shape := ⟨2, ![1, 1]⟩
abbrev S1x1x256x512 : Shape := ⟨4, ![1, 1, 256, 512]⟩
abbrev S256x512 : Shape := ⟨2, ![256, 512]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x2048, .f32⟩
  | .local _ .vmem, ⟨0, _⟩ => ⟨S4096x256, .f32⟩
  | .local _ .vmem, ⟨1, _⟩ => ⟨S256x2048, .f32⟩
  | .local _ .vmem, ⟨2, _⟩ => ⟨S4096x2048, .f32⟩
  | .local _ .vmem, ⟨3, _⟩ => ⟨S4x2x256x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  (ofTc nBuf bufTy 9 46 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 8

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_6 : BitVec 32 := 1#32
  let v10 : BitVec 32 := Scalar.muli v6 c1_i32_6
  let v11 : BitVec 32 := Scalar.addi c0_i32_7 v10
  v11.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v12 : BitVec 32 := Scalar.muli v2 c256_i32
  let v13 : Index := Scalar.indexCast v12
  let c0 : Index := 0#32
  ![v13.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v12 : BitVec 32 := Scalar.muli v2 c256_i32
  let v19 : Index := Scalar.indexCast v12
  let c0_10 : Index := 0#32
  ![v19.toNat, 0]
def k0_off3 (d0 : Dev nD) (c1_i32_11 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v23 : BitVec 32 := Scalar.addi v2 c1_i32_11
  let c16_i32_12 : BitVec 32 := 16#32
  let v24 : BitVec 32 := Scalar.remsi v23 c16_i32_12
  let c256_i32_13 : BitVec 32 := 256#32
  let v25 : BitVec 32 := Scalar.muli v24 c256_i32_13
  let v26 : Index := Scalar.indexCast v25
  let c0_14 : Index := 0#32
  ![v26.toNat, 0]
def k0_off3_at (r : Fin 9) : BitVec 32 :=
  if r.val < 4 then
    if r.val < 2 then
      if r.val < 1 then
        1#32
      else
        15#32
    else
      if r.val < 3 then
        14#32
      else
        13#32
  else
    if r.val < 6 then
      if r.val < 5 then
        12#32
      else
        11#32
    else
      if r.val < 7 then
        10#32
      else
        if r.val < 8 then
          9#32
        else
          8#32
def k0_off4 (d0 : Dev nD) (c1_i32_11 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v23 : BitVec 32 := Scalar.addi v2 c1_i32_11
  let c16_i32_12 : BitVec 32 := 16#32
  let v24 : BitVec 32 := Scalar.remsi v23 c16_i32_12
  let c256_i32_13 : BitVec 32 := 256#32
  let v25 : BitVec 32 := Scalar.muli v24 c256_i32_13
  let v32 : Index := Scalar.indexCast v25
  let c0_18 : Index := 0#32
  ![v32.toNat, 0]
def k0_off4_at (r : Fin 9) : BitVec 32 :=
  if r.val < 4 then
    if r.val < 2 then
      if r.val < 1 then
        1#32
      else
        15#32
    else
      if r.val < 3 then
        14#32
      else
        13#32
  else
    if r.val < 6 then
      if r.val < 5 then
        12#32
      else
        11#32
    else
      if r.val < 7 then
        10#32
      else
        if r.val < 8 then
          9#32
        else
          8#32
def k0_off5 (d0 : Dev nD) (c16_i32_27 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v49 : BitVec 32 := Scalar.addi v2 c16_i32_27
  let c16_i32_28 : BitVec 32 := 16#32
  let v50 : BitVec 32 := Scalar.remsi v49 c16_i32_28
  let c256_i32_29 : BitVec 32 := 256#32
  let v51 : BitVec 32 := Scalar.muli v50 c256_i32_29
  let c0_i32_40 : BitVec 32 := 0#32
  ![v51.toNat, 0]
def k0_dev3 (d0 : Dev nD) : Nat :=
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_36 : BitVec 32 := 1#32
  let v52 : BitVec 32 := Scalar.muli v6 c1_i32_36
  let v53 : BitVec 32 := Scalar.addi c0_i32_37 v52
  v53.toNat
def k0_off6 (d0 : Dev nD) (c16_i32_41 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v61 : BitVec 32 := Scalar.addi v2 c16_i32_41
  let c16_i32_42 : BitVec 32 := 16#32
  let v62 : BitVec 32 := Scalar.remsi v61 c16_i32_42
  let c256_i32_43 : BitVec 32 := 256#32
  let v63 : BitVec 32 := Scalar.muli v62 c256_i32_43
  let c512_i32 : BitVec 32 := 512#32
  ![v63.toNat, 512]
def k0_dev4 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_50 : BitVec 32 := 1#32
  let v64 : BitVec 32 := Scalar.muli v6 c1_i32_50
  let v65 : BitVec 32 := Scalar.addi c0_i32_51 v64
  v65.toNat
def k0_off7 (d0 : Dev nD) (c0_i32_54 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v73 : BitVec 32 := Scalar.addi v2 c0_i32_54
  let c16_i32_55 : BitVec 32 := 16#32
  let v74 : BitVec 32 := Scalar.remsi v73 c16_i32_55
  let c256_i32_56 : BitVec 32 := 256#32
  let v75 : BitVec 32 := Scalar.muli v74 c256_i32_56
  let c1024_i32 : BitVec 32 := 1024#32
  ![v75.toNat, 1024]
def k0_dev5 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_63 : BitVec 32 := 1#32
  let v76 : BitVec 32 := Scalar.muli v4 c1_i32_63
  let v77 : BitVec 32 := Scalar.addi c0_i32_64 v76
  v77.toNat
def k0_off8 (d0 : Dev nD) (c0_i32_67 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v85 : BitVec 32 := Scalar.addi v2 c0_i32_67
  let c16_i32_68 : BitVec 32 := 16#32
  let v86 : BitVec 32 := Scalar.remsi v85 c16_i32_68
  let c256_i32_69 : BitVec 32 := 256#32
  let v87 : BitVec 32 := Scalar.muli v86 c256_i32_69
  let c1536_i32 : BitVec 32 := 1536#32
  ![v87.toNat, 1536]
def k0_dev6 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_75 : BitVec 32 := 1#32
  let v88 : BitVec 32 := Scalar.muli v4 c1_i32_75
  let v89 : BitVec 32 := Scalar.addi c0_i32_76 v88
  v89.toNat
def k0_off9 (d0 : Dev nD) (c15_i32_93 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v107 : BitVec 32 := Scalar.addi v2 c15_i32_93
  let c16_i32_94 : BitVec 32 := 16#32
  let v108 : BitVec 32 := Scalar.remsi v107 c16_i32_94
  let c256_i32_95 : BitVec 32 := 256#32
  let v109 : BitVec 32 := Scalar.muli v108 c256_i32_95
  let v110 : Index := Scalar.indexCast v109
  let c0_96 : Index := 0#32
  ![v110.toNat, 0]
def k0_dev7 (d0 : Dev nD) : Nat :=
  let c0_i32_105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_104 : BitVec 32 := 1#32
  let v121 : BitVec 32 := Scalar.muli v4 c1_i32_104
  let v122 : BitVec 32 := Scalar.addi c0_i32_105 v121
  v122.toNat
def k0_dev8 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_115 : BitVec 32 := 1#32
  let v126 : BitVec 32 := Scalar.muli v6 c1_i32_115
  let v127 : BitVec 32 := Scalar.addi c0_i32_116 v126
  v127.toNat
def k0_off10 (d0 : Dev nD) (c15_i32_134 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v145 : BitVec 32 := Scalar.addi v2 c15_i32_134
  let c16_i32_135 : BitVec 32 := 16#32
  let v146 : BitVec 32 := Scalar.remsi v145 c16_i32_135
  let c256_i32_136 : BitVec 32 := 256#32
  let v147 : BitVec 32 := Scalar.muli v146 c256_i32_136
  let v148 : Index := Scalar.indexCast v147
  let c512 : Index := 512#32
  ![v148.toNat, 512]
def k0_dev9 (d0 : Dev nD) : Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_143 : BitVec 32 := 1#32
  let v159 : BitVec 32 := Scalar.muli v4 c1_i32_143
  let v160 : BitVec 32 := Scalar.addi c0_i32_144 v159
  v160.toNat
def k0_dev10 (d0 : Dev nD) : Nat :=
  let c0_i32_155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_154 : BitVec 32 := 1#32
  let v164 : BitVec 32 := Scalar.muli v6 c1_i32_154
  let v165 : BitVec 32 := Scalar.addi c0_i32_155 v164
  v165.toNat
def k0_off11 (d0 : Dev nD) (c1_i32_173 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v183 : BitVec 32 := Scalar.addi v2 c1_i32_173
  let c16_i32_174 : BitVec 32 := 16#32
  let v184 : BitVec 32 := Scalar.remsi v183 c16_i32_174
  let c256_i32_175 : BitVec 32 := 256#32
  let v185 : BitVec 32 := Scalar.muli v184 c256_i32_175
  let v186 : Index := Scalar.indexCast v185
  let c1024 : Index := 1024#32
  ![v186.toNat, 1024]
def k0_dev11 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_182 : BitVec 32 := 1#32
  let v197 : BitVec 32 := Scalar.muli v6 c1_i32_182
  let v198 : BitVec 32 := Scalar.addi c0_i32_183 v197
  v198.toNat
def k0_dev12 (d0 : Dev nD) : Nat :=
  let c0_i32_194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_193 : BitVec 32 := 1#32
  let v202 : BitVec 32 := Scalar.muli v4 c1_i32_193
  let v203 : BitVec 32 := Scalar.addi c0_i32_194 v202
  v203.toNat
def k0_off12 (d0 : Dev nD) (c1_i32_212 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v221 : BitVec 32 := Scalar.addi v2 c1_i32_212
  let c16_i32_213 : BitVec 32 := 16#32
  let v222 : BitVec 32 := Scalar.remsi v221 c16_i32_213
  let c256_i32_214 : BitVec 32 := 256#32
  let v223 : BitVec 32 := Scalar.muli v222 c256_i32_214
  let v224 : Index := Scalar.indexCast v223
  let c1536 : Index := 1536#32
  ![v224.toNat, 1536]
def k0_dev13 (d0 : Dev nD) : Nat :=
  let c0_i32_222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_221 : BitVec 32 := 1#32
  let v235 : BitVec 32 := Scalar.muli v6 c1_i32_221
  let v236 : BitVec 32 := Scalar.addi c0_i32_222 v235
  v236.toNat
def k0_dev14 (d0 : Dev nD) : Nat :=
  let c0_i32_233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_232 : BitVec 32 := 1#32
  let v240 : BitVec 32 := Scalar.muli v4 c1_i32_232
  let v241 : BitVec 32 := Scalar.addi c0_i32_233 v240
  v241.toNat
def k0_off13 (d0 : Dev nD) (c0_i32_244 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v262 : BitVec 32 := Scalar.addi v2 c0_i32_244
  let c2_i32_245 : BitVec 32 := 2#32
  let v263 : BitVec 32 := Scalar.addi v262 c2_i32_245
  let c16_i32_246 : BitVec 32 := 16#32
  let v264 : BitVec 32 := Scalar.remsi v263 c16_i32_246
  let c256_i32_247 : BitVec 32 := 256#32
  let v265 : BitVec 32 := Scalar.muli v264 c256_i32_247
  let v266 : Index := Scalar.indexCast v265
  let c0_248 : Index := 0#32
  ![v266.toNat, 0]
def k0_off14 (d0 : Dev nD) (c0_i32_244 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v262 : BitVec 32 := Scalar.addi v2 c0_i32_244
  let c2_i32_245 : BitVec 32 := 2#32
  let v263 : BitVec 32 := Scalar.addi v262 c2_i32_245
  let c16_i32_246 : BitVec 32 := 16#32
  let v264 : BitVec 32 := Scalar.remsi v263 c16_i32_246
  let c256_i32_247 : BitVec 32 := 256#32
  let v265 : BitVec 32 := Scalar.muli v264 c256_i32_247
  let v272 : Index := Scalar.indexCast v265
  let c0_252 : Index := 0#32
  ![v272.toNat, 0]
def k0_dev15 (d0 : Dev nD) : Nat :=
  let c0_i32_279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_278 : BitVec 32 := 1#32
  let v300 : BitVec 32 := Scalar.muli v4 c1_i32_278
  let v301 : BitVec 32 := Scalar.addi c0_i32_279 v300
  v301.toNat
def k0_dev16 (d0 : Dev nD) : Nat :=
  let c0_i32_306 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_305 : BitVec 32 := 1#32
  let v315 : BitVec 32 := Scalar.muli v6 c1_i32_305
  let v316 : BitVec 32 := Scalar.addi c0_i32_306 v315
  v316.toNat
def k0_dev17 (d0 : Dev nD) : Nat :=
  let c0_i32_336 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_335 : BitVec 32 := 1#32
  let v348 : BitVec 32 := Scalar.muli v4 c1_i32_335
  let v349 : BitVec 32 := Scalar.addi c0_i32_336 v348
  v349.toNat
def k0_dev18 (d0 : Dev nD) : Nat :=
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_362 : BitVec 32 := 1#32
  let v363 : BitVec 32 := Scalar.muli v6 c1_i32_362
  let v364 : BitVec 32 := Scalar.addi c0_i32_363 v363
  v364.toNat
def k0_dev19 (d0 : Dev nD) : Nat :=
  let c0_i32_393 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_392 : BitVec 32 := 1#32
  let v396 : BitVec 32 := Scalar.muli v6 c1_i32_392
  let v397 : BitVec 32 := Scalar.addi c0_i32_393 v396
  v397.toNat
def k0_dev20 (d0 : Dev nD) : Nat :=
  let c0_i32_420 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_419 : BitVec 32 := 1#32
  let v411 : BitVec 32 := Scalar.muli v4 c1_i32_419
  let v412 : BitVec 32 := Scalar.addi c0_i32_420 v411
  v412.toNat
def k0_dev21 (d0 : Dev nD) : Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_449 : BitVec 32 := 1#32
  let v444 : BitVec 32 := Scalar.muli v6 c1_i32_449
  let v445 : BitVec 32 := Scalar.addi c0_i32_450 v444
  v445.toNat
def k0_dev22 (d0 : Dev nD) : Nat :=
  let c0_i32_477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_476 : BitVec 32 := 1#32
  let v459 : BitVec 32 := Scalar.muli v4 c1_i32_476
  let v460 : BitVec 32 := Scalar.addi c0_i32_477 v459
  v460.toNat
def k0_dev23 (d0 : Dev nD) : Nat :=
  let c0_i32_523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_522 : BitVec 32 := 1#32
  let v519 : BitVec 32 := Scalar.muli v4 c1_i32_522
  let v520 : BitVec 32 := Scalar.addi c0_i32_523 v519
  v520.toNat
def k0_dev24 (d0 : Dev nD) : Nat :=
  let c0_i32_550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_549 : BitVec 32 := 1#32
  let v534 : BitVec 32 := Scalar.muli v6 c1_i32_549
  let v535 : BitVec 32 := Scalar.addi c0_i32_550 v534
  v535.toNat
def k0_dev25 (d0 : Dev nD) : Nat :=
  let c0_i32_580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_579 : BitVec 32 := 1#32
  let v567 : BitVec 32 := Scalar.muli v4 c1_i32_579
  let v568 : BitVec 32 := Scalar.addi c0_i32_580 v567
  v568.toNat
def k0_dev26 (d0 : Dev nD) : Nat :=
  let c0_i32_607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_606 : BitVec 32 := 1#32
  let v582 : BitVec 32 := Scalar.muli v6 c1_i32_606
  let v583 : BitVec 32 := Scalar.addi c0_i32_607 v582
  v583.toNat
def k0_dev27 (d0 : Dev nD) : Nat :=
  let c0_i32_637 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_636 : BitVec 32 := 1#32
  let v615 : BitVec 32 := Scalar.muli v6 c1_i32_636
  let v616 : BitVec 32 := Scalar.addi c0_i32_637 v615
  v616.toNat
def k0_dev28 (d0 : Dev nD) : Nat :=
  let c0_i32_664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_663 : BitVec 32 := 1#32
  let v630 : BitVec 32 := Scalar.muli v4 c1_i32_663
  let v631 : BitVec 32 := Scalar.addi c0_i32_664 v630
  v631.toNat
def k0_dev29 (d0 : Dev nD) : Nat :=
  let c0_i32_694 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_693 : BitVec 32 := 1#32
  let v663 : BitVec 32 := Scalar.muli v6 c1_i32_693
  let v664 : BitVec 32 := Scalar.addi c0_i32_694 v663
  v664.toNat
def k0_dev30 (d0 : Dev nD) : Nat :=
  let c0_i32_721 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_720 : BitVec 32 := 1#32
  let v678 : BitVec 32 := Scalar.muli v4 c1_i32_720
  let v679 : BitVec 32 := Scalar.addi c0_i32_721 v678
  v679.toNat
def k0_dev31 (d0 : Dev nD) : Nat :=
  let c0_i32_767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_766 : BitVec 32 := 1#32
  let v738 : BitVec 32 := Scalar.muli v4 c1_i32_766
  let v739 : BitVec 32 := Scalar.addi c0_i32_767 v738
  v739.toNat
def k0_dev32 (d0 : Dev nD) : Nat :=
  let c0_i32_794 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_793 : BitVec 32 := 1#32
  let v753 : BitVec 32 := Scalar.muli v6 c1_i32_793
  let v754 : BitVec 32 := Scalar.addi c0_i32_794 v753
  v754.toNat
def k0_dev33 (d0 : Dev nD) : Nat :=
  let c0_i32_824 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_823 : BitVec 32 := 1#32
  let v786 : BitVec 32 := Scalar.muli v4 c1_i32_823
  let v787 : BitVec 32 := Scalar.addi c0_i32_824 v786
  v787.toNat
def k0_dev34 (d0 : Dev nD) : Nat :=
  let c0_i32_851 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_850 : BitVec 32 := 1#32
  let v801 : BitVec 32 := Scalar.muli v6 c1_i32_850
  let v802 : BitVec 32 := Scalar.addi c0_i32_851 v801
  v802.toNat
def k0_dev35 (d0 : Dev nD) : Nat :=
  let c0_i32_880 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_879 : BitVec 32 := 1#32
  let v834 : BitVec 32 := Scalar.muli v6 c1_i32_879
  let v835 : BitVec 32 := Scalar.addi c0_i32_880 v834
  v835.toNat
def k0_dev36 (d0 : Dev nD) : Nat :=
  let c0_i32_907 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_906 : BitVec 32 := 1#32
  let v849 : BitVec 32 := Scalar.muli v4 c1_i32_906
  let v850 : BitVec 32 := Scalar.addi c0_i32_907 v849
  v850.toNat
def k0_dev37 (d0 : Dev nD) : Nat :=
  let c0_i32_937 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_936 : BitVec 32 := 1#32
  let v882 : BitVec 32 := Scalar.muli v6 c1_i32_936
  let v883 : BitVec 32 := Scalar.addi c0_i32_937 v882
  v883.toNat
def k0_dev38 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_963 : BitVec 32 := 1#32
  let v897 : BitVec 32 := Scalar.muli v4 c1_i32_963
  let v898 : BitVec 32 := Scalar.addi c0_i32_964 v897
  v898.toNat
def k0_dev39 (d0 : Dev nD) : Nat :=
  let c0_i32_1010 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_1009 : BitVec 32 := 1#32
  let v957 : BitVec 32 := Scalar.muli v4 c1_i32_1009
  let v958 : BitVec 32 := Scalar.addi c0_i32_1010 v957
  v958.toNat
def k0_dev40 (d0 : Dev nD) : Nat :=
  let c0_i32_1037 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_1036 : BitVec 32 := 1#32
  let v972 : BitVec 32 := Scalar.muli v6 c1_i32_1036
  let v973 : BitVec 32 := Scalar.addi c0_i32_1037 v972
  v973.toNat
def k0_dev41 (d0 : Dev nD) : Nat :=
  let c0_i32_1067 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_1066 : BitVec 32 := 1#32
  let v1005 : BitVec 32 := Scalar.muli v4 c1_i32_1066
  let v1006 : BitVec 32 := Scalar.addi c0_i32_1067 v1005
  v1006.toNat
def k0_dev42 (d0 : Dev nD) : Nat :=
  let c0_i32_1094 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_1093 : BitVec 32 := 1#32
  let v1020 : BitVec 32 := Scalar.muli v6 c1_i32_1093
  let v1021 : BitVec 32 := Scalar.addi c0_i32_1094 v1020
  v1021.toNat
def k0_dev43 (d0 : Dev nD) : Nat :=
  let c0_i32_1123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_1122 : BitVec 32 := 1#32
  let v1053 : BitVec 32 := Scalar.muli v6 c1_i32_1122
  let v1054 : BitVec 32 := Scalar.addi c0_i32_1123 v1053
  v1054.toNat
def k0_dev44 (d0 : Dev nD) : Nat :=
  let c0_i32_1150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_1149 : BitVec 32 := 1#32
  let v1068 : BitVec 32 := Scalar.muli v4 c1_i32_1149
  let v1069 : BitVec 32 := Scalar.addi c0_i32_1150 v1068
  v1069.toNat
def k0_dev45 (d0 : Dev nD) : Nat :=
  let c0_i32_1180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_1179 : BitVec 32 := 1#32
  let v1101 : BitVec 32 := Scalar.muli v6 c1_i32_1179
  let v1102 : BitVec 32 := Scalar.addi c0_i32_1180 v1101
  v1102.toNat
def k0_dev46 (d0 : Dev nD) : Nat :=
  let c0_i32_1207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_1206 : BitVec 32 := 1#32
  let v1116 : BitVec 32 := Scalar.muli v4 c1_i32_1206
  let v1117 : BitVec 32 := Scalar.addi c0_i32_1207 v1116
  v1117.toNat
def k0_dev47 (d0 : Dev nD) : Nat :=
  let c0_i32_1253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_1252 : BitVec 32 := 1#32
  let v1176 : BitVec 32 := Scalar.muli v4 c1_i32_1252
  let v1177 : BitVec 32 := Scalar.addi c0_i32_1253 v1176
  v1177.toNat
def k0_dev48 (d0 : Dev nD) : Nat :=
  let c0_i32_1280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_1279 : BitVec 32 := 1#32
  let v1191 : BitVec 32 := Scalar.muli v6 c1_i32_1279
  let v1192 : BitVec 32 := Scalar.addi c0_i32_1280 v1191
  v1192.toNat
def k0_dev49 (d0 : Dev nD) : Nat :=
  let c0_i32_1310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_1309 : BitVec 32 := 1#32
  let v1224 : BitVec 32 := Scalar.muli v4 c1_i32_1309
  let v1225 : BitVec 32 := Scalar.addi c0_i32_1310 v1224
  v1225.toNat
def k0_dev50 (d0 : Dev nD) : Nat :=
  let c0_i32_1337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_1336 : BitVec 32 := 1#32
  let v1239 : BitVec 32 := Scalar.muli v6 c1_i32_1336
  let v1240 : BitVec 32 := Scalar.addi c0_i32_1337 v1239
  v1240.toNat
def k0_dev51 (d0 : Dev nD) : Nat :=
  let c0_i32_1366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_1365 : BitVec 32 := 1#32
  let v1272 : BitVec 32 := Scalar.muli v6 c1_i32_1365
  let v1273 : BitVec 32 := Scalar.addi c0_i32_1366 v1272
  v1273.toNat
def k0_dev52 (d0 : Dev nD) : Nat :=
  let c0_i32_1393 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_1392 : BitVec 32 := 1#32
  let v1287 : BitVec 32 := Scalar.muli v4 c1_i32_1392
  let v1288 : BitVec 32 := Scalar.addi c0_i32_1393 v1287
  v1288.toNat
def k0_dev53 (d0 : Dev nD) : Nat :=
  let c0_i32_1423 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_1422 : BitVec 32 := 1#32
  let v1320 : BitVec 32 := Scalar.muli v6 c1_i32_1422
  let v1321 : BitVec 32 := Scalar.addi c0_i32_1423 v1320
  v1321.toNat
def k0_dev54 (d0 : Dev nD) : Nat :=
  let c0_i32_1450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_1449 : BitVec 32 := 1#32
  let v1335 : BitVec 32 := Scalar.muli v4 c1_i32_1449
  let v1336 : BitVec 32 := Scalar.addi c0_i32_1450 v1335
  v1336.toNat
def k0_dev55 (d0 : Dev nD) : Nat :=
  let c0_i32_1496 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_1495 : BitVec 32 := 1#32
  let v1395 : BitVec 32 := Scalar.muli v4 c1_i32_1495
  let v1396 : BitVec 32 := Scalar.addi c0_i32_1496 v1395
  v1396.toNat
def k0_dev56 (d0 : Dev nD) : Nat :=
  let c0_i32_1523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_1522 : BitVec 32 := 1#32
  let v1410 : BitVec 32 := Scalar.muli v6 c1_i32_1522
  let v1411 : BitVec 32 := Scalar.addi c0_i32_1523 v1410
  v1411.toNat
def k0_dev57 (d0 : Dev nD) : Nat :=
  let c0_i32_1553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_1552 : BitVec 32 := 1#32
  let v1443 : BitVec 32 := Scalar.muli v4 c1_i32_1552
  let v1444 : BitVec 32 := Scalar.addi c0_i32_1553 v1443
  v1444.toNat
def k0_dev58 (d0 : Dev nD) : Nat :=
  let c0_i32_1580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_1579 : BitVec 32 := 1#32
  let v1458 : BitVec 32 := Scalar.muli v6 c1_i32_1579
  let v1459 : BitVec 32 := Scalar.addi c0_i32_1580 v1458
  v1459.toNat
def k0_dev59 (d0 : Dev nD) : Nat :=
  let c0_i32_1609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_1608 : BitVec 32 := 1#32
  let v1491 : BitVec 32 := Scalar.muli v6 c1_i32_1608
  let v1492 : BitVec 32 := Scalar.addi c0_i32_1609 v1491
  v1492.toNat
def k0_dev60 (d0 : Dev nD) : Nat :=
  let c0_i32_1636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_1635 : BitVec 32 := 1#32
  let v1506 : BitVec 32 := Scalar.muli v4 c1_i32_1635
  let v1507 : BitVec 32 := Scalar.addi c0_i32_1636 v1506
  v1507.toNat
def k0_dev61 (d0 : Dev nD) : Nat :=
  let c0_i32_1666 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_1665 : BitVec 32 := 1#32
  let v1539 : BitVec 32 := Scalar.muli v6 c1_i32_1665
  let v1540 : BitVec 32 := Scalar.addi c0_i32_1666 v1539
  v1540.toNat
def k0_dev62 (d0 : Dev nD) : Nat :=
  let c0_i32_1693 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_1692 : BitVec 32 := 1#32
  let v1554 : BitVec 32 := Scalar.muli v4 c1_i32_1692
  let v1555 : BitVec 32 := Scalar.addi c0_i32_1693 v1554
  v1555.toNat
def k0_dev63 (d0 : Dev nD) : Nat :=
  let c0_i32_1730 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_1729 : BitVec 32 := 1#32
  let v1600 : BitVec 32 := Scalar.muli v4 c1_i32_1729
  let v1601 : BitVec 32 := Scalar.addi c0_i32_1730 v1600
  v1601.toNat
def k0_dev64 (d0 : Dev nD) : Nat :=
  let c0_i32_1757 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_1756 : BitVec 32 := 1#32
  let v1615 : BitVec 32 := Scalar.muli v6 c1_i32_1756
  let v1616 : BitVec 32 := Scalar.addi c0_i32_1757 v1615
  v1616.toNat
def k0_dev65 (d0 : Dev nD) : Nat :=
  let c0_i32_1787 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_1786 : BitVec 32 := 1#32
  let v1648 : BitVec 32 := Scalar.muli v4 c1_i32_1786
  let v1649 : BitVec 32 := Scalar.addi c0_i32_1787 v1648
  v1649.toNat
def k0_dev66 (d0 : Dev nD) : Nat :=
  let c0_i32_1814 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_1813 : BitVec 32 := 1#32
  let v1663 : BitVec 32 := Scalar.muli v6 c1_i32_1813
  let v1664 : BitVec 32 := Scalar.addi c0_i32_1814 v1663
  v1664.toNat
def k0_dev67 (d0 : Dev nD) : Nat :=
  let c0_i32_1844 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_1843 : BitVec 32 := 1#32
  let v1696 : BitVec 32 := Scalar.muli v6 c1_i32_1843
  let v1697 : BitVec 32 := Scalar.addi c0_i32_1844 v1696
  v1697.toNat
def k0_dev68 (d0 : Dev nD) : Nat :=
  let c0_i32_1871 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_1870 : BitVec 32 := 1#32
  let v1711 : BitVec 32 := Scalar.muli v4 c1_i32_1870
  let v1712 : BitVec 32 := Scalar.addi c0_i32_1871 v1711
  v1712.toNat
def k0_dev69 (d0 : Dev nD) : Nat :=
  let c0_i32_1901 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_1900 : BitVec 32 := 1#32
  let v1744 : BitVec 32 := Scalar.muli v6 c1_i32_1900
  let v1745 : BitVec 32 := Scalar.addi c0_i32_1901 v1744
  v1745.toNat
def k0_dev70 (d0 : Dev nD) : Nat :=
  let c0_i32_1928 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_1927 : BitVec 32 := 1#32
  let v1759 : BitVec 32 := Scalar.muli v4 c1_i32_1927
  let v1760 : BitVec 32 := Scalar.addi c0_i32_1928 v1759
  v1760.toNat
def k0_dev71 (d0 : Dev nD) : Nat :=
  let c0_i32_1958 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_1957 : BitVec 32 := 1#32
  let v1792 : BitVec 32 := Scalar.muli v4 c1_i32_1957
  let v1793 : BitVec 32 := Scalar.addi c0_i32_1958 v1792
  v1793.toNat
def k0_dev72 (d0 : Dev nD) : Nat :=
  let c0_i32_1985 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_1984 : BitVec 32 := 1#32
  let v1807 : BitVec 32 := Scalar.muli v6 c1_i32_1984
  let v1808 : BitVec 32 := Scalar.addi c0_i32_1985 v1807
  v1808.toNat
def k0_dev73 (d0 : Dev nD) : Nat :=
  let c0_i32_2015 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_2014 : BitVec 32 := 1#32
  let v1840 : BitVec 32 := Scalar.muli v4 c1_i32_2014
  let v1841 : BitVec 32 := Scalar.addi c0_i32_2015 v1840
  v1841.toNat
def k0_dev74 (d0 : Dev nD) : Nat :=
  let c0_i32_2042 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_2041 : BitVec 32 := 1#32
  let v1855 : BitVec 32 := Scalar.muli v6 c1_i32_2041
  let v1856 : BitVec 32 := Scalar.addi c0_i32_2042 v1855
  v1856.toNat
def k0_dev75 (d0 : Dev nD) : Nat :=
  let c0_i32_2072 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_2071 : BitVec 32 := 1#32
  let v1888 : BitVec 32 := Scalar.muli v6 c1_i32_2071
  let v1889 : BitVec 32 := Scalar.addi c0_i32_2072 v1888
  v1889.toNat
def k0_dev76 (d0 : Dev nD) : Nat :=
  let c0_i32_2099 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_2098 : BitVec 32 := 1#32
  let v1903 : BitVec 32 := Scalar.muli v4 c1_i32_2098
  let v1904 : BitVec 32 := Scalar.addi c0_i32_2099 v1903
  v1904.toNat
def k0_dev77 (d0 : Dev nD) : Nat :=
  let c0_i32_2129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_2128 : BitVec 32 := 1#32
  let v1936 : BitVec 32 := Scalar.muli v6 c1_i32_2128
  let v1937 : BitVec 32 := Scalar.addi c0_i32_2129 v1936
  v1937.toNat
def k0_dev78 (d0 : Dev nD) : Nat :=
  let c0_i32_2156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_2155 : BitVec 32 := 1#32
  let v1951 : BitVec 32 := Scalar.muli v4 c1_i32_2155
  let v1952 : BitVec 32 := Scalar.addi c0_i32_2156 v1951
  v1952.toNat
def k0_dev79 (d0 : Dev nD) : Nat :=
  let c0_i32_2186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_2185 : BitVec 32 := 1#32
  let v1984 : BitVec 32 := Scalar.muli v4 c1_i32_2185
  let v1985 : BitVec 32 := Scalar.addi c0_i32_2186 v1984
  v1985.toNat
def k0_dev80 (d0 : Dev nD) : Nat :=
  let c0_i32_2213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_2212 : BitVec 32 := 1#32
  let v1999 : BitVec 32 := Scalar.muli v6 c1_i32_2212
  let v2000 : BitVec 32 := Scalar.addi c0_i32_2213 v1999
  v2000.toNat
def k0_dev81 (d0 : Dev nD) : Nat :=
  let c0_i32_2243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_2242 : BitVec 32 := 1#32
  let v2032 : BitVec 32 := Scalar.muli v4 c1_i32_2242
  let v2033 : BitVec 32 := Scalar.addi c0_i32_2243 v2032
  v2033.toNat
def k0_dev82 (d0 : Dev nD) : Nat :=
  let c0_i32_2270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_2269 : BitVec 32 := 1#32
  let v2047 : BitVec 32 := Scalar.muli v6 c1_i32_2269
  let v2048 : BitVec 32 := Scalar.addi c0_i32_2270 v2047
  v2048.toNat
def k0_dev83 (d0 : Dev nD) : Nat :=
  let c0_i32_2300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_2299 : BitVec 32 := 1#32
  let v2080 : BitVec 32 := Scalar.muli v6 c1_i32_2299
  let v2081 : BitVec 32 := Scalar.addi c0_i32_2300 v2080
  v2081.toNat
def k0_dev84 (d0 : Dev nD) : Nat :=
  let c0_i32_2327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_2326 : BitVec 32 := 1#32
  let v2095 : BitVec 32 := Scalar.muli v4 c1_i32_2326
  let v2096 : BitVec 32 := Scalar.addi c0_i32_2327 v2095
  v2096.toNat
def k0_dev85 (d0 : Dev nD) : Nat :=
  let c0_i32_2357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_2356 : BitVec 32 := 1#32
  let v2128 : BitVec 32 := Scalar.muli v6 c1_i32_2356
  let v2129 : BitVec 32 := Scalar.addi c0_i32_2357 v2128
  v2129.toNat
def k0_dev86 (d0 : Dev nD) : Nat :=
  let c0_i32_2384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_2383 : BitVec 32 := 1#32
  let v2143 : BitVec 32 := Scalar.muli v4 c1_i32_2383
  let v2144 : BitVec 32 := Scalar.addi c0_i32_2384 v2143
  v2144.toNat
def k0_dev87 (d0 : Dev nD) : Nat :=
  let c0_i32_2414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_2413 : BitVec 32 := 1#32
  let v2176 : BitVec 32 := Scalar.muli v4 c1_i32_2413
  let v2177 : BitVec 32 := Scalar.addi c0_i32_2414 v2176
  v2177.toNat
def k0_dev88 (d0 : Dev nD) : Nat :=
  let c0_i32_2441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_2440 : BitVec 32 := 1#32
  let v2191 : BitVec 32 := Scalar.muli v6 c1_i32_2440
  let v2192 : BitVec 32 := Scalar.addi c0_i32_2441 v2191
  v2192.toNat
def k0_dev89 (d0 : Dev nD) : Nat :=
  let c0_i32_2471 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_2470 : BitVec 32 := 1#32
  let v2224 : BitVec 32 := Scalar.muli v4 c1_i32_2470
  let v2225 : BitVec 32 := Scalar.addi c0_i32_2471 v2224
  v2225.toNat
def k0_dev90 (d0 : Dev nD) : Nat :=
  let c0_i32_2498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_2497 : BitVec 32 := 1#32
  let v2239 : BitVec 32 := Scalar.muli v6 c1_i32_2497
  let v2240 : BitVec 32 := Scalar.addi c0_i32_2498 v2239
  v2240.toNat
def k0_dev91 (d0 : Dev nD) : Nat :=
  let c0_i32_2528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_2527 : BitVec 32 := 1#32
  let v2272 : BitVec 32 := Scalar.muli v6 c1_i32_2527
  let v2273 : BitVec 32 := Scalar.addi c0_i32_2528 v2272
  v2273.toNat
def k0_dev92 (d0 : Dev nD) : Nat :=
  let c0_i32_2555 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_2554 : BitVec 32 := 1#32
  let v2287 : BitVec 32 := Scalar.muli v4 c1_i32_2554
  let v2288 : BitVec 32 := Scalar.addi c0_i32_2555 v2287
  v2288.toNat
def k0_dev93 (d0 : Dev nD) : Nat :=
  let c0_i32_2585 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_2584 : BitVec 32 := 1#32
  let v2320 : BitVec 32 := Scalar.muli v6 c1_i32_2584
  let v2321 : BitVec 32 := Scalar.addi c0_i32_2585 v2320
  v2321.toNat
def k0_dev94 (d0 : Dev nD) : Nat :=
  let c0_i32_2612 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_2611 : BitVec 32 := 1#32
  let v2335 : BitVec 32 := Scalar.muli v4 c1_i32_2611
  let v2336 : BitVec 32 := Scalar.addi c0_i32_2612 v2335
  v2336.toNat
def k0_dev95 (d0 : Dev nD) : Nat :=
  let c0_i32_2642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_2641 : BitVec 32 := 1#32
  let v2368 : BitVec 32 := Scalar.muli v4 c1_i32_2641
  let v2369 : BitVec 32 := Scalar.addi c0_i32_2642 v2368
  v2369.toNat
def k0_dev96 (d0 : Dev nD) : Nat :=
  let c0_i32_2669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_2668 : BitVec 32 := 1#32
  let v2383 : BitVec 32 := Scalar.muli v6 c1_i32_2668
  let v2384 : BitVec 32 := Scalar.addi c0_i32_2669 v2383
  v2384.toNat
def k0_dev97 (d0 : Dev nD) : Nat :=
  let c0_i32_2699 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_2698 : BitVec 32 := 1#32
  let v2416 : BitVec 32 := Scalar.muli v4 c1_i32_2698
  let v2417 : BitVec 32 := Scalar.addi c0_i32_2699 v2416
  v2417.toNat
def k0_dev98 (d0 : Dev nD) : Nat :=
  let c0_i32_2726 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_2725 : BitVec 32 := 1#32
  let v2431 : BitVec 32 := Scalar.muli v6 c1_i32_2725
  let v2432 : BitVec 32 := Scalar.addi c0_i32_2726 v2431
  v2432.toNat
def k0_dev99 (d0 : Dev nD) : Nat :=
  let c0_i32_2756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_2755 : BitVec 32 := 1#32
  let v2464 : BitVec 32 := Scalar.muli v6 c1_i32_2755
  let v2465 : BitVec 32 := Scalar.addi c0_i32_2756 v2464
  v2465.toNat
def k0_dev100 (d0 : Dev nD) : Nat :=
  let c0_i32_2783 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_2782 : BitVec 32 := 1#32
  let v2479 : BitVec 32 := Scalar.muli v4 c1_i32_2782
  let v2480 : BitVec 32 := Scalar.addi c0_i32_2783 v2479
  v2480.toNat
def k0_dev101 (d0 : Dev nD) : Nat :=
  let c0_i32_2813 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_2812 : BitVec 32 := 1#32
  let v2512 : BitVec 32 := Scalar.muli v6 c1_i32_2812
  let v2513 : BitVec 32 := Scalar.addi c0_i32_2813 v2512
  v2513.toNat
def k0_dev102 (d0 : Dev nD) : Nat :=
  let c0_i32_2840 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_2839 : BitVec 32 := 1#32
  let v2527 : BitVec 32 := Scalar.muli v4 c1_i32_2839
  let v2528 : BitVec 32 := Scalar.addi c0_i32_2840 v2527
  v2528.toNat
def k0_dev103 (d0 : Dev nD) : Nat :=
  let c0_i32_2870 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_2869 : BitVec 32 := 1#32
  let v2560 : BitVec 32 := Scalar.muli v4 c1_i32_2869
  let v2561 : BitVec 32 := Scalar.addi c0_i32_2870 v2560
  v2561.toNat
def k0_dev104 (d0 : Dev nD) : Nat :=
  let c0_i32_2897 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_2896 : BitVec 32 := 1#32
  let v2575 : BitVec 32 := Scalar.muli v6 c1_i32_2896
  let v2576 : BitVec 32 := Scalar.addi c0_i32_2897 v2575
  v2576.toNat
def k0_dev105 (d0 : Dev nD) : Nat :=
  let c0_i32_2927 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_2926 : BitVec 32 := 1#32
  let v2608 : BitVec 32 := Scalar.muli v4 c1_i32_2926
  let v2609 : BitVec 32 := Scalar.addi c0_i32_2927 v2608
  v2609.toNat
def k0_dev106 (d0 : Dev nD) : Nat :=
  let c0_i32_2954 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_2953 : BitVec 32 := 1#32
  let v2623 : BitVec 32 := Scalar.muli v6 c1_i32_2953
  let v2624 : BitVec 32 := Scalar.addi c0_i32_2954 v2623
  v2624.toNat
def k0_dev107 (d0 : Dev nD) : Nat :=
  let c0_i32_2984 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_2983 : BitVec 32 := 1#32
  let v2656 : BitVec 32 := Scalar.muli v6 c1_i32_2983
  let v2657 : BitVec 32 := Scalar.addi c0_i32_2984 v2656
  v2657.toNat
def k0_dev108 (d0 : Dev nD) : Nat :=
  let c0_i32_3011 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_3010 : BitVec 32 := 1#32
  let v2671 : BitVec 32 := Scalar.muli v4 c1_i32_3010
  let v2672 : BitVec 32 := Scalar.addi c0_i32_3011 v2671
  v2672.toNat
def k0_dev109 (d0 : Dev nD) : Nat :=
  let c0_i32_3041 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_3040 : BitVec 32 := 1#32
  let v2704 : BitVec 32 := Scalar.muli v6 c1_i32_3040
  let v2705 : BitVec 32 := Scalar.addi c0_i32_3041 v2704
  v2705.toNat
def k0_dev110 (d0 : Dev nD) : Nat :=
  let c0_i32_3068 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_3067 : BitVec 32 := 1#32
  let v2719 : BitVec 32 := Scalar.muli v4 c1_i32_3067
  let v2720 : BitVec 32 := Scalar.addi c0_i32_3068 v2719
  v2720.toNat
def k0_dev111 (d0 : Dev nD) : Nat :=
  let c0_i32_3121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_3120 : BitVec 32 := 1#32
  let v2763 : BitVec 32 := Scalar.muli v6 c1_i32_3120
  let v2764 : BitVec 32 := Scalar.addi c0_i32_3121 v2763
  v2764.toNat
def k0_dev112 (d0 : Dev nD) : Nat :=
  let c0_i32_3174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_3173 : BitVec 32 := 1#32
  let v2807 : BitVec 32 := Scalar.muli v6 c1_i32_3173
  let v2808 : BitVec 32 := Scalar.addi c0_i32_3174 v2807
  v2808.toNat
def k0_dev113 (d0 : Dev nD) : Nat :=
  let c0_i32_3227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_3226 : BitVec 32 := 1#32
  let v2851 : BitVec 32 := Scalar.muli v4 c1_i32_3226
  let v2852 : BitVec 32 := Scalar.addi c0_i32_3227 v2851
  v2852.toNat
def k0_dev114 (d0 : Dev nD) : Nat :=
  let c0_i32_3280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_3279 : BitVec 32 := 1#32
  let v2895 : BitVec 32 := Scalar.muli v4 c1_i32_3279
  let v2896 : BitVec 32 := Scalar.addi c0_i32_3280 v2895
  v2896.toNat
def k0_dev115 (d0 : Dev nD) : Nat :=
  let c0_i32_3523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_3522 : BitVec 32 := 1#32
  let v3119 : BitVec 32 := Scalar.muli v6 c1_i32_3522
  let v3120 : BitVec 32 := Scalar.addi c0_i32_3523 v3119
  v3120.toNat
def k0_dev116 (d0 : Dev nD) : Nat :=
  let c0_i32_3534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_3533 : BitVec 32 := 1#32
  let v3130 : BitVec 32 := Scalar.muli v6 c1_i32_3533
  let v3131 : BitVec 32 := Scalar.addi c0_i32_3534 v3130
  v3131.toNat
def k0_dev117 (d0 : Dev nD) : Nat :=
  let c0_i32_3545 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_3544 : BitVec 32 := 1#32
  let v3141 : BitVec 32 := Scalar.muli v4 c1_i32_3544
  let v3142 : BitVec 32 := Scalar.addi c0_i32_3545 v3141
  v3142.toNat
def k0_dev118 (d0 : Dev nD) : Nat :=
  let c0_i32_3556 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_3555 : BitVec 32 := 1#32
  let v3152 : BitVec 32 := Scalar.muli v4 c1_i32_3555
  let v3153 : BitVec 32 := Scalar.addi c0_i32_3556 v3152
  v3153.toNat
def k0_dev119 (d0 : Dev nD) : Nat :=
  let c0_i32_3580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_3579 : BitVec 32 := 1#32
  let v3178 : BitVec 32 := Scalar.muli v4 c1_i32_3579
  let v3179 : BitVec 32 := Scalar.addi c0_i32_3580 v3178
  v3179.toNat
def k0_dev120 (d0 : Dev nD) : Nat :=
  let c0_i32_3589 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_3588 : BitVec 32 := 1#32
  let v3183 : BitVec 32 := Scalar.muli v6 c1_i32_3588
  let v3184 : BitVec 32 := Scalar.addi c0_i32_3589 v3183
  v3184.toNat
def k0_dev121 (d0 : Dev nD) : Nat :=
  let c0_i32_3613 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_3612 : BitVec 32 := 1#32
  let v3209 : BitVec 32 := Scalar.muli v4 c1_i32_3612
  let v3210 : BitVec 32 := Scalar.addi c0_i32_3613 v3209
  v3210.toNat
def k0_dev122 (d0 : Dev nD) : Nat :=
  let c0_i32_3622 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_3621 : BitVec 32 := 1#32
  let v3214 : BitVec 32 := Scalar.muli v6 c1_i32_3621
  let v3215 : BitVec 32 := Scalar.addi c0_i32_3622 v3214
  v3215.toNat
def k0_dev123 (d0 : Dev nD) : Nat :=
  let c0_i32_3646 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_3645 : BitVec 32 := 1#32
  let v3240 : BitVec 32 := Scalar.muli v6 c1_i32_3645
  let v3241 : BitVec 32 := Scalar.addi c0_i32_3646 v3240
  v3241.toNat
def k0_dev124 (d0 : Dev nD) : Nat :=
  let c0_i32_3655 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_3654 : BitVec 32 := 1#32
  let v3245 : BitVec 32 := Scalar.muli v4 c1_i32_3654
  let v3246 : BitVec 32 := Scalar.addi c0_i32_3655 v3245
  v3246.toNat
def k0_dev125 (d0 : Dev nD) : Nat :=
  let c0_i32_3679 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_3678 : BitVec 32 := 1#32
  let v3271 : BitVec 32 := Scalar.muli v6 c1_i32_3678
  let v3272 : BitVec 32 := Scalar.addi c0_i32_3679 v3271
  v3272.toNat
def k0_dev126 (d0 : Dev nD) : Nat :=
  let c0_i32_3688 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_3687 : BitVec 32 := 1#32
  let v3276 : BitVec 32 := Scalar.muli v4 c1_i32_3687
  let v3277 : BitVec 32 := Scalar.addi c0_i32_3688 v3276
  v3277.toNat
def k0_dev127 (d0 : Dev nD) : Nat :=
  let c0_i32_3712 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_3711 : BitVec 32 := 1#32
  let v3302 : BitVec 32 := Scalar.muli v4 c1_i32_3711
  let v3303 : BitVec 32 := Scalar.addi c0_i32_3712 v3302
  v3303.toNat
def k0_dev128 (d0 : Dev nD) : Nat :=
  let c0_i32_3734 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_3733 : BitVec 32 := 1#32
  let v3316 : BitVec 32 := Scalar.muli v6 c1_i32_3733
  let v3317 : BitVec 32 := Scalar.addi c0_i32_3734 v3316
  v3317.toNat
def k0_dev129 (d0 : Dev nD) : Nat :=
  let c0_i32_3758 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_3757 : BitVec 32 := 1#32
  let v3342 : BitVec 32 := Scalar.muli v4 c1_i32_3757
  let v3343 : BitVec 32 := Scalar.addi c0_i32_3758 v3342
  v3343.toNat
def k0_dev130 (d0 : Dev nD) : Nat :=
  let c0_i32_3780 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_3779 : BitVec 32 := 1#32
  let v3356 : BitVec 32 := Scalar.muli v6 c1_i32_3779
  let v3357 : BitVec 32 := Scalar.addi c0_i32_3780 v3356
  v3357.toNat
def k0_dev131 (d0 : Dev nD) : Nat :=
  let c0_i32_3804 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_3803 : BitVec 32 := 1#32
  let v3382 : BitVec 32 := Scalar.muli v6 c1_i32_3803
  let v3383 : BitVec 32 := Scalar.addi c0_i32_3804 v3382
  v3383.toNat
def k0_dev132 (d0 : Dev nD) : Nat :=
  let c0_i32_3826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_3825 : BitVec 32 := 1#32
  let v3396 : BitVec 32 := Scalar.muli v4 c1_i32_3825
  let v3397 : BitVec 32 := Scalar.addi c0_i32_3826 v3396
  v3397.toNat
def k0_dev133 (d0 : Dev nD) : Nat :=
  let c0_i32_3850 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_3849 : BitVec 32 := 1#32
  let v3422 : BitVec 32 := Scalar.muli v6 c1_i32_3849
  let v3423 : BitVec 32 := Scalar.addi c0_i32_3850 v3422
  v3423.toNat
def k0_dev134 (d0 : Dev nD) : Nat :=
  let c0_i32_3872 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_3871 : BitVec 32 := 1#32
  let v3436 : BitVec 32 := Scalar.muli v4 c1_i32_3871
  let v3437 : BitVec 32 := Scalar.addi c0_i32_3872 v3436
  v3437.toNat
def k0_dev135 (d0 : Dev nD) : Nat :=
  let c0_i32_3903 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_3902 : BitVec 32 := 1#32
  let v3469 : BitVec 32 := Scalar.muli v4 c1_i32_3902
  let v3470 : BitVec 32 := Scalar.addi c0_i32_3903 v3469
  v3470.toNat
def k0_dev136 (d0 : Dev nD) : Nat :=
  let c0_i32_3925 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_3924 : BitVec 32 := 1#32
  let v3483 : BitVec 32 := Scalar.muli v6 c1_i32_3924
  let v3484 : BitVec 32 := Scalar.addi c0_i32_3925 v3483
  v3484.toNat
def k0_dev137 (d0 : Dev nD) : Nat :=
  let c0_i32_3956 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_3955 : BitVec 32 := 1#32
  let v3516 : BitVec 32 := Scalar.muli v4 c1_i32_3955
  let v3517 : BitVec 32 := Scalar.addi c0_i32_3956 v3516
  v3517.toNat
def k0_dev138 (d0 : Dev nD) : Nat :=
  let c0_i32_3978 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_3977 : BitVec 32 := 1#32
  let v3530 : BitVec 32 := Scalar.muli v6 c1_i32_3977
  let v3531 : BitVec 32 := Scalar.addi c0_i32_3978 v3530
  v3531.toNat
def k0_dev139 (d0 : Dev nD) : Nat :=
  let c0_i32_4009 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_4008 : BitVec 32 := 1#32
  let v3563 : BitVec 32 := Scalar.muli v6 c1_i32_4008
  let v3564 : BitVec 32 := Scalar.addi c0_i32_4009 v3563
  v3564.toNat
def k0_dev140 (d0 : Dev nD) : Nat :=
  let c0_i32_4030 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_4029 : BitVec 32 := 1#32
  let v3577 : BitVec 32 := Scalar.muli v4 c1_i32_4029
  let v3578 : BitVec 32 := Scalar.addi c0_i32_4030 v3577
  v3578.toNat
def k0_dev141 (d0 : Dev nD) : Nat :=
  let c0_i32_4061 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_4060 : BitVec 32 := 1#32
  let v3610 : BitVec 32 := Scalar.muli v6 c1_i32_4060
  let v3611 : BitVec 32 := Scalar.addi c0_i32_4061 v3610
  v3611.toNat
def k0_dev142 (d0 : Dev nD) : Nat :=
  let c0_i32_4083 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_4082 : BitVec 32 := 1#32
  let v3624 : BitVec 32 := Scalar.muli v4 c1_i32_4082
  let v3625 : BitVec 32 := Scalar.addi c0_i32_4083 v3624
  v3625.toNat
def k0_dev143 (d0 : Dev nD) : Nat :=
  let c0_i32_4114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_4113 : BitVec 32 := 1#32
  let v3657 : BitVec 32 := Scalar.muli v4 c1_i32_4113
  let v3658 : BitVec 32 := Scalar.addi c0_i32_4114 v3657
  v3658.toNat
def k0_dev144 (d0 : Dev nD) : Nat :=
  let c0_i32_4136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_4135 : BitVec 32 := 1#32
  let v3671 : BitVec 32 := Scalar.muli v6 c1_i32_4135
  let v3672 : BitVec 32 := Scalar.addi c0_i32_4136 v3671
  v3672.toNat
def k0_dev145 (d0 : Dev nD) : Nat :=
  let c0_i32_4167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_4166 : BitVec 32 := 1#32
  let v3704 : BitVec 32 := Scalar.muli v4 c1_i32_4166
  let v3705 : BitVec 32 := Scalar.addi c0_i32_4167 v3704
  v3705.toNat
def k0_dev146 (d0 : Dev nD) : Nat :=
  let c0_i32_4189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_4188 : BitVec 32 := 1#32
  let v3718 : BitVec 32 := Scalar.muli v6 c1_i32_4188
  let v3719 : BitVec 32 := Scalar.addi c0_i32_4189 v3718
  v3719.toNat
def k0_dev147 (d0 : Dev nD) : Nat :=
  let c0_i32_4220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_4219 : BitVec 32 := 1#32
  let v3751 : BitVec 32 := Scalar.muli v6 c1_i32_4219
  let v3752 : BitVec 32 := Scalar.addi c0_i32_4220 v3751
  v3752.toNat
def k0_dev148 (d0 : Dev nD) : Nat :=
  let c0_i32_4241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_4240 : BitVec 32 := 1#32
  let v3765 : BitVec 32 := Scalar.muli v4 c1_i32_4240
  let v3766 : BitVec 32 := Scalar.addi c0_i32_4241 v3765
  v3766.toNat
def k0_dev149 (d0 : Dev nD) : Nat :=
  let c0_i32_4272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_4271 : BitVec 32 := 1#32
  let v3798 : BitVec 32 := Scalar.muli v6 c1_i32_4271
  let v3799 : BitVec 32 := Scalar.addi c0_i32_4272 v3798
  v3799.toNat
def k0_dev150 (d0 : Dev nD) : Nat :=
  let c0_i32_4294 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_4293 : BitVec 32 := 1#32
  let v3812 : BitVec 32 := Scalar.muli v4 c1_i32_4293
  let v3813 : BitVec 32 := Scalar.addi c0_i32_4294 v3812
  v3813.toNat
def k0_dev151 (d0 : Dev nD) : Nat :=
  let c0_i32_4325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_4324 : BitVec 32 := 1#32
  let v3845 : BitVec 32 := Scalar.muli v4 c1_i32_4324
  let v3846 : BitVec 32 := Scalar.addi c0_i32_4325 v3845
  v3846.toNat
def k0_dev152 (d0 : Dev nD) : Nat :=
  let c0_i32_4347 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_4346 : BitVec 32 := 1#32
  let v3859 : BitVec 32 := Scalar.muli v6 c1_i32_4346
  let v3860 : BitVec 32 := Scalar.addi c0_i32_4347 v3859
  v3860.toNat
def k0_dev153 (d0 : Dev nD) : Nat :=
  let c0_i32_4378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_4377 : BitVec 32 := 1#32
  let v3892 : BitVec 32 := Scalar.muli v4 c1_i32_4377
  let v3893 : BitVec 32 := Scalar.addi c0_i32_4378 v3892
  v3893.toNat
def k0_dev154 (d0 : Dev nD) : Nat :=
  let c0_i32_4400 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_4399 : BitVec 32 := 1#32
  let v3906 : BitVec 32 := Scalar.muli v6 c1_i32_4399
  let v3907 : BitVec 32 := Scalar.addi c0_i32_4400 v3906
  v3907.toNat
def k0_dev155 (d0 : Dev nD) : Nat :=
  let c0_i32_4431 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_4430 : BitVec 32 := 1#32
  let v3939 : BitVec 32 := Scalar.muli v6 c1_i32_4430
  let v3940 : BitVec 32 := Scalar.addi c0_i32_4431 v3939
  v3940.toNat
def k0_dev156 (d0 : Dev nD) : Nat :=
  let c0_i32_4452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_4451 : BitVec 32 := 1#32
  let v3953 : BitVec 32 := Scalar.muli v4 c1_i32_4451
  let v3954 : BitVec 32 := Scalar.addi c0_i32_4452 v3953
  v3954.toNat
def k0_dev157 (d0 : Dev nD) : Nat :=
  let c0_i32_4483 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_4482 : BitVec 32 := 1#32
  let v3986 : BitVec 32 := Scalar.muli v6 c1_i32_4482
  let v3987 : BitVec 32 := Scalar.addi c0_i32_4483 v3986
  v3987.toNat
def k0_dev158 (d0 : Dev nD) : Nat :=
  let c0_i32_4505 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_4504 : BitVec 32 := 1#32
  let v4000 : BitVec 32 := Scalar.muli v4 c1_i32_4504
  let v4001 : BitVec 32 := Scalar.addi c0_i32_4505 v4000
  v4001.toNat
def k0_dev159 (d0 : Dev nD) : Nat :=
  let c0_i32_4536 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_4535 : BitVec 32 := 1#32
  let v4033 : BitVec 32 := Scalar.muli v4 c1_i32_4535
  let v4034 : BitVec 32 := Scalar.addi c0_i32_4536 v4033
  v4034.toNat
def k0_dev160 (d0 : Dev nD) : Nat :=
  let c0_i32_4558 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_4557 : BitVec 32 := 1#32
  let v4047 : BitVec 32 := Scalar.muli v6 c1_i32_4557
  let v4048 : BitVec 32 := Scalar.addi c0_i32_4558 v4047
  v4048.toNat
def k0_dev161 (d0 : Dev nD) : Nat :=
  let c0_i32_4589 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_4588 : BitVec 32 := 1#32
  let v4080 : BitVec 32 := Scalar.muli v4 c1_i32_4588
  let v4081 : BitVec 32 := Scalar.addi c0_i32_4589 v4080
  v4081.toNat
def k0_dev162 (d0 : Dev nD) : Nat :=
  let c0_i32_4611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_4610 : BitVec 32 := 1#32
  let v4094 : BitVec 32 := Scalar.muli v6 c1_i32_4610
  let v4095 : BitVec 32 := Scalar.addi c0_i32_4611 v4094
  v4095.toNat
def k0_dev163 (d0 : Dev nD) : Nat :=
  let c0_i32_4642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_4641 : BitVec 32 := 1#32
  let v4127 : BitVec 32 := Scalar.muli v6 c1_i32_4641
  let v4128 : BitVec 32 := Scalar.addi c0_i32_4642 v4127
  v4128.toNat
def k0_dev164 (d0 : Dev nD) : Nat :=
  let c0_i32_4663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_4662 : BitVec 32 := 1#32
  let v4141 : BitVec 32 := Scalar.muli v4 c1_i32_4662
  let v4142 : BitVec 32 := Scalar.addi c0_i32_4663 v4141
  v4142.toNat
def k0_dev165 (d0 : Dev nD) : Nat :=
  let c0_i32_4694 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_4693 : BitVec 32 := 1#32
  let v4174 : BitVec 32 := Scalar.muli v6 c1_i32_4693
  let v4175 : BitVec 32 := Scalar.addi c0_i32_4694 v4174
  v4175.toNat
def k0_dev166 (d0 : Dev nD) : Nat :=
  let c0_i32_4716 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_4715 : BitVec 32 := 1#32
  let v4188 : BitVec 32 := Scalar.muli v4 c1_i32_4715
  let v4189 : BitVec 32 := Scalar.addi c0_i32_4716 v4188
  v4189.toNat
def k0_dev167 (d0 : Dev nD) : Nat :=
  let c0_i32_4747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_4746 : BitVec 32 := 1#32
  let v4221 : BitVec 32 := Scalar.muli v4 c1_i32_4746
  let v4222 : BitVec 32 := Scalar.addi c0_i32_4747 v4221
  v4222.toNat
def k0_dev168 (d0 : Dev nD) : Nat :=
  let c0_i32_4769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_4768 : BitVec 32 := 1#32
  let v4235 : BitVec 32 := Scalar.muli v6 c1_i32_4768
  let v4236 : BitVec 32 := Scalar.addi c0_i32_4769 v4235
  v4236.toNat
def k0_dev169 (d0 : Dev nD) : Nat :=
  let c0_i32_4800 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_4799 : BitVec 32 := 1#32
  let v4268 : BitVec 32 := Scalar.muli v4 c1_i32_4799
  let v4269 : BitVec 32 := Scalar.addi c0_i32_4800 v4268
  v4269.toNat
def k0_dev170 (d0 : Dev nD) : Nat :=
  let c0_i32_4822 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_4821 : BitVec 32 := 1#32
  let v4282 : BitVec 32 := Scalar.muli v6 c1_i32_4821
  let v4283 : BitVec 32 := Scalar.addi c0_i32_4822 v4282
  v4283.toNat
def k0_dev171 (d0 : Dev nD) : Nat :=
  let c0_i32_4853 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_4852 : BitVec 32 := 1#32
  let v4315 : BitVec 32 := Scalar.muli v6 c1_i32_4852
  let v4316 : BitVec 32 := Scalar.addi c0_i32_4853 v4315
  v4316.toNat
def k0_dev172 (d0 : Dev nD) : Nat :=
  let c0_i32_4874 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_4873 : BitVec 32 := 1#32
  let v4329 : BitVec 32 := Scalar.muli v4 c1_i32_4873
  let v4330 : BitVec 32 := Scalar.addi c0_i32_4874 v4329
  v4330.toNat
def k0_dev173 (d0 : Dev nD) : Nat :=
  let c0_i32_4905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_4904 : BitVec 32 := 1#32
  let v4362 : BitVec 32 := Scalar.muli v6 c1_i32_4904
  let v4363 : BitVec 32 := Scalar.addi c0_i32_4905 v4362
  v4363.toNat
def k0_dev174 (d0 : Dev nD) : Nat :=
  let c0_i32_4927 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_4926 : BitVec 32 := 1#32
  let v4376 : BitVec 32 := Scalar.muli v4 c1_i32_4926
  let v4377 : BitVec 32 := Scalar.addi c0_i32_4927 v4376
  v4377.toNat
def k0_dev175 (d0 : Dev nD) : Nat :=
  let c0_i32_4958 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_4957 : BitVec 32 := 1#32
  let v4409 : BitVec 32 := Scalar.muli v4 c1_i32_4957
  let v4410 : BitVec 32 := Scalar.addi c0_i32_4958 v4409
  v4410.toNat
def k0_dev176 (d0 : Dev nD) : Nat :=
  let c0_i32_4980 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_4979 : BitVec 32 := 1#32
  let v4423 : BitVec 32 := Scalar.muli v6 c1_i32_4979
  let v4424 : BitVec 32 := Scalar.addi c0_i32_4980 v4423
  v4424.toNat
def k0_dev177 (d0 : Dev nD) : Nat :=
  let c0_i32_5011 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_5010 : BitVec 32 := 1#32
  let v4456 : BitVec 32 := Scalar.muli v4 c1_i32_5010
  let v4457 : BitVec 32 := Scalar.addi c0_i32_5011 v4456
  v4457.toNat
def k0_dev178 (d0 : Dev nD) : Nat :=
  let c0_i32_5033 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_5032 : BitVec 32 := 1#32
  let v4470 : BitVec 32 := Scalar.muli v6 c1_i32_5032
  let v4471 : BitVec 32 := Scalar.addi c0_i32_5033 v4470
  v4471.toNat
def k0_dev179 (d0 : Dev nD) : Nat :=
  let c0_i32_5064 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_5063 : BitVec 32 := 1#32
  let v4503 : BitVec 32 := Scalar.muli v6 c1_i32_5063
  let v4504 : BitVec 32 := Scalar.addi c0_i32_5064 v4503
  v4504.toNat
def k0_dev180 (d0 : Dev nD) : Nat :=
  let c0_i32_5085 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_5084 : BitVec 32 := 1#32
  let v4517 : BitVec 32 := Scalar.muli v4 c1_i32_5084
  let v4518 : BitVec 32 := Scalar.addi c0_i32_5085 v4517
  v4518.toNat
def k0_dev181 (d0 : Dev nD) : Nat :=
  let c0_i32_5116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_5115 : BitVec 32 := 1#32
  let v4550 : BitVec 32 := Scalar.muli v6 c1_i32_5115
  let v4551 : BitVec 32 := Scalar.addi c0_i32_5116 v4550
  v4551.toNat
def k0_dev182 (d0 : Dev nD) : Nat :=
  let c0_i32_5138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_5137 : BitVec 32 := 1#32
  let v4564 : BitVec 32 := Scalar.muli v4 c1_i32_5137
  let v4565 : BitVec 32 := Scalar.addi c0_i32_5138 v4564
  v4565.toNat
def k0_dev183 (d0 : Dev nD) : Nat :=
  let c0_i32_5169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_5168 : BitVec 32 := 1#32
  let v4597 : BitVec 32 := Scalar.muli v4 c1_i32_5168
  let v4598 : BitVec 32 := Scalar.addi c0_i32_5169 v4597
  v4598.toNat
def k0_dev184 (d0 : Dev nD) : Nat :=
  let c0_i32_5191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_5190 : BitVec 32 := 1#32
  let v4611 : BitVec 32 := Scalar.muli v6 c1_i32_5190
  let v4612 : BitVec 32 := Scalar.addi c0_i32_5191 v4611
  v4612.toNat
def k0_dev185 (d0 : Dev nD) : Nat :=
  let c0_i32_5222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_5221 : BitVec 32 := 1#32
  let v4644 : BitVec 32 := Scalar.muli v4 c1_i32_5221
  let v4645 : BitVec 32 := Scalar.addi c0_i32_5222 v4644
  v4645.toNat
def k0_dev186 (d0 : Dev nD) : Nat :=
  let c0_i32_5244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_5243 : BitVec 32 := 1#32
  let v4658 : BitVec 32 := Scalar.muli v6 c1_i32_5243
  let v4659 : BitVec 32 := Scalar.addi c0_i32_5244 v4658
  v4659.toNat
def k0_dev187 (d0 : Dev nD) : Nat :=
  let c0_i32_5275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_5274 : BitVec 32 := 1#32
  let v4691 : BitVec 32 := Scalar.muli v6 c1_i32_5274
  let v4692 : BitVec 32 := Scalar.addi c0_i32_5275 v4691
  v4692.toNat
def k0_dev188 (d0 : Dev nD) : Nat :=
  let c0_i32_5296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_5295 : BitVec 32 := 1#32
  let v4705 : BitVec 32 := Scalar.muli v4 c1_i32_5295
  let v4706 : BitVec 32 := Scalar.addi c0_i32_5296 v4705
  v4706.toNat
def k0_dev189 (d0 : Dev nD) : Nat :=
  let c0_i32_5327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_5326 : BitVec 32 := 1#32
  let v4738 : BitVec 32 := Scalar.muli v6 c1_i32_5326
  let v4739 : BitVec 32 := Scalar.addi c0_i32_5327 v4738
  v4739.toNat
def k0_dev190 (d0 : Dev nD) : Nat :=
  let c0_i32_5349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_5348 : BitVec 32 := 1#32
  let v4752 : BitVec 32 := Scalar.muli v4 c1_i32_5348
  let v4753 : BitVec 32 := Scalar.addi c0_i32_5349 v4752
  v4753.toNat
def k0_dev191 (d0 : Dev nD) : Nat :=
  let c0_i32_5380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_5379 : BitVec 32 := 1#32
  let v4785 : BitVec 32 := Scalar.muli v4 c1_i32_5379
  let v4786 : BitVec 32 := Scalar.addi c0_i32_5380 v4785
  v4786.toNat
def k0_dev192 (d0 : Dev nD) : Nat :=
  let c0_i32_5402 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_5401 : BitVec 32 := 1#32
  let v4799 : BitVec 32 := Scalar.muli v6 c1_i32_5401
  let v4800 : BitVec 32 := Scalar.addi c0_i32_5402 v4799
  v4800.toNat
def k0_dev193 (d0 : Dev nD) : Nat :=
  let c0_i32_5433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_5432 : BitVec 32 := 1#32
  let v4832 : BitVec 32 := Scalar.muli v4 c1_i32_5432
  let v4833 : BitVec 32 := Scalar.addi c0_i32_5433 v4832
  v4833.toNat
def k0_dev194 (d0 : Dev nD) : Nat :=
  let c0_i32_5455 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_5454 : BitVec 32 := 1#32
  let v4846 : BitVec 32 := Scalar.muli v6 c1_i32_5454
  let v4847 : BitVec 32 := Scalar.addi c0_i32_5455 v4846
  v4847.toNat
def k0_dev195 (d0 : Dev nD) : Nat :=
  let c0_i32_5486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_5485 : BitVec 32 := 1#32
  let v4879 : BitVec 32 := Scalar.muli v6 c1_i32_5485
  let v4880 : BitVec 32 := Scalar.addi c0_i32_5486 v4879
  v4880.toNat
def k0_dev196 (d0 : Dev nD) : Nat :=
  let c0_i32_5507 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_5506 : BitVec 32 := 1#32
  let v4893 : BitVec 32 := Scalar.muli v4 c1_i32_5506
  let v4894 : BitVec 32 := Scalar.addi c0_i32_5507 v4893
  v4894.toNat
def k0_dev197 (d0 : Dev nD) : Nat :=
  let c0_i32_5538 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_5537 : BitVec 32 := 1#32
  let v4926 : BitVec 32 := Scalar.muli v6 c1_i32_5537
  let v4927 : BitVec 32 := Scalar.addi c0_i32_5538 v4926
  v4927.toNat
def k0_dev198 (d0 : Dev nD) : Nat :=
  let c0_i32_5560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_5559 : BitVec 32 := 1#32
  let v4940 : BitVec 32 := Scalar.muli v4 c1_i32_5559
  let v4941 : BitVec 32 := Scalar.addi c0_i32_5560 v4940
  v4941.toNat
def k0_dev199 (d0 : Dev nD) : Nat :=
  let c0_i32_5591 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_5590 : BitVec 32 := 1#32
  let v4973 : BitVec 32 := Scalar.muli v4 c1_i32_5590
  let v4974 : BitVec 32 := Scalar.addi c0_i32_5591 v4973
  v4974.toNat
def k0_dev200 (d0 : Dev nD) : Nat :=
  let c0_i32_5613 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_5612 : BitVec 32 := 1#32
  let v4987 : BitVec 32 := Scalar.muli v6 c1_i32_5612
  let v4988 : BitVec 32 := Scalar.addi c0_i32_5613 v4987
  v4988.toNat
def k0_dev201 (d0 : Dev nD) : Nat :=
  let c0_i32_5644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_5643 : BitVec 32 := 1#32
  let v5020 : BitVec 32 := Scalar.muli v4 c1_i32_5643
  let v5021 : BitVec 32 := Scalar.addi c0_i32_5644 v5020
  v5021.toNat
def k0_dev202 (d0 : Dev nD) : Nat :=
  let c0_i32_5666 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_5665 : BitVec 32 := 1#32
  let v5034 : BitVec 32 := Scalar.muli v6 c1_i32_5665
  let v5035 : BitVec 32 := Scalar.addi c0_i32_5666 v5034
  v5035.toNat
def k0_dev203 (d0 : Dev nD) : Nat :=
  let c0_i32_5697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_5696 : BitVec 32 := 1#32
  let v5067 : BitVec 32 := Scalar.muli v6 c1_i32_5696
  let v5068 : BitVec 32 := Scalar.addi c0_i32_5697 v5067
  v5068.toNat
def k0_dev204 (d0 : Dev nD) : Nat :=
  let c0_i32_5718 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_5717 : BitVec 32 := 1#32
  let v5081 : BitVec 32 := Scalar.muli v4 c1_i32_5717
  let v5082 : BitVec 32 := Scalar.addi c0_i32_5718 v5081
  v5082.toNat
def k0_dev205 (d0 : Dev nD) : Nat :=
  let c0_i32_5749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_5748 : BitVec 32 := 1#32
  let v5114 : BitVec 32 := Scalar.muli v6 c1_i32_5748
  let v5115 : BitVec 32 := Scalar.addi c0_i32_5749 v5114
  v5115.toNat
def k0_dev206 (d0 : Dev nD) : Nat :=
  let c0_i32_5771 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_5770 : BitVec 32 := 1#32
  let v5128 : BitVec 32 := Scalar.muli v4 c1_i32_5770
  let v5129 : BitVec 32 := Scalar.addi c0_i32_5771 v5128
  v5129.toNat
def k0_dev207 (d0 : Dev nD) : Nat :=
  let c0_i32_5802 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_5801 : BitVec 32 := 1#32
  let v5161 : BitVec 32 := Scalar.muli v4 c1_i32_5801
  let v5162 : BitVec 32 := Scalar.addi c0_i32_5802 v5161
  v5162.toNat
def k0_dev208 (d0 : Dev nD) : Nat :=
  let c0_i32_5824 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_5823 : BitVec 32 := 1#32
  let v5175 : BitVec 32 := Scalar.muli v6 c1_i32_5823
  let v5176 : BitVec 32 := Scalar.addi c0_i32_5824 v5175
  v5176.toNat
def k0_dev209 (d0 : Dev nD) : Nat :=
  let c0_i32_5855 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_5854 : BitVec 32 := 1#32
  let v5208 : BitVec 32 := Scalar.muli v4 c1_i32_5854
  let v5209 : BitVec 32 := Scalar.addi c0_i32_5855 v5208
  v5209.toNat
def k0_dev210 (d0 : Dev nD) : Nat :=
  let c0_i32_5877 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_5876 : BitVec 32 := 1#32
  let v5222 : BitVec 32 := Scalar.muli v6 c1_i32_5876
  let v5223 : BitVec 32 := Scalar.addi c0_i32_5877 v5222
  v5223.toNat
def k0_dev211 (d0 : Dev nD) : Nat :=
  let c0_i32_5908 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_5907 : BitVec 32 := 1#32
  let v5255 : BitVec 32 := Scalar.muli v6 c1_i32_5907
  let v5256 : BitVec 32 := Scalar.addi c0_i32_5908 v5255
  v5256.toNat
def k0_dev212 (d0 : Dev nD) : Nat :=
  let c0_i32_5929 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_5928 : BitVec 32 := 1#32
  let v5269 : BitVec 32 := Scalar.muli v4 c1_i32_5928
  let v5270 : BitVec 32 := Scalar.addi c0_i32_5929 v5269
  v5270.toNat
def k0_dev213 (d0 : Dev nD) : Nat :=
  let c0_i32_5960 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_5959 : BitVec 32 := 1#32
  let v5302 : BitVec 32 := Scalar.muli v6 c1_i32_5959
  let v5303 : BitVec 32 := Scalar.addi c0_i32_5960 v5302
  v5303.toNat
def k0_dev214 (d0 : Dev nD) : Nat :=
  let c0_i32_5982 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_5981 : BitVec 32 := 1#32
  let v5316 : BitVec 32 := Scalar.muli v4 c1_i32_5981
  let v5317 : BitVec 32 := Scalar.addi c0_i32_5982 v5316
  v5317.toNat
def k0_dev215 (d0 : Dev nD) : Nat :=
  let c0_i32_6013 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_6012 : BitVec 32 := 1#32
  let v5349 : BitVec 32 := Scalar.muli v4 c1_i32_6012
  let v5350 : BitVec 32 := Scalar.addi c0_i32_6013 v5349
  v5350.toNat
def k0_dev216 (d0 : Dev nD) : Nat :=
  let c0_i32_6035 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_6034 : BitVec 32 := 1#32
  let v5363 : BitVec 32 := Scalar.muli v6 c1_i32_6034
  let v5364 : BitVec 32 := Scalar.addi c0_i32_6035 v5363
  v5364.toNat
def k0_dev217 (d0 : Dev nD) : Nat :=
  let c0_i32_6066 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_6065 : BitVec 32 := 1#32
  let v5396 : BitVec 32 := Scalar.muli v4 c1_i32_6065
  let v5397 : BitVec 32 := Scalar.addi c0_i32_6066 v5396
  v5397.toNat
def k0_dev218 (d0 : Dev nD) : Nat :=
  let c0_i32_6088 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_6087 : BitVec 32 := 1#32
  let v5410 : BitVec 32 := Scalar.muli v6 c1_i32_6087
  let v5411 : BitVec 32 := Scalar.addi c0_i32_6088 v5410
  v5411.toNat
def k0_dev219 (d0 : Dev nD) : Nat :=
  let c0_i32_6119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_6118 : BitVec 32 := 1#32
  let v5443 : BitVec 32 := Scalar.muli v6 c1_i32_6118
  let v5444 : BitVec 32 := Scalar.addi c0_i32_6119 v5443
  v5444.toNat
def k0_dev220 (d0 : Dev nD) : Nat :=
  let c0_i32_6140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_6139 : BitVec 32 := 1#32
  let v5457 : BitVec 32 := Scalar.muli v4 c1_i32_6139
  let v5458 : BitVec 32 := Scalar.addi c0_i32_6140 v5457
  v5458.toNat
def k0_dev221 (d0 : Dev nD) : Nat :=
  let c0_i32_6171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_6170 : BitVec 32 := 1#32
  let v5490 : BitVec 32 := Scalar.muli v6 c1_i32_6170
  let v5491 : BitVec 32 := Scalar.addi c0_i32_6171 v5490
  v5491.toNat
def k0_dev222 (d0 : Dev nD) : Nat :=
  let c0_i32_6193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_6192 : BitVec 32 := 1#32
  let v5504 : BitVec 32 := Scalar.muli v4 c1_i32_6192
  let v5505 : BitVec 32 := Scalar.addi c0_i32_6193 v5504
  v5505.toNat
def k0_dev223 (d0 : Dev nD) : Nat :=
  let c0_i32_6242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_6241 : BitVec 32 := 1#32
  let v5547 : BitVec 32 := Scalar.muli v6 c1_i32_6241
  let v5548 : BitVec 32 := Scalar.addi c0_i32_6242 v5547
  v5548.toNat
def k0_dev224 (d0 : Dev nD) : Nat :=
  let c0_i32_6291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_6290 : BitVec 32 := 1#32
  let v5590 : BitVec 32 := Scalar.muli v6 c1_i32_6290
  let v5591 : BitVec 32 := Scalar.addi c0_i32_6291 v5590
  v5591.toNat
def k0_dev225 (d0 : Dev nD) : Nat :=
  let c0_i32_6339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_6338 : BitVec 32 := 1#32
  let v5633 : BitVec 32 := Scalar.muli v4 c1_i32_6338
  let v5634 : BitVec 32 := Scalar.addi c0_i32_6339 v5633
  v5634.toNat
def k0_dev226 (d0 : Dev nD) : Nat :=
  let c0_i32_6388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_6387 : BitVec 32 := 1#32
  let v5676 : BitVec 32 := Scalar.muli v4 c1_i32_6387
  let v5677 : BitVec 32 := Scalar.addi c0_i32_6388 v5676
  v5677.toNat
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Prog.lean ====
module

public import proofs.«01_k».proof.Proof.Gen.KernelIdeal.Skeleton
public import proofs.«01_k».proof.Proof.Gen.KernelIdeal.Launch
public import proofs.«01_k».proof.Proof.Gen.KernelIdeal.Points

/-! The kernel's body as a structured program: one function per operation, each taking its continuation, folded over
the four rings and the fifteen steps of each phase. -/

@[expose] public section

set_option synthInstance.maxSize 4096

noncomputable section

namespace Cert.KernelIdeal.Chain

open Cert.KernelIdeal Cert.KernelIdeal.Gen
open Idealize.ShloMosaic Idealize.ShloMosaic.TcCoe Idealize.SL.Sem

variable {F : FTy → Type} [FloatOps F]

/-- The machine programs of this kernel. -/
abbrev PR (F : FTy → Type) := Prog (TpuEff nD τ sig (Elt F) Λ₀ .tc) PUnit

/-- Offsets of a 256 by 512 block within the accumulator or the output. -/
abbrev Blk := {o : Fin 2 → ℕ // ∀ a, o a + S256x512.size a ≤ S4096x2048.size a}
/-- Offsets of a band of 256 rows within the accumulator. -/
abbrev Band := {o : Fin 2 → ℕ // ∀ a, o a + S256x2048.size a ≤ S4096x2048.size a}
/-- Offsets of a block of 256 rows within the left operand. -/
abbrev XBlk := {o : Fin 2 → ℕ // ∀ a, o a + S256x256.size a ≤ S4096x256.size a}

/-- The places a device's body addresses: blocks as the transfers compute them, blocks as the vector accesses
compute them, the operand's blocks and the accumulator's bands, and the two neighbours. -/
structure Places where
  dma : Fin 4 → ℕ → Blk
  vec : Fin 4 → ℕ → Blk
  gx : ℕ → XBlk
  gb : ℕ → Band
  lft : Dev nD
  rgt : Dev nD

/-- The accumulator. -/
abbrev accR : Memref sig .tc .vmem S4096x2048 .f32 := Memref.whole cc0_scratch0
/-- The receive slots of the reduction. -/
abbrev comR : Memref sig .tc .vmem S4x2x256x512 .f32 := Memref.whole cc0_scratch1
/-- The output. -/
abbrev outR : Memref sig .tc .hbm S4096x2048 .f32 := Memref.whole main_v1

/-- A block of the accumulator. -/
abbrev accB (b : Blk) : Memref sig .tc .vmem S256x512 .f32 :=
  accR.slice (Rect.unit (s := S4096x2048) b.1 S256x512.size b.2) (fun _ => rfl)
/-- A block of the output. -/
abbrev outB (b : Blk) : Memref sig .tc .hbm S256x512 .f32 :=
  outR.slice (Rect.unit (s := S4096x2048) b.1 S256x512.size b.2) (fun _ => rfl)

/-- A receive slot lies within the buffer. -/
theorem com_inb (r : Fin 4) (s : ℕ) : ∀ a, (![r.val, s % 2, 0, 0] : Fin 4 → ℕ) a + S1x1x256x512.size a ≤ S4x2x256x512.size a := by
  intro a
  have h1 := r.isLt
  have h2 := Nat.mod_lt s (by decide : 2 > 0)
  fin_cases a
  · show r.val + 1 ≤ 4; omega
  · show s % 2 + 1 ≤ 2; omega
  · show 0 + 256 ≤ 256; omega
  · show 0 + 512 ≤ 512; omega

/-- A two-slot semaphore lies within its array. -/
theorem sem2_inb (r : Fin 4) (s : ℕ) : ∀ a, (![r.val, s % 2] : Fin 2 → ℕ) a + S1x1.size a ≤ S4x2.size a := by
  intro a
  have h1 := r.isLt
  have h2 := Nat.mod_lt s (by decide : 2 > 0)
  fin_cases a
  · show r.val + 1 ≤ 4; omega
  · show s % 2 + 1 ≤ 2; omega

/-- A one-slot semaphore lies within its array. -/
theorem sem1_inb (r : Fin 4) : ∀ a, (![r.val] : Fin 1 → ℕ) a + S1.size a ≤ S4.size a := by
  intro a
  have h1 := r.isLt
  fin_cases a
  show r.val + 1 ≤ 4; omega

/-- The receive slot of ring `r` at step `s`. -/
abbrev comB (r : Fin 4) (s : ℕ) : Memref sig .tc .vmem S256x512 .f32 :=
  (comR.slice (Rect.unit (s := S4x2x256x512) ![r.val, s % 2, 0, 0] S1x1x256x512.size (com_inb r s)) (fun _ => rfl)).squeeze
    S256x512 squeezes_S1x1x256x512_S256x512

/-- A transfer semaphore of a two-slot array. -/
abbrev sem2 (A : DmaSems sig S4x2) (r : Fin 4) (s : ℕ) : DmaSem sig :=
  ((A.slice (Rect.unit (s := S4x2) ![r.val, s % 2] S1x1.size (sem2_inb r s))).squeeze S_ squeezes_S1x1_S_).sem
/-- A transfer semaphore of a one-slot array. -/
abbrev sem1 (A : DmaSems sig S4) (r : Fin 4) : DmaSem sig :=
  ((A.slice (Rect.unit (s := S4) ![r.val] S1.size (sem1_inb r))).squeeze S_ squeezes_S1_S_).sem
/-- A credit semaphore. -/
abbrev csem (A : Sems sig S4) (r : Fin 4) : Sem sig :=
  ((A.slice (Rect.unit (s := S4) ![r.val] S1.size (sem1_inb r))).squeeze S_ squeezes_S1_S_).sem
/-- The barrier semaphore. -/
abbrev barS : Sem sig := (SemArray.scalar (sig.barrier 0 rfl) : Sems sig S_).sem

/-- The product of an operand block by the weights, as the body stores it. -/
abbrev gemmPay (x : Vec F S256x256 .f32) (w : Vec F S256x2048 .f32) : FVec F S256x2048 .f32 := k0_pay1 x w
/-- A block increased by a received one, as the body stores it. -/
abbrev addPay (a : Vec F S256x512 .f32) (b : Vec F S1x1x256x512 .f32) : FVec F S256x512 .f32 := k0_pay7 a b
/-- A block's positive part, as the body stores it. -/
abbrev reluPay (a : Vec F S256x512 .f32) : FVec F S256x512 .f32 := k0_pay88 a

/-- Signal one unit of `sem` on device `d`. -/
def iSignal (d : Dev nD) (sem : Sem sig) (k : PR F) : PR F :=
  .op (.semSignal (d, .tc) sem (1#32 : BitVec 32).toInt) fun _ => k
/-- Wait for `n` units of `sem`. -/
def iWait (sem : Sem sig) (n : BitVec 32) (k : PR F) : PR F := .op (.semWait sem n.toInt) fun _ => k
/-- Wait for a transfer between blocks of the accumulator and a receive slot. -/
def iDWait {m₁ m₂ : Space} (sem : DmaSem sig) (a : Memref sig .tc m₁ S256x512 .f32) (b : Memref sig .tc m₂ S256x512 .f32) (k : PR F) : PR F :=
  .op (.waitDma2 sem a b (View.wordExact_bits rfl) (View.wordExact_bits rfl)) fun _ => k
/-- Multiply a block of the operand by the weights into a band of the accumulator. -/
def iGemm (x : Memref sig .tc .vmem S4096x256 .f32) (w : Memref sig .tc .vmem S256x2048 .f32) (bx : XBlk) (bb : Band) (k : PR F) : PR F :=
  .op (.load x (Rect.unit (s := S4096x256) bx.1 S256x256.size bx.2).toLoadRect (View.loadsAt_vmem h_S256x256)) fun v =>
  .op (.load w (Rect.unit (s := S256x2048) ![0, 0] S256x2048.size inb_S256x2048_S256x2048_0_0).toLoadRect (View.loadsAt_vmem h_S256x2048)) fun v' =>
  .op (.load accR (Rect.unit (s := S4096x2048) bb.1 S256x2048.size bb.2).toLoadRect (View.loadsAt_vmem h_S256x2048)) fun _ =>
  .op (.store accR (Rect.unit (s := S4096x2048) bb.1 S256x2048.size bb.2) (gemmPay v v') Finset.univ (View.stores_vmem_bits_univ h_S256x2048 rfl) (.inl rfl)) fun _ => k
/-- Send a block of the accumulator into the neighbour's receive slot. -/
def iSendRS (d : Dev nD) (r : Fin 4) (s : ℕ) (b : Blk) (k : PR F) : PR F :=
  .op (.enqueueDma (accB b) (.remote (Dev.tc d) (comB r s) (.dma (sem2 cc0_scratch2 r s))) (.dma (sem2 cc0_scratch3 r s))
    (View.wordExact_bits rfl) ((View.wordExact_bits rfl).reshape _ _) ⟨⟨rfl, Or.inl rfl⟩, trivial⟩) fun _ => k
/-- Send a block of the accumulator to the same place of the neighbour's. -/
def iSendAG (d : Dev nD) (r : Fin 4) (s : ℕ) (b : Blk) (k : PR F) : PR F :=
  .op (.enqueueDma (accB b) (.remote (Dev.tc d) (accB b) (.dma (sem2 cc0_scratch4 r s))) (.dma (sem2 cc0_scratch5 r s))
    (View.wordExact_bits rfl) (View.wordExact_bits rfl) ⟨⟨rfl, Or.inl rfl⟩, trivial⟩) fun _ => k
/-- Copy a block of the accumulator to the output. -/
def iOut (sem : DmaSem sig) (b : Blk) (k : PR F) : PR F :=
  .op (.enqueueDma (accB b) (.here (outB b)) (.dma sem) (View.wordExact_bits rfl) (View.wordExact_bits rfl) ⟨Or.inl rfl, trivial⟩) fun _ => k
/-- Add the received block to a block of the accumulator. -/
def iAdd (r : Fin 4) (s : ℕ) (b : Blk) (k : PR F) : PR F :=
  .op (.load accR (Rect.unit (s := S4096x2048) b.1 S256x512.size b.2).toLoadRect (View.loadsAt_vmem h_S256x512)) fun v =>
  .op (.load comR (Rect.unit (s := S4x2x256x512) ![r.val, s % 2, 0, 0] S1x1x256x512.size (com_inb r s)).toLoadRect (View.loadsAt_vmem h_S1x1x256x512)) fun v' =>
  .op (.load accR (Rect.unit (s := S4096x2048) b.1 S256x512.size b.2).toLoadRect (View.loadsAt_vmem h_S256x512)) fun _ =>
  .op (.store accR (Rect.unit (s := S4096x2048) b.1 S256x512.size b.2) (addPay v v') Finset.univ (View.stores_vmem_bits_univ h_S256x512 rfl) (.inl rfl)) fun _ => k
/-- Replace a block of the accumulator by its positive part. -/
def iRelu (b : Blk) (k : PR F) : PR F :=
  .op (.load accR (Rect.unit (s := S4096x2048) b.1 S256x512.size b.2).toLoadRect (View.loadsAt_vmem h_S256x512)) fun v =>
  .op (.load accR (Rect.unit (s := S4096x2048) b.1 S256x512.size b.2).toLoadRect (View.loadsAt_vmem h_S256x512)) fun _ =>
  .op (.store accR (Rect.unit (s := S4096x2048) b.1 S256x512.size b.2) (reluPay v) Finset.univ (View.stores_vmem_bits_univ h_S256x512 rfl) (.inl rfl)) fun _ => k

/-- Do `k` after `f` if `p`. -/
def opt (p : Prop) [Decidable p] (f : PR F → PR F) (k : PR F) : PR F := if p then f k else k
/-- One pass over the four rings. -/
def rings (f : Fin 4 → PR F → PR F) (k : PR F) : PR F := f 0 (f 1 (f 2 (f 3 k)))
/-- `n` steps from step `s` on. -/
def steps (f : ℕ → PR F → PR F) : ℕ → ℕ → PR F → PR F
  | 0, _, k => k
  | n + 1, s, k => f s (steps f n (s + 1) k)

/-- The block index of reduction step `j`: the device's number plus this, modulo sixteen, is the band. -/
def wd (r : Fin 4) (j : ℕ) : ℕ := if r.val < 2 then 16 - j else j
/-- The block index of gather step `s`. -/
def wa (r : Fin 4) (s : ℕ) : ℕ := if r.val < 2 then 17 - s else 15 + s

variable (A : Places)

/-- The device ring `r` sends to. -/
def Places.out (r : Fin 4) : Dev nD := if r.val < 2 then A.rgt else A.lft
/-- The device ring `r` receives from. -/
def Places.inn (r : Fin 4) : Dev nD := if r.val < 2 then A.lft else A.rgt

/-- Start reduction step `s` of ring `r`. -/
def rsStart (r : Fin 4) (s : ℕ) (k : PR F) : PR F := iSendRS (A.out r) r s (A.dma r (wd r s)) k
/-- Reduction step `s` of ring `r`. -/
def rsStep (s : ℕ) (r : Fin 4) (k : PR F) : PR F :=
  iDWait (sem2 cc0_scratch3 r s) (accB (A.dma r (wd r s))) (comB r s) <|
  iAdd r s (A.vec r (wd r (s + 1))) <|
  opt (s ≤ 12) (iSignal (A.inn r) (csem cc0_scratch6 r)) <|
  opt (1 ≤ s ∧ s ≤ 13) (iWait (csem cc0_scratch6 r) 1#32) <|
  opt (1 ≤ s ∧ s ≤ 13) (iDWait (sem2 cc0_scratch2 r (s - 1)) (comB r (s - 1)) (accB (A.dma r (wd r (s - 1))))) <|
  opt (s ≤ 13) (rsStart A r (s + 1)) k
/-- The products computed after reduction step `s`. -/
def rsGemm (x : Memref sig .tc .vmem S4096x256 .f32) (w : Memref sig .tc .vmem S256x2048 .f32) (s : ℕ) (k : PR F) : PR F :=
  opt (s ≤ 6) (iGemm x w (A.gx (3 + s)) (A.gb (3 + s))) <|
  opt (s ≤ 5) (iGemm x w (A.gx (10 + s)) (A.gb (10 + s))) k
/-- The last two send waits of the reduction. -/
def rsTail (r : Fin 4) (k : PR F) : PR F :=
  iDWait (sem2 cc0_scratch2 r 1) (comB r 1) (accB (A.dma r (wd r 15))) <|
  iDWait (sem2 cc0_scratch2 r 0) (comB r 0) (accB (A.dma r (wd r 14))) k
/-- The device's own block of ring `r`: positive part and copy to the output. -/
def own (r : Fin 4) (k : PR F) : PR F :=
  iRelu (A.vec r (wd r 15)) <| iOut (sem1 cc0_scratch9 r) (A.dma r (wd r 15)) k
/-- Start gather step `s` of ring `r`. -/
def agStart (r : Fin 4) (s : ℕ) (k : PR F) : PR F := iSendAG (A.out r) r s (A.dma r (wa r s)) k
/-- Gather step `s` of ring `r`. -/
def agStep (s : ℕ) (r : Fin 4) (k : PR F) : PR F :=
  iDWait (sem2 cc0_scratch5 r s) (accB (A.dma r (wa r s))) (accB (A.dma r (wa r s))) <|
  opt (2 ≤ s) (iDWait (sem2 cc0_scratch8 r s) (accB (A.dma r (wd r (s - 2)))) (outB (A.dma r (wd r (s - 2))))) <|
  iOut (sem2 cc0_scratch8 r s) (A.dma r (wd r s)) <|
  opt (s ≤ 12) (iSignal (A.inn r) (csem cc0_scratch7 r)) <|
  opt (1 ≤ s ∧ s ≤ 13) (iWait (csem cc0_scratch7 r) 1#32) <|
  opt (1 ≤ s ∧ s ≤ 13) (iDWait (sem2 cc0_scratch4 r (s - 1)) (accB (A.dma r (wa r (s - 1)))) (accB (A.dma r (wa r (s - 1))))) <|
  opt (s ≤ 13) (agStart A r (s + 1)) k

/-- The first block of a ring's columns lies within the output. -/
theorem blk0_inb (r : Fin 4) : ∀ a, (![0, 512 * r.val] : Fin 2 → ℕ) a + S256x512.size a ≤ S4096x2048.size a := by
  intro a
  have h1 := r.isLt
  fin_cases a
  · show 0 + 256 ≤ 4096; omega
  · show 512 * r.val + 512 ≤ 2048; omega
/-- The block the last copy's wait names. -/
def blk0 (r : Fin 4) : Blk := ⟨![0, 512 * r.val], blk0_inb r⟩

/-- The last waits of ring `r`. -/
def agTail (r : Fin 4) (k : PR F) : PR F :=
  iDWait (sem2 cc0_scratch4 r 1) (accB (A.dma r (wa r 15))) (accB (A.dma r (wa r 15))) <|
  iDWait (sem2 cc0_scratch8 r 1) (accB (A.dma r (wd r 15))) (outB (A.dma r (wd r 15))) <|
  iDWait (sem2 cc0_scratch4 r 0) (accB (A.dma r (wa r 14))) (accB (A.dma r (wa r 14))) <|
  iDWait (sem2 cc0_scratch8 r 0) (accB (A.dma r (wd r 14))) (outB (A.dma r (wd r 14))) <|
  iDWait (sem1 cc0_scratch9 r) (accB (blk0 r)) (outB (blk0 r)) k

/-- The body. -/
def body (x : Memref sig .tc .vmem S4096x256 .f32) (w : Memref sig .tc .vmem S256x2048 .f32) : PR F :=
  iSignal A.lft barS <| iSignal A.rgt barS <| iWait barS 2#32 <|
  iGemm x w (A.gx 0) (A.gb 0) <| iGemm x w (A.gx 1) (A.gb 1) <| iGemm x w (A.gx 2) (A.gb 2) <|
  rings (fun r => rsStart A r 0) <|
  steps (fun s k => rings (rsStep A s) (rsGemm A x w s k)) 15 0 <|
  rings (rsTail A) <|
  rings (own A) <|
  rings (fun r => agStart A r 0) <|
  steps (fun s k => rings (agStep A s) k) 15 0 <|
  rings (agTail A) <|
  .ret ⟨⟩

/-- A remainder by seventeen is below seventeen. -/
theorem m17 (w : ℕ) : (w + 16) % 17 < 17 := Nat.mod_lt _ (by decide)
/-- A remainder by thirty-one is below thirty-one. -/
theorem m31 (w : ℕ) : w % 31 < 31 := Nat.mod_lt _ (by decide)
/-- A remainder by fifteen is below fifteen. -/
theorem m15 (w : ℕ) : (w + 14) % 15 < 15 := Nat.mod_lt _ (by decide)
/-- A remainder by nine is below nine. -/
theorem m9 (w : ℕ) : (w - 1) % 9 < 9 := Nat.mod_lt _ (by decide)
/-- A remainder by six is below six. -/
theorem m6 (w : ℕ) : (w - 10) % 6 < 6 := Nat.mod_lt _ (by decide)

/-- The places as the printed program computes them, in machine words. -/
def printed (d0 : Dev nD) : Places where
  dma := fun r w => match r with
    | 0 => ⟨k0_off5 d0 (BitVec.ofNat 32 (1 + (w + 16) % 17)), k0_off5_inb d0 ⟨(w + 16) % 17, m17 w⟩⟩
    | 1 => ⟨k0_off6 d0 (BitVec.ofNat 32 (1 + (w + 16) % 17)), k0_off6_inb d0 ⟨(w + 16) % 17, m17 w⟩⟩
    | 2 => ⟨k0_off7 d0 (BitVec.ofNat 32 (w % 31)), k0_off7_inb d0 ⟨w % 31, m31 w⟩⟩
    | 3 => ⟨k0_off8 d0 (BitVec.ofNat 32 (w % 31)), k0_off8_inb d0 ⟨w % 31, m31 w⟩⟩
  vec := fun r w => match r with
    | 0 => ⟨k0_off9 d0 (BitVec.ofNat 32 (1 + (w + 14) % 15)), k0_off9_inb d0 ⟨(w + 14) % 15, m15 w⟩⟩
    | 1 => ⟨k0_off10 d0 (BitVec.ofNat 32 (1 + (w + 14) % 15)), k0_off10_inb d0 ⟨(w + 14) % 15, m15 w⟩⟩
    | 2 => ⟨k0_off11 d0 (BitVec.ofNat 32 (1 + (w + 14) % 15)), k0_off11_inb d0 ⟨(w + 14) % 15, m15 w⟩⟩
    | 3 => ⟨k0_off12 d0 (BitVec.ofNat 32 (1 + (w + 14) % 15)), k0_off12_inb d0 ⟨(w + 14) % 15, m15 w⟩⟩
  gx := fun g => if g = 0 then ⟨k0_off1 d0, k0_off1_inb d0⟩
    else if g ≤ 9 then ⟨k0_off3 d0 (k0_off3_at ⟨(g - 1) % 9, m9 g⟩), k0_off3_inb d0 ⟨(g - 1) % 9, m9 g⟩⟩
    else ⟨k0_off13 d0 (BitVec.ofNat 32 ((g - 10) % 6)), k0_off13_inb d0 ⟨(g - 10) % 6, m6 g⟩⟩
  gb := fun g => if g = 0 then ⟨k0_off2 d0, k0_off2_inb d0⟩
    else if g ≤ 9 then ⟨k0_off4 d0 (k0_off4_at ⟨(g - 1) % 9, m9 g⟩), k0_off4_inb d0 ⟨(g - 1) % 9, m9 g⟩⟩
    else ⟨k0_off14 d0 (BitVec.ofNat 32 ((g - 10) % 6)), k0_off14_inb d0 ⟨(g - 10) % 6, m6 g⟩⟩
  lft := ⟨k0_dev1 d0, k0_dev1_lt d0⟩
  rgt := ⟨k0_dev2 d0, k0_dev2_lt d0⟩

/-- The printed body reads the device's number and runs the structured program. -/
theorem body_printed (x : Memref sig .tc .vmem S4096x256 .f32) (hx : x.IsWhole) (w : Memref sig .tc .vmem S256x2048 .f32) (hw : w.IsWhole) :
    cc0_body (F := F) x hx w hw (Memref.whole main_v1) (Memref.isWhole_whole _) (Memref.whole cc0_scratch0) (Memref.isWhole_whole _)
      (Memref.whole cc0_scratch1) (Memref.isWhole_whole _) cc0_scratch2 cc0_scratch3 cc0_scratch4 cc0_scratch5 cc0_scratch6 cc0_scratch7
      cc0_scratch8 cc0_scratch9 = .op .deviceId fun d0 => body (printed d0) x w := by
  chain_rfl

end Cert.KernelIdeal.Chain
-- ==== Proof.Arith.lean ====
module

public import proofs.«01_k».proof.Proof.Prog

/-! The arithmetic of the rings: which band a device works on at which step, its neighbours, and the places the
printed program computes in closed form. -/

@[expose] public section

noncomputable section

namespace Cert.KernelIdeal.Chain

open Cert.KernelIdeal Cert.KernelIdeal.Gen
open Idealize.ShloMosaic Idealize.ShloMosaic.TcCoe Idealize.SL.Sem

/-- How a ring's band moves from one step to the next: down by one (modulo sixteen) on the first two, up on the others. -/
def kk (r : Fin 4) : ℕ := if r.val < 2 then 15 else 1

/-- The band device `c` works on at reduction step `j` of ring `r`. -/
def chunk (r : Fin 4) (c : Dev nD) (j : ℕ) : Dev nD := ⟨(c.val + kk r * j) % 16, Nat.mod_lt _ (by decide)⟩
/-- The device ring `r` sends to. -/
def nxt (r : Fin 4) (c : Dev nD) : Dev nD := ⟨(c.val + (16 - kk r)) % 16, Nat.mod_lt _ (by decide)⟩
/-- The device ring `r` receives from. -/
def prv (r : Fin 4) (c : Dev nD) : Dev nD := ⟨(c.val + kk r) % 16, Nat.mod_lt _ (by decide)⟩
/-- The next device on the right. -/
def rgt (c : Dev nD) : Dev nD := ⟨(c.val + 1) % 16, Nat.mod_lt _ (by decide)⟩
/-- The next device on the left. -/
def lft (c : Dev nD) : Dev nD := ⟨(c.val + 15) % 16, Nat.mod_lt _ (by decide)⟩

/-- The shift from one band of a ring to the next is fifteen on the first two rings and one on the others. -/
theorem kk_cases (r : Fin 4) : (r.val < 2 ∧ kk r = 15) ∨ (¬ r.val < 2 ∧ kk r = 1) := by
  unfold kk; by_cases h : r.val < 2
  · exact Or.inl ⟨h, if_pos h⟩
  · exact Or.inr ⟨h, if_neg h⟩

/-- The device before the next one is the device itself. -/
theorem prv_nxt (r : Fin 4) (c : Dev nD) : prv r (nxt r c) = c := by
  apply Fin.ext; have : c.val < 16 := c.isLt; rcases kk_cases r with ⟨-, h⟩ | ⟨-, h⟩ <;> simp only [prv, nxt, h] <;> omega
/-- The device after the previous one is the device itself. -/
theorem nxt_prv (r : Fin 4) (c : Dev nD) : nxt r (prv r c) = c := by
  apply Fin.ext; have : c.val < 16 := c.isLt; rcases kk_cases r with ⟨-, h⟩ | ⟨-, h⟩ <;> simp only [prv, nxt, h] <;> omega
/-- Left of the right neighbour is the device itself. -/
theorem lft_rgt (c : Dev nD) : lft (rgt c) = c := by apply Fin.ext; have : c.val < 16 := c.isLt; simp only [lft, rgt]; omega
/-- Right of the left neighbour is the device itself. -/
theorem rgt_lft (c : Dev nD) : rgt (lft c) = c := by apply Fin.ext; have : c.val < 16 := c.isLt; simp only [lft, rgt]; omega

/-- The ring's shift as a permutation of the devices. -/
def ringE (r : Fin 4) : Dev nD ≃ Dev nD := ⟨nxt r, prv r, prv_nxt r, nxt_prv r⟩
/-- The shift to the right. -/
def rgtE : Dev nD ≃ Dev nD := ⟨rgt, lft, lft_rgt, rgt_lft⟩

/-- The band a device sends at step `j` is the one its successor works on at step `j + 1`. -/
theorem chunk_nxt (r : Fin 4) (c : Dev nD) (j : ℕ) : chunk r (nxt r c) (j + 1) = chunk r c j := by
  apply Fin.ext; have : c.val < 16 := c.isLt; rcases kk_cases r with ⟨-, h⟩ | ⟨-, h⟩ <;> simp only [chunk, nxt, h] <;> omega
/-- The predecessor works at a step on the band that the device works on one step later. -/
theorem chunk_prv (r : Fin 4) (c : Dev nD) (j : ℕ) : chunk r (prv r c) j = chunk r c (j + 1) := by
  rw [← chunk_nxt r (prv r c) j, nxt_prv]
/-- After sixteen steps the bands repeat. -/
theorem chunk_16 (r : Fin 4) (c : Dev nD) (j : ℕ) : chunk r c (j + 16) = chunk r c j := by
  apply Fin.ext; rcases kk_cases r with ⟨-, h⟩ | ⟨-, h⟩ <;> simp only [chunk, h] <;> omega
/-- Within sixteen steps no band comes twice. -/
theorem chunk_inj (r : Fin 4) (c : Dev nD) {i j : ℕ} (hi : i < 16) (hj : j < 16) (h : chunk r c i = chunk r c j) : i = j := by
  have h := congrArg Fin.val h; rcases kk_cases r with ⟨-, e⟩ | ⟨-, e⟩ <;> simp only [chunk, e] at h <;> omega

/-- The step at which device `c` works on band `k` of ring `r`. -/
def stepOf (r : Fin 4) (c k : Dev nD) : ℕ := (kk r * (k.val + 16 - c.val)) % 16
/-- The step of a band is below sixteen. -/
theorem stepOf_lt (r : Fin 4) (c k : Dev nD) : stepOf r c k < 16 := Nat.mod_lt _ (by decide)
/-- At the step of a band the device works on that band. -/
theorem chunk_stepOf (r : Fin 4) (c k : Dev nD) : chunk r c (stepOf r c k) = k := by
  apply Fin.ext; have : c.val < 16 := c.isLt; have : k.val < 16 := k.isLt
  rcases kk_cases r with ⟨-, h⟩ | ⟨-, h⟩ <;> simp only [chunk, stepOf, h] <;> omega
/-- The step of the band worked on at step `j` is `j`. -/
theorem stepOf_chunk (r : Fin 4) (c : Dev nD) {j : ℕ} (hj : j < 16) : stepOf r c (chunk r c j) = j :=
  chunk_inj r c (stepOf_lt _ _ _) hj (chunk_stepOf _ _ _)

/-! ## Places -/

/-- A block of 256 rows and 512 columns lies within the accumulator. -/
theorem cblk_inb (r : Fin 4) (k : Dev nD) : ∀ a, (![256 * k.val, 512 * r.val] : Fin 2 → ℕ) a + S256x512.size a ≤ S4096x2048.size a := by
  intro a
  have h1 := r.isLt; have h2 : k.val < 16 := k.isLt
  fin_cases a
  · show 256 * k.val + 256 ≤ 4096; omega
  · show 512 * r.val + 512 ≤ 2048; omega
/-- Block (`k`, `r`): rows `256 k …`, columns `512 r …`. -/
def cblk (r : Fin 4) (k : Dev nD) : Blk := ⟨![256 * k.val, 512 * r.val], cblk_inb r k⟩

/-- A band of 256 rows lies within the accumulator. -/
theorem band_inb (k : Dev nD) : ∀ a, (![256 * k.val, 0] : Fin 2 → ℕ) a + S256x2048.size a ≤ S4096x2048.size a := by
  intro a
  have h2 : k.val < 16 := k.isLt
  fin_cases a
  · show 256 * k.val + 256 ≤ 4096; omega
  · show 0 + 2048 ≤ 2048; omega
/-- Band `k`: rows `256 k …`. -/
def band (k : Dev nD) : Band := ⟨![256 * k.val, 0], band_inb k⟩

/-- A block of 256 rows lies within the left operand. -/
theorem xblk_inb (k : Dev nD) : ∀ a, (![256 * k.val, 0] : Fin 2 → ℕ) a + S256x256.size a ≤ S4096x256.size a := by
  intro a
  have h2 : k.val < 16 := k.isLt
  fin_cases a
  · show 256 * k.val + 256 ≤ 4096; omega
  · show 0 + 256 ≤ 256; omega
/-- Rows `256 k …` of the left operand. -/
def xblk (k : Dev nD) : XBlk := ⟨![256 * k.val, 0], xblk_inb k⟩

/-- The device `w` places up from `c`. -/
def up (c : Dev nD) (w : ℕ) : Dev nD := ⟨(c.val + w) % 16, Nat.mod_lt _ (by decide)⟩

/-- The offsets computed for transfers are those of the block `w` bands up, on every ring, for `w` from one to seventeen. -/
theorem printed_dma (c : Dev nD) (r : Fin 4) (w : ℕ) (h1 : 1 ≤ w) (h2 : w ≤ 17) : (printed c).dma r w = cblk r (up c w) := by
  apply Subtype.ext
  have a1 : (w + 16) % 17 = w - 1 := by omega
  have a2 : w % 31 = w := by omega
  fin_cases r
  · refine (k0_off5_eq c ⟨(w + 16) % 17, m17 w⟩).trans ?_
    simp only [a1, cblk, up]; congr 3; omega
  · refine (k0_off6_eq c ⟨(w + 16) % 17, m17 w⟩).trans ?_
    simp only [a1, cblk, up]; congr 3; omega
  · refine (k0_off7_eq c ⟨w % 31, m31 w⟩).trans ?_
    simp only [a2, cblk, up]
  · refine (k0_off8_eq c ⟨w % 31, m31 w⟩).trans ?_
    simp only [a2, cblk, up]

/-- The same on the last two rings, for `w` up to thirty. -/
theorem printed_dma' (c : Dev nD) (r : Fin 4) (hr : ¬ r.val < 2) (w : ℕ) (h2 : w ≤ 30) : (printed c).dma r w = cblk r (up c w) := by
  apply Subtype.ext
  have a2 : w % 31 = w := by omega
  fin_cases r
  · exact absurd (by decide) hr
  · exact absurd (by decide) hr
  · refine (k0_off7_eq c ⟨w % 31, m31 w⟩).trans ?_
    simp only [a2, cblk, up]
  · refine (k0_off8_eq c ⟨w % 31, m31 w⟩).trans ?_
    simp only [a2, cblk, up]

/-- The offsets computed for sums and positive parts are those of the block `w` bands up. -/
theorem printed_vec (c : Dev nD) (r : Fin 4) (w : ℕ) (h1 : 1 ≤ w) (h2 : w ≤ 15) : (printed c).vec r w = cblk r (up c w) := by
  apply Subtype.ext
  have a1 : (w + 14) % 15 = w - 1 := by omega
  have a2 : (c.val + (w - 1) + 1) % 16 = (c.val + w) % 16 := by omega
  fin_cases r
  · refine (k0_off9_eq c ⟨(w + 14) % 15, m15 w⟩).trans ?_
    simp only [a1, a2, cblk, up]
  · refine (k0_off10_eq c ⟨(w + 14) % 15, m15 w⟩).trans ?_
    simp only [a1, a2, cblk, up]
  · refine (k0_off11_eq c ⟨(w + 14) % 15, m15 w⟩).trans ?_
    simp only [a1, a2, cblk, up]
  · refine (k0_off12_eq c ⟨(w + 14) % 15, m15 w⟩).trans ?_
    simp only [a1, a2, cblk, up]

/-- The block a transfer of reduction step `j` names. -/
theorem dma_wd (c : Dev nD) (r : Fin 4) (j : ℕ) (hj : j ≤ 15) : (printed c).dma r (wd r j) = cblk r (chunk r c j) := by
  rcases kk_cases r with ⟨hr, h⟩ | ⟨hr, h⟩
  · rw [wd, if_pos hr, printed_dma c r _ (by omega) (by omega)]
    congr 1; apply Fin.ext; simp only [up, chunk, h]; omega
  · rw [wd, if_neg hr, printed_dma' c r hr _ (by omega)]
    congr 1; apply Fin.ext; simp only [up, chunk, h]; omega
/-- The block a transfer of gather step `s` sends. -/
theorem dma_wa (c : Dev nD) (r : Fin 4) (s : ℕ) (hs : s ≤ 15) : (printed c).dma r (wa r s) = cblk r (chunk r c (15 + s)) := by
  rcases kk_cases r with ⟨hr, h⟩ | ⟨hr, h⟩
  · rw [wa, if_pos hr, printed_dma c r _ (by omega) (by omega)]
    congr 1; apply Fin.ext; simp only [up, chunk, h]; omega
  · rw [wa, if_neg hr, printed_dma' c r hr _ (by omega)]
    congr 1; apply Fin.ext; simp only [up, chunk, h]; omega
/-- The block a vector access of reduction step `j` names. -/
theorem vec_wd (c : Dev nD) (r : Fin 4) (j : ℕ) (h1 : 1 ≤ j) (hj : j ≤ 15) : (printed c).vec r (wd r j) = cblk r (chunk r c j) := by
  rcases kk_cases r with ⟨hr, h⟩ | ⟨hr, h⟩
  · rw [wd, if_pos hr, printed_vec c r _ (by omega) (by omega)]
    congr 1; apply Fin.ext; simp only [up, chunk, h]; omega
  · rw [wd, if_neg hr, printed_vec c r _ (by omega) (by omega)]
    congr 1; apply Fin.ext; simp only [up, chunk, h]; omega

/-- The computed left neighbour is the left neighbour. -/
theorem printed_lft (c : Dev nD) : (printed c).lft = lft c := Fin.ext (k0_dev1_eq c)
/-- The computed right neighbour is the right neighbour. -/
theorem printed_rgt (c : Dev nD) : (printed c).rgt = rgt c := Fin.ext (k0_dev2_eq c)
/-- The computed target of a ring is its successor. -/
theorem printed_out (c : Dev nD) (r : Fin 4) : (printed c).out r = nxt r c := by
  apply Fin.ext
  rcases kk_cases r with ⟨hr, h⟩ | ⟨hr, h⟩
  · rw [Places.out, if_pos hr, printed_rgt]; simp only [rgt, nxt, h]
  · rw [Places.out, if_neg hr, printed_lft]; simp only [lft, nxt, h]
/-- The computed source of a ring is its predecessor. -/
theorem printed_inn (c : Dev nD) (r : Fin 4) : (printed c).inn r = prv r c := by
  apply Fin.ext
  rcases kk_cases r with ⟨hr, h⟩ | ⟨hr, h⟩
  · rw [Places.inn, if_pos hr, printed_lft]; simp only [lft, prv, h]
  · rw [Places.inn, if_neg hr, printed_rgt]; simp only [rgt, prv, h]

/-- How far up from the device the band of product `g` lies. -/
def gd (g : ℕ) : ℕ := if g = 0 then 0 else if g = 1 then 1 else if g ≤ 9 then 17 - g else g - 8

/-- The offsets of the operand's blocks, computed at the nine words used, in closed form. -/
theorem off3_eq : ∀ (c : Dev nD) (r : Fin 9), k0_off3 c (k0_off3_at r) = ![256 * ((c.val + gd (r.val + 1)) % 16), 0] := by decide +kernel
/-- The offsets of the accumulator's bands, computed at the nine words used, in closed form. -/
theorem off4_eq : ∀ (c : Dev nD) (r : Fin 9), k0_off4 c (k0_off4_at r) = ![256 * ((c.val + gd (r.val + 1)) % 16), 0] := by decide +kernel

/-- The operand's block of the product `g` is the one that many bands up. -/
theorem printed_gx (c : Dev nD) (g : ℕ) (hg : g ≤ 15) : (printed c).gx g = xblk (up c (gd g)) := by
  apply Subtype.ext
  have hc : c.val < 16 := c.isLt
  simp only [printed]
  by_cases h0 : g = 0
  · subst h0; rw [if_pos rfl]; refine (k0_off1_eq c).trans ?_
    simp only [xblk, up, gd, if_pos, Nat.add_zero, Nat.mod_eq_of_lt hc]
  · rw [if_neg h0]
    by_cases h9 : g ≤ 9
    · rw [if_pos h9]; refine (off3_eq c ⟨(g - 1) % 9, m9 g⟩).trans ?_
      have : (g - 1) % 9 + 1 = g := by omega
      simp only [this]; first | rfl | done
    · rw [if_neg h9]; refine (k0_off13_eq c ⟨(g - 10) % 6, m6 g⟩).trans ?_
      have : c.val + (g - 10) % 6 + 2 = c.val + gd g := by
        unfold gd; rw [if_neg h0, if_neg (by omega), if_neg h9]; omega
      simp only [this]; first | rfl | done
/-- The accumulator's band of the product `g` is the one that many bands up. -/
theorem printed_gb (c : Dev nD) (g : ℕ) (hg : g ≤ 15) : (printed c).gb g = band (up c (gd g)) := by
  apply Subtype.ext
  have hc : c.val < 16 := c.isLt
  simp only [printed]
  by_cases h0 : g = 0
  · subst h0; rw [if_pos rfl]; refine (k0_off2_eq c).trans ?_
    simp only [band, up, gd, if_pos, Nat.add_zero, Nat.mod_eq_of_lt hc]
  · rw [if_neg h0]
    by_cases h9 : g ≤ 9
    · rw [if_pos h9]; refine (off4_eq c ⟨(g - 1) % 9, m9 g⟩).trans ?_
      have : (g - 1) % 9 + 1 = g := by omega
      simp only [this]; first | rfl | done
    · rw [if_neg h9]; refine (k0_off14_eq c ⟨(g - 10) % 6, m6 g⟩).trans ?_
      have : c.val + (g - 10) % 6 + 2 = c.val + gd g := by
        unfold gd; rw [if_neg h0, if_neg (by omega), if_neg h9]; omega
      simp only [this]; first | rfl | done

end Cert.KernelIdeal.Chain
-- ==== Proof.Cells.lean ====
module

public import proofs.«01_k».proof.Proof.Arith
public import Idealize.ShloMosaic.Lib.Pipeline.Launch
public import Idealize.ShloMosaic.Lib.Pipeline.Kit
public import Idealize.ShloMosaic.Lib.Tactic
public import Idealize.ShloMosaic.Lib.Release
public import Idealize.ShloMosaic.Lib.MemrefSat

/-! The semaphore cells of the four rings, the values that travel, what each signal and each transfer carries, and
the order of the waits. -/

@[expose] public section

set_option synthInstance.maxSize 4096

noncomputable section

namespace Cert.KernelIdeal.Chain

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost algebra -/

/-- A place that is written remotely: of a device and a ring, a receive slot (0, 1) or the block of a step (2 …). -/
abbrev Kx := Dev nD × Fin 4 × Fin 17
/-- The ghost algebra: the pipeline's part, the semaphore cells' part and the written places' part. -/
abbrev UU := UR sig nD τ × (URounds (GSem nD τ sig) ℕ × Release.USlots Kx)

local notation "𝕄" => MT nD τ sig ℕ (Elt F) ℕ UU ℕ

/-- The pipeline's part. -/
abbrev EP : Emb (UR sig nD τ) 𝕄 := embL
/-- The other two parts. -/
abbrev EE : Emb (URounds (GSem nD τ sig) ℕ × Release.USlots Kx) 𝕄 := embR
/-- The semaphore cells' part. -/
def ER : Emb (URounds (GSem nD τ sig) ℕ) 𝕄 := (Emb.inl : Emb _ (URounds (GSem nD τ sig) ℕ × Release.USlots Kx)).trans EE
/-- The written places' part. -/
def EQ : Emb (Release.USlots Kx) 𝕄 := (Emb.inr : Emb _ (URounds (GSem nD τ sig) ℕ × Release.USlots Kx)).trans EE

instance ER_landsIn : (ER : Emb (URounds (GSem nD τ sig) ℕ) 𝕄).LandsIn (upEmb : UEmb _ 𝕄) := by unfold ER; infer_instance
instance EQ_landsIn : (EQ : Emb (Release.USlots Kx) 𝕄).LandsIn (upEmb : UEmb _ 𝕄) := by unfold EQ; infer_instance

/-! ## The cells -/

/-- A device's cells: the barrier's; of five kinds (sends and receives of the reduction, sends and receives of the
gather, copies to the output) two per ring; of three kinds (copy of the own block, credits of the two phases) one. -/
abbrev CK := Unit ⊕ (Fin 5 × Fin 4 × Fin 2) ⊕ (Fin 3 × Fin 4)

/-- The five two-slot arrays. -/
def arr2 : Fin 5 → DmaSems sig S4x2 := ![cc0_scratch2, cc0_scratch3, cc0_scratch4, cc0_scratch5, cc0_scratch8]
/-- The semaphore of a kind of cell. -/
def locOf : CK → SemLoc sig
  | .inl _ => .reg barS
  | .inr (.inl (f, r, b)) => .dma (sem2 (arr2 f) r b.val)
  | .inr (.inr (0, r)) => .dma (sem1 cc0_scratch9 r)
  | .inr (.inr (1, r)) => .reg (csem cc0_scratch6 r)
  | .inr (.inr (2, r)) => .reg (csem cc0_scratch7 r)
/-- The kind of cell of a semaphore, if any. -/
def kindOf : SemLoc sig → Option CK
  | .reg s => if s.val < 4 then some (.inr (.inr (1, ⟨s.val % 4, Nat.mod_lt _ (by decide)⟩)))
      else if s.val < 8 then some (.inr (.inr (2, ⟨s.val % 4, Nat.mod_lt _ (by decide)⟩)))
      else if s.val = 8 then some (.inl ()) else none
  | .dma s => if s.val < 2 then none
      else if s.val < 42 then some (.inr (.inl (⟨(s.val - 2) / 8 % 5, Nat.mod_lt _ (by decide)⟩, ⟨(s.val - 2) % 8 / 2 % 4, Nat.mod_lt _ (by decide)⟩,
        ⟨s.val % 2, Nat.mod_lt _ (by decide)⟩)))
      else some (.inr (.inr (0, ⟨(s.val - 42) % 4, Nat.mod_lt _ (by decide)⟩)))

/-- The kind of a kind's semaphore is that kind. -/
theorem kindOf_locOf (k : CK) : kindOf (locOf k) = some k := by revert k; decide +kernel

/-- Different kinds have different semaphores. -/
theorem locOf_inj : Function.Injective locOf := fun a b h => by
  have := congrArg kindOf h; rw [kindOf_locOf, kindOf_locOf] at this; exact Option.some.inj this

/-- The cell of a device and a kind. -/
abbrev kcell (ck : Dev nD × CK) : GSem nD τ sig := ((ck.1 : Thread nD τ), locOf ck.2)

/-- Different devices or kinds have different cells. -/
theorem kcell_inj : Function.Injective kcell := fun a b h => by
  have h1 : a.1 = b.1 := congrArg (fun g : GSem nD τ sig => g.1.1) h
  exact Prod.ext h1 (locOf_inj (congrArg Prod.snd h))

/-- The slot of a step. -/
def par (i : ℕ) : Fin 2 := ⟨i % 2, Nat.mod_lt _ (by decide)⟩
/-- Two steps later the slot is the same. -/
theorem par_add (i : ℕ) : par (i + 2) = par i := Fin.ext (by simp only [par]; omega)

/-- The kind of a two-slot cell at step `i`. -/
abbrev ck2 (f : Fin 5) (r : Fin 4) (i : ℕ) : CK := .inr (.inl (f, r, par i))
/-- The kind of a one-slot cell. -/
abbrev ck1 (f : Fin 3) (r : Fin 4) : CK := .inr (.inr (f, r))
/-- The two-slot cell of step `i`. -/
def cel2 (c : Dev nD) (f : Fin 5) (r : Fin 4) (i : ℕ) : GSem nD τ sig := kcell (c, ck2 f r i)
/-- A one-slot cell. -/
def cel1 (c : Dev nD) (f : Fin 3) (r : Fin 4) : GSem nD τ sig := kcell (c, ck1 f r)
/-- The barrier's cell. -/
def celB (c : Dev nD) : GSem nD τ sig := kcell (c, .inl ())

/-- A two-slot semaphore depends on the slot of the step alone. -/
theorem sem2_par (A : DmaSems sig S4x2) (r : Fin 4) (i : ℕ) : sem2 A r (par i).val = sem2 A r i := by
  have h : (par i).val % 2 = i % 2 := Nat.mod_mod _ _
  have key (v : ℕ) (hv : v = i % 2) (hb : ∀ a, (![r.val, v] : Fin 2 → ℕ) a + S1x1.size a ≤ S4x2.size a) :
      ((A.slice (Rect.unit (s := S4x2) ![r.val, v] S1x1.size hb)).squeeze S_ squeezes_S1x1_S_).sem = sem2 A r i := by
    subst hv; rfl
  exact key _ h _

/-- The two-slot cell of a step, in terms of its semaphore. -/
theorem cel2_eq (c : Dev nD) (f : Fin 5) (r : Fin 4) (i : ℕ) : cel2 c f r i = ((c : Thread nD τ), .dma (sem2 (arr2 f) r i)) := by
  show ((c : Thread nD τ), SemLoc.dma (sem2 (arr2 f) r (par i).val)) = _; rw [sem2_par]
/-- Two steps later the two-slot cell is the same. -/
theorem cel2_add (c : Dev nD) (f : Fin 5) (r : Fin 4) (i : ℕ) : cel2 c f r (i + 2) = cel2 c f r i := by
  unfold cel2; rw [show ck2 f r (i + 2) = ck2 f r i by unfold ck2; rw [par_add]]

/-! ## The values -/

/-- Columns `512 r …` of a band. -/
abbrev colRect (r : Fin 4) : Rect S256x2048 :=
  Rect.unit (s := S256x2048) ![0, 512 * r.val] S256x512.size (fun a => by
    have h1 := r.isLt
    fin_cases a
    · show 0 + 256 ≤ 256; omega
    · show 512 * r.val + 512 ≤ 2048; omega)
/-- Rows `256 k …` of the left operand. -/
abbrev xRect (k : Dev nD) : Rect S4096x256 := Rect.unit (s := S4096x256) (xblk k).1 S256x256.size (xblk k).2

/-- The sum of two blocks, as the body stores it. -/
def add2 (a b : Vec F S256x512 .f32) : FVec F S256x512 .f32 := shapeCast S256x512 (addf a b) shapeCasts_S256x512_S256x512

section Values
variable (xv : Dev nD → Vec F S4096x256 .f32) (wv : Dev nD → Vec F S256x2048 .f32)

/-- Device `c`'s product for band `k`. -/
def bandV (c k : Dev nD) : Vec F S256x2048 .f32 := gemmPay (fun i => xv c ((xRect k).emb i)) (wv c)
/-- Its columns of ring `r`. -/
def partV (r : Fin 4) (c k : Dev nD) : Vec F S256x512 .f32 := fun i => bandV xv wv c k ((colRect r).emb i)
/-- The running sum on device `c` after `j` received blocks. -/
def runV (r : Fin 4) : ℕ → Dev nD → Vec F S256x512 .f32
  | 0, c => partV xv wv r c (chunk r c 0)
  | j + 1, c => add2 (partV xv wv r c (chunk r c (j + 1))) (runV r j (prv r c))
/-- The result's block. -/
def finV (r : Fin 4) (k : Dev nD) : Vec F S256x512 .f32 := reluPay (runV xv wv r 15 (prv r k))

/-! ## What the signals and transfers carry -/

/-- A block of the accumulator with its contents. -/
def accO (c : Dev nD) (r : Fin 4) (k : Dev nD) (q : PosShare TreeShare) (X : Vec F S256x512 .f32) : sProp 𝕄 :=
  owns (c : Thread nD τ) (accB (cblk r k)) q X
/-- A block of the output with its contents. -/
def outO (c : Dev nD) (r : Fin 4) (k : Dev nD) (X : Vec F S256x512 .f32) : sProp 𝕄 :=
  owns (c : Thread nD τ) (outB (cblk r k)) fullShare X
/-- A receive slot with its contents. -/
def comO (c : Dev nD) (r : Fin 4) (i : ℕ) (X : Vec F S256x512 .f32) : sProp 𝕄 :=
  owns (c : Thread nD τ) (comB r i) fullShare X
/-- A block of the accumulator, any contents. -/
def accS (c : Dev nD) (r : Fin 4) (k : Dev nD) : sProp 𝕄 :=
  Release.slot ((accB (cblk r k)).view.loc (c : Thread nD τ)) (accB (cblk r k)).view.set
/-- A block of the output, any contents. -/
def outS (c : Dev nD) (r : Fin 4) (k : Dev nD) : sProp 𝕄 :=
  Release.slot ((outB (cblk r k)).view.loc (c : Thread nD τ)) (outB (cblk r k)).view.set
/-- A receive slot, any contents. -/
def comS (c : Dev nD) (r : Fin 4) (i : ℕ) : sProp 𝕄 :=
  Release.slot ((comB r i).view.loc (c : Thread nD τ)) (comB r i).view.set

/-- The receive slot of step `i` as a written place. -/
def ckey (c : Dev nD) (r : Fin 4) (i : ℕ) : Kx := (c, r, ⟨i % 2, by omega⟩)
/-- The accumulator's block of step `j` as a written place. -/
def bkey (c : Dev nD) (r : Fin 4) (j : ℕ) : Kx := (c, r, ⟨2 + j % 15, by omega⟩)
/-- The contents of a written place. -/
def slotS (k : Kx) : sProp 𝕄 :=
  if k.2.2.val < 2 then comS k.1 k.2.1 k.2.2.val else accS k.1 k.2.1 (chunk k.2.1 k.1 (k.2.2.val - 2))

omit [FloatOps F] in
instance accS_storable (c : Dev nD) (r : Fin 4) (k : Dev nD) : BI.Storable (upEmb : UEmb _ 𝕄) (accS (F := F) c r k) := by unfold accS; infer_instance
omit [FloatOps F] in
instance comS_storable (c : Dev nD) (r : Fin 4) (k : ℕ) : BI.Storable (upEmb : UEmb _ 𝕄) (comS (F := F) c r k) := by unfold comS; infer_instance
omit [FloatOps F] in
instance accO_storable (c : Dev nD) (r : Fin 4) (k : Dev nD) (q) (X) : BI.Storable (upEmb : UEmb _ 𝕄) (accO (F := F) c r k q X) := by unfold accO; infer_instance
omit [FloatOps F] in
instance outO_storable (c : Dev nD) (r : Fin 4) (k : Dev nD) (X) : BI.Storable (upEmb : UEmb _ 𝕄) (outO (F := F) c r k X) := by unfold outO; infer_instance
omit [FloatOps F] in
instance comO_storable (c : Dev nD) (r : Fin 4) (i : ℕ) (X) : BI.Storable (upEmb : UEmb _ 𝕄) (comO (F := F) c r i X) := by unfold comO; infer_instance
omit [FloatOps F] in
instance slotS_storable (k : Kx) : BI.Storable (upEmb : UEmb _ 𝕄) (slotS (F := F) k) := by unfold slotS; split <;> infer_instance

/-- What the sender of step `i` must know of its successor: the receive slot has been emptied, its receive cell has
reached the step's round, and the block sent four steps before has come back. -/
def sfact (d : Dev nD) (r : Fin 4) (i : ℕ) : sProp 𝕄 :=
  iprop(Release.released EQ (ckey d r i) (i / 2 + 1) ∗ reached ER (cel2 d 1 r i) (i / 2)
    ∗ if 4 ≤ i then Release.released EQ (bkey d r (i - 4)) 1 else iprop(emp))
/-- What the sender of gather step `i` must know of its successor. -/
def afact (d : Dev nD) (r : Fin 4) (i : ℕ) : sProp 𝕄 :=
  iprop(Release.released EQ (bkey d r i) 1 ∗ reached ER (cel2 d 3 r i) (i / 2))

omit [FloatOps F] in
instance sfact_persistent (d : Dev nD) (r : Fin 4) (i : ℕ) : BI.Persistent (sfact (F := F) d r i) := by
  unfold sfact; split <;> infer_instance
omit [FloatOps F] in
instance sfact_storable (d : Dev nD) (r : Fin 4) (i : ℕ) : BI.Storable (upEmb : UEmb _ 𝕄) (sfact (F := F) d r i) := by
  unfold sfact; split <;> infer_instance
omit [FloatOps F] in
instance afact_persistent (d : Dev nD) (r : Fin 4) (i : ℕ) : BI.Persistent (afact (F := F) d r i) := by
  unfold afact; infer_instance
omit [FloatOps F] in
instance afact_storable (d : Dev nD) (r : Fin 4) (i : ℕ) : BI.Storable (upEmb : UEmb _ 𝕄) (afact (F := F) d r i) := by
  unfold afact; infer_instance

/-- The first `n` facts of the reduction. -/
def sfacts (d : Dev nD) (r : Fin 4) (n : ℕ) : sProp 𝕄 := bigSep (Finset.range n) (sfact d r)
/-- The first `n` facts of the gather. -/
def afacts (d : Dev nD) (r : Fin 4) (n : ℕ) : sProp 𝕄 := bigSep (Finset.range n) (afact d r)

omit [FloatOps F] in
instance sfacts_persistent (d : Dev nD) (r : Fin 4) (n : ℕ) : BI.Persistent (sfacts (F := F) d r n) := by
  unfold sfacts; infer_instance
omit [FloatOps F] in
instance sfacts_storable (d : Dev nD) (r : Fin 4) (n : ℕ) : BI.Storable (upEmb : UEmb _ 𝕄) (sfacts (F := F) d r n) := by
  unfold sfacts; infer_instance
omit [FloatOps F] in
instance afacts_persistent (d : Dev nD) (r : Fin 4) (n : ℕ) : BI.Persistent (afacts (F := F) d r n) := by
  unfold afacts; infer_instance
omit [FloatOps F] in
instance afacts_storable (d : Dev nD) (r : Fin 4) (n : ℕ) : BI.Storable (upEmb : UEmb _ 𝕄) (afacts (F := F) d r n) := by
  unfold afacts; infer_instance

/-- What the barrier's two signals carry: the neighbour's receive slots are empty. -/
def barPay (c : Dev nD) (d : ℕ) : sProp 𝕄 :=
  if d = 0 then iprop(sfacts (nxt 0 c) 0 2 ∗ sfacts (nxt 1 c) 1 2) else iprop(sfacts (nxt 2 c) 2 2 ∗ sfacts (nxt 3 c) 3 2)
/-- What the transfers of step `i` carry: to a send cell the block sent comes back; to a receive cell the block
received; to a copy cell both ends. -/
def pay2 (f : Fin 5) (c : Dev nD) (r : Fin 4) (i : ℕ) : sProp 𝕄 :=
  match f with
  | 0 => accO c r (chunk r c i) fullShare (runV xv wv r i c)
  | 1 => comO c r i (runV xv wv r i (prv r c))
  | 2 => accO c r (chunk r c (15 + i)) fullShare.left (finV xv wv r (chunk r c (15 + i)))
  | 3 => accO c r (chunk r c i) fullShare (finV xv wv r (chunk r c i))
  | 4 => iprop(accO c r (chunk r c i) fullShare.right (finV xv wv r (chunk r c i)) ∗ outO c r (chunk r c i) (finV xv wv r (chunk r c i)))
/-- The copy of the own block; the credits of the two phases. -/
def pay1 (f : Fin 3) (c : Dev nD) (r : Fin 4) (d : ℕ) : sProp 𝕄 :=
  match f with
  | 0 => iprop(accO c r (chunk r c 15) fullShare.right (finV xv wv r (chunk r c 15)) ∗ outO c r (chunk r c 15) (finV xv wv r (chunk r c 15)))
  | 1 => sfacts (nxt r c) r (d + 3)
  | 2 => afacts (nxt r c) r (d + 3)

instance barPay_storable (c : Dev nD) (d : ℕ) : BI.Storable (upEmb : UEmb _ 𝕄) (barPay (F := F) c d) := by unfold barPay; split <;> infer_instance
instance pay2_storable (f : Fin 5) (c : Dev nD) (r : Fin 4) (i : ℕ) : BI.Storable (upEmb : UEmb _ 𝕄) (pay2 xv wv f c r i) := by
  unfold pay2; split <;> infer_instance
instance pay1_storable (f : Fin 3) (c : Dev nD) (r : Fin 4) (i : ℕ) : BI.Storable (upEmb : UEmb _ 𝕄) (pay1 xv wv f c r i) := by
  unfold pay1; split <;> infer_instance

/-- A block's credit. -/
def NN : ℕ := (comB 0 0).view.dmaCredit
/-- A block's credit is not zero. -/
theorem NN_pos : 0 < NN := View.dmaCredit_pos _ (by decide)

/-- The duties of a kind of cell by round. -/
def dutK : CK → ℕ → Finset ℕ
  | .inl _, R => if R = 0 then {0, 1} else ∅
  | .inr (.inl (_, _, b)), R => if 2 * R + b.val < 15 then {0} else ∅
  | .inr (.inr (f, _)), R => if R = 0 then (if f = 0 then {0} else Finset.range 13) else ∅
/-- The units of a duty by kind of cell. -/
def amtK : CK → ℕ
  | .inl _ => 1
  | .inr (.inl _) => NN
  | .inr (.inr (f, _)) => if f = 0 then NN else 1
/-- What a duty carries by kind of cell. -/
def payK (c : Dev nD) : CK → ℕ → ℕ → sProp 𝕄
  | .inl _, _, d => barPay c d
  | .inr (.inl (f, r, b)), R, _ => pay2 xv wv f c r (2 * R + b.val)
  | .inr (.inr (f, r)), _, d => pay1 xv wv f c r d

/-- No duty is of zero units. -/
theorem amtK_pos (k : CK) : 0 < amtK k := by
  unfold amtK; split
  · exact Nat.one_pos
  · exact NN_pos
  · split
    · exact NN_pos
    · exact Nat.one_pos

/-- The schedule of all cells. -/
def Rd : Rounds.Schedule (GSem nD τ sig) ℕ 𝕄 where
  duties g R := if g.1.2 = .tc then (match kindOf g.2 with | none => ∅ | some k => dutK k R) else ∅
  unitless _ := False
  amount g _ _ := match kindOf g.2 with | none => 1 | some k => amtK k
  payload g R d := match kindOf g.2 with | none => iprop(emp) | some k => payK xv wv g.1.1 k R d
  amount_pos g _ _ _ := by
    split
    · exact Nat.one_pos
    · exact amtK_pos _

instance payK_storable (c : Dev nD) (k : CK) (R d : ℕ) : BI.Storable (upEmb : UEmb _ 𝕄) (payK xv wv c k R d) := by
  unfold payK; split <;> infer_instance
instance Rd_storable (g : GSem nD τ sig) (R d : ℕ) : BI.Storable (upEmb : UEmb _ 𝕄) ((Rd xv wv).payload g R d) := by
  show BI.Storable upEmb (match kindOf g.2 with | none => iprop(emp) | some k => payK xv wv g.1.1 k R d)
  split <;> infer_instance

section Reading
variable (c : Dev nD) (k : CK) (f : Fin 5) (r : Fin 4) (i R d : ℕ)

/-- The duties of a cell, by its kind. -/
theorem Rd_duties : (Rd xv wv).duties (kcell (c, k)) R = dutK k R := by
  dsimp only [Rd, kcell]; rw [if_pos rfl, kindOf_locOf]
/-- The units of a duty, by the kind of cell. -/
theorem Rd_amount : (Rd xv wv).amount (kcell (c, k)) R d = amtK k := by
  dsimp only [Rd, kcell]; rw [kindOf_locOf]
/-- What a duty carries, by the kind of cell. -/
theorem Rd_payload : (Rd xv wv).payload (kcell (c, k)) R d = payK xv wv c k R d := by
  dsimp only [Rd, kcell]; rw [kindOf_locOf]
/-- The units that a round expects: its duties times the units of each. -/
theorem Rd_expect : (Rd xv wv).expect (kcell (c, k)) R = (dutK k R).card * amtK k := by
  unfold Schedule.expect Schedule.amountOf
  rw [Rd_duties, Finset.sum_congr rfl fun d _ => Rd_amount xv wv c k R d, Finset.sum_const, smul_eq_mul]

/-- A two-slot cell has one duty in the round of each step. -/
theorem duties2 (hi : i < 15) : (Rd xv wv).duties (cel2 c f r i) (i / 2) = {0} := by
  unfold cel2; rw [Rd_duties]; show (if 2 * (i / 2) + i % 2 < 15 then ({0} : Finset ℕ) else ∅) = _; rw [if_pos (by omega)]
/-- What that duty carries, by the step. -/
theorem payload2 : (Rd xv wv).payload (cel2 c f r i) (i / 2) d = pay2 xv wv f c r i := by
  unfold cel2; rw [Rd_payload]; show pay2 xv wv f c r (2 * (i / 2) + i % 2) = _; rw [show 2 * (i / 2) + i % 2 = i by omega]
/-- Its units are a block's credit. -/
theorem amount2 : (Rd xv wv).amount (cel2 c f r i) R d = NN := by unfold cel2; rw [Rd_amount]; rfl
/-- So the round expects a block's credit. -/
theorem expect2 (hi : i < 15) : (Rd xv wv).expect (cel2 c f r i) (i / 2) = NN := by
  unfold Schedule.expect Schedule.amountOf; rw [duties2 xv wv c f r i hi, Finset.sum_singleton, amount2]
/-- What is left to take from such a round is that duty's payload. -/
theorem rest2 (hi : i < 15) : bigSep ((Rd xv wv).duties (cel2 c f r i) (i / 2) \ ∅) (fun d => (Rd xv wv).payload (cel2 c f r i) (i / 2) d)
    = pay2 xv wv f c r i := by
  rw [Finset.sdiff_empty, duties2 xv wv c f r i hi, bigSep_singleton, payload2]
end Reading

end Values

/-! ## What a device owes, in the order of payment -/

/-- What a device pays at time `t`: a cell, the step, the units. -/
def due (c : Dev nD) (t : ℕ) : Option (GSem nD τ sig × ℕ × ℕ) :=
  if t = 0 then some (celB (lft c), 0, 1)
  else if t = 1 then some (celB (rgt c), 0, 1)
  else if t < 6 then some (cel2 (nxt (Fin.ofNat 4 (t - 2)) c) 1 (Fin.ofNat 4 (t - 2)) 0, 0, NN)
  else if t < 126 then
    (if t % 2 = 0 then
      (if (t - 6) / 8 ≤ 12 then some (cel1 (prv (Fin.ofNat 4 ((t - 6) % 8 / 2)) c) 1 (Fin.ofNat 4 ((t - 6) % 8 / 2)), (t - 6) / 8, 1) else none)
    else
      (if (t - 6) / 8 ≤ 13 then some (cel2 (nxt (Fin.ofNat 4 ((t - 6) % 8 / 2)) c) 1 (Fin.ofNat 4 ((t - 6) % 8 / 2)) ((t - 6) / 8 + 1), (t - 6) / 8 + 1, NN) else none))
  else if t < 130 then some (cel2 (nxt (Fin.ofNat 4 (t - 126)) c) 3 (Fin.ofNat 4 (t - 126)) 0, 0, NN)
  else
    (if t % 2 = 0 then
      (if (t - 130) / 8 ≤ 12 then some (cel1 (prv (Fin.ofNat 4 ((t - 130) % 8 / 2)) c) 2 (Fin.ofNat 4 ((t - 130) % 8 / 2)), (t - 130) / 8, 1) else none)
    else
      (if (t - 130) / 8 ≤ 13 then some (cel2 (nxt (Fin.ofNat 4 ((t - 130) % 8 / 2)) c) 3 (Fin.ofNat 4 ((t - 130) % 8 / 2)) ((t - 130) / 8 + 1), (t - 130) / 8 + 1, NN) else none))

/-- That payment as a tally. -/
def tal (c : Dev nD) (t : ℕ) : CellTallies nD τ sig ℕ :=
  match due c t with | none => 0 | some (g, ι, n) => tallyAt g ι n
/-- What a device owes from time `t` on. -/
def owed (t : ℕ) (c : Dev nD) : CellTallies nD τ sig ℕ := ∑ i ∈ Finset.Ico t 250, tal c i

/-- The indices of a cell: the steps. -/
def L (g : GSem nD τ sig) : Finset ℕ := if g.1.2 = .tc then Finset.range 15 else ∅
/-- The level of a cell at a step. -/
def lvK : CK → ℕ → ℕ
  | .inl _, _ => 1
  | .inr (.inl (f, _, _)), u => if f = 1 then 2 * u + 2 else if f = 3 then 2 * u + 40 else 0
  | .inr (.inr (f, _)), u => if f = 1 then 2 * u + 3 else if f = 2 then 2 * u + 41 else 0
/-- The level of a cell at a step. -/
def lv (g : GSem nD τ sig) (u : ℕ) : ℕ := match kindOf g.2 with | none => 0 | some k => lvK k u

/-- Cells off the TensorCore have no indices. -/
theorem L_of_ne (g : GSem nD τ sig) (h : g.1.2 ≠ .tc) : L g = ∅ := if_neg h
/-- A cell on the TensorCore has the steps as indices. -/
theorem L_tc (c : Dev nD) (sm : SemLoc sig) : L ((c : Thread nD τ), sm) = Finset.range 15 := if_pos rfl
/-- The level of a cell is that of its kind. -/
theorem lv_kcell (c : Dev nD) (k : CK) (u : ℕ) : lv (kcell (c, k)) u = lvK k u := by
  dsimp only [lv, kcell]; rw [kindOf_locOf]

/-- The level of the payment at time `t`. -/
def lvT (t : ℕ) : ℕ :=
  if t < 2 then 1 else if t < 6 then 2
  else if t < 126 then (if t % 2 = 0 then 2 * ((t - 6) / 8) + 3 else 2 * ((t - 6) / 8) + 4)
  else if t < 130 then 40
  else (if t % 2 = 0 then 2 * ((t - 130) / 8) + 41 else 2 * ((t - 130) / 8) + 42)

/-- Equal payments agree in cell, step and units. -/
theorem some_triple {g g' : GSem nD τ sig} {u u' n n' : ℕ} (h : some (g, u, n) = some (g', u', n')) : g = g' ∧ u = u' ∧ n = n' := by
  have h := Option.some.inj h
  exact ⟨congrArg (·.1) h, congrArg (·.2.1) h, congrArg (·.2.2) h⟩

/-- A payment is to a cell of some device, at a step below fifteen, and at the level of its time. -/
theorem due_spec (c : Dev nD) (t : ℕ) (ht : t < 250) {g : GSem nD τ sig} {u n : ℕ} (h : due c t = some (g, u, n)) :
    ∃ d k, g = kcell (d, k) ∧ u < 15 ∧ lvK k u = lvT t := by
  unfold due at h
  unfold lvT
  split_ifs at h ⊢ <;>
    first
      | (exfalso; omega)
      | (exfalso; exact Option.noConfusion h)
      | (obtain ⟨rfl, rfl, rfl⟩ := some_triple h
         exact ⟨_, _, rfl, by omega, by simp [lvK] <;> omega⟩)

/-- What is still owed is paid at a later time, whose level is the cell's. -/
theorem owed_pos {c : Dev nD} {t : ℕ} {g : GSem nD τ sig} {u : ℕ} (h : 0 < owed t c g u) :
    ∃ i, t ≤ i ∧ i < 250 ∧ u ∈ L g ∧ lv g u = lvT i := by
  unfold owed at h
  rw [Finset.sum_apply, Finsupp.finsetSum_apply] at h
  obtain ⟨i, hi, hp⟩ := Finset.exists_ne_zero_of_sum_ne_zero (Nat.pos_iff_ne_zero.mp h)
  have hm := Finset.mem_Ico.mp hi
  refine ⟨i, hm.1, hm.2, ?_⟩
  unfold tal at hp
  rcases hd : due c i with _ | ⟨g', u', n'⟩
  · rw [hd] at hp; exact absurd rfl hp
  · rw [hd] at hp
    obtain ⟨d, k, rfl, hu, hl⟩ := due_spec c i hm.2 hd
    obtain ⟨rfl, rfl⟩ := Pipeline.tallyAt_pos (Nat.pos_of_ne_zero hp)
    exact ⟨by rw [L_tc]; exact Finset.mem_range.mpr hu, by rw [lv_kcell]; exact hl⟩

/-- What is owed from a time on is that time's payment and what is owed after it. -/
theorem owed_step (c : Dev nD) (t : ℕ) (ht : t < 250) : owed t c = owed (t + 1) c + tal c t := by
  unfold owed
  rw [show Finset.Ico t 250 = insert t (Finset.Ico (t + 1) 250) by ext x; simp only [Finset.mem_Ico, Finset.mem_insert]; omega,
    Finset.sum_insert (by rw [Finset.mem_Ico]; omega)]
  exact add_comm _ _
/-- At the end nothing is owed. -/
theorem owed_end (c : Dev nD) : owed 250 c = 0 := by unfold owed; rw [Finset.Ico_self]; rfl

omit [FloatOps F] in
/-- A wait below everything still owed is allowed. -/
theorem mayWait (c : Dev nD) (k : CK) (u t : ℕ) (hu : u < 15) (h : ∀ i, t ≤ i → i < 250 → lvK k u < lvT i) :
    (levAts L lv : sProp 𝕄) ⊢ MayWait (c : Thread nD τ) (locOf k) u (owed t c) :=
  Pipeline.mayWait_of_levAts (by rw [L_tc]; exact Finset.mem_range.mpr hu) fun g i hg => by
    obtain ⟨j, h1, h2, h3, h4⟩ := owed_pos hg
    refine ⟨h3, ?_⟩
    rw [h4, show ((c : Thread nD τ), locOf k) = kcell (c, k) from rfl, lv_kcell]
    exact h j h1 h2

end Cert.KernelIdeal.Chain
-- ==== Proof.Blocks.lean ====
module

public import proofs.«01_k».proof.Proof.Cells

/-! Program pieces as steps from one assertion to another, and the steps that touch only the device's own memory. -/

@[expose] public section

set_option synthInstance.maxSize 4096

noncomputable section

namespace Cert.KernelIdeal.Chain

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-- The assertions of the proof. -/
abbrev SP (F : FTy → Type) := sProp (MT nD τ sig ℕ (Elt F) ℕ UU ℕ)

/-- No recursion is used. -/
abbrev 𝒱₀ : Variants := Variants.none

/-- The weakest precondition of a program on device `c`. -/
abbrev WP (c : Dev nD) (k : PR F) (Q : PUnit → sProp 𝕄) : sProp 𝕄 :=
  wp frame (wpE (defs₀ (F := F)) 𝒱₀ (c : Thread nD τ) none) Set.univ k Q

/-- The program piece `f` takes `P` to `P'` on device `c`, the facts `R` at hand. -/
def Tri (R : sProp 𝕄) (c : Dev nD) (P P' : sProp 𝕄) (f : PR F → PR F) : Prop :=
  ∀ (Q : PUnit → sProp 𝕄) (k : PR F), iprop(R ∗ P ∗ (P' -∗ WP c k Q)) ⊢ WP c (f k) Q

section Tri
variable {R : SP F} [BI.Persistent R] {c : Dev nD} {P P' P'' X : SP F} {f g : PR F → PR F}

/-- One piece after another. -/
theorem Tri.comp (h : Tri R c P P' f) (h' : Tri R c P' P'' g) : Tri R c P P'' (fun k => f (g k)) := fun Q k => by
  iintro ⟨#HR, HP, Hk⟩
  iapply (h Q (g k))
  isplitr; · iexact HR
  isplitl [HP]; · iexact HP
  iintro HP'
  iapply (h' Q k)
  isplitr; · iexact HR
  isplitl [HP']; · iexact HP'
  iexact Hk

/-- What a piece does not use it keeps. -/
theorem Tri.frame (h : Tri R c P P' f) (X : sProp 𝕄) : Tri R c iprop(P ∗ X) iprop(P' ∗ X) f := fun Q k => by
  iintro ⟨HR, ⟨HP, HX⟩, Hk⟩
  iapply (h Q k)
  isplitl [HR]; · iexact HR
  isplitl [HP]; · iexact HP
  iintro HP'
  iapply Hk
  isplitl [HP'] <;> iassumption

/-- The facts at hand may be used before a piece. -/
theorem Tri.pre (h : Tri R c P' P'' f) (e : iprop(R ∗ P) ⊢ P') : Tri R c P P'' f := fun Q k => by
  iintro ⟨#HR, HP, Hk⟩
  iapply (h Q k)
  isplitr; · iexact HR
  isplitl [HP]
  · iapply e; isplitr; · iexact HR
    iexact HP
  iexact Hk

/-- The facts at hand may be used after a piece. -/
theorem Tri.post (h : Tri R c P P' f) (e : iprop(R ∗ P') ⊢ P'') : Tri R c P P'' f := fun Q k => by
  iintro ⟨#HR, HP, Hk⟩
  iapply (h Q k)
  isplitr; · iexact HR
  isplitl [HP]; · iexact HP
  iintro HP'
  iapply Hk
  iapply e; isplitr; · iexact HR
  iexact HP'

/-- Doing nothing. -/
theorem Tri.skip (e : iprop(R ∗ P) ⊢ P') : Tri R c P P' (fun k => k) := fun Q k => by
  iintro ⟨HR, HP, Hk⟩
  iapply Hk
  iapply e
  isplitl [HR] <;> iassumption

/-- The facts at hand may be turned into an assertion by a ghost step before a piece. -/
theorem Tri.fupd (h : Tri R c P' P'' f) (e : iprop(R ∗ P) ⊢ iprop(|={Set.univ}=> P')) : Tri R c P P'' f := fun Q k => by
  iintro ⟨#HR, HP, Hk⟩
  ihave H := e $$ [HP]
  · isplitr; · iexact HR
    iexact HP
  imod H
  iapply (h Q k)
  isplitr; · iexact HR
  isplitl [H]; · iexact H
  iexact Hk

/-- The same after a piece. -/
theorem Tri.postFupd (h : Tri R c P P' f) (e : iprop(R ∗ P') ⊢ iprop(|={Set.univ}=> P'')) : Tri R c P P'' f := fun Q k => by
  iintro ⟨#HR, HP, Hk⟩
  iapply (h Q k)
  isplitr; · iexact HR
  isplitl [HP]; · iexact HP
  iintro HP'
  ihave H := e $$ [HP']
  · isplitr; · iexact HR
    iexact HP'
  imod H
  iapply Hk
  iexact H

/-- An optional piece. -/
theorem Tri.opt {p : Prop} [Decidable p] (h : p → Tri R c P P' f) (h' : ¬ p → iprop(R ∗ P) ⊢ P') : Tri R c P P' (opt p f) := by
  by_cases hp : p
  · have e : Chain.opt p f = f := by funext k; exact if_pos hp
    rw [e]; exact h hp
  · have e : Chain.opt p f = fun k => k := by funext k; exact if_neg hp
    rw [e]; exact Tri.skip (h' hp)

/-- A run of steps, each taking the assertion of its number to the next. -/
theorem Tri.steps (I : ℕ → sProp 𝕄) (f : ℕ → PR F → PR F) (n : ℕ) : ∀ s, (∀ i, s ≤ i → i < s + n → Tri R c (I i) (I (i + 1)) (f i)) →
    Tri R c (I s) (I (s + n)) (steps f n s) := by
  induction n with
  | zero => intro s _; exact Tri.skip (by iintro ⟨-, H⟩; iexact H)
  | succ n ih =>
    intro s h
    have h1 := h s (le_refl _) (by omega)
    have h2 := ih (s + 1) fun i hi hi' => h i (by omega) (by omega)
    rw [show s + 1 + n = s + (n + 1) by omega] at h2
    exact h1.comp h2

/-- A pass over the four rings, each changing its own part and a common one. -/
theorem Tri.rings (T : ℕ → sProp 𝕄) (A B : Fin 4 → sProp 𝕄) (f : Fin 4 → PR F → PR F)
    (h : ∀ r : Fin 4, Tri R c iprop(T r.val ∗ A r) iprop(T (r.val + 1) ∗ B r) (f r)) :
    Tri R c iprop(T 0 ∗ A 0 ∗ A 1 ∗ A 2 ∗ A 3) iprop(T 4 ∗ B 0 ∗ B 1 ∗ B 2 ∗ B 3) (rings f) := by
  have h0 := (show Tri R c iprop(T 0 ∗ A 0) iprop(T 1 ∗ B 0) (f 0) from h 0).frame iprop(A 1 ∗ A 2 ∗ A 3)
  have h1 := (show Tri R c iprop(T 1 ∗ A 1) iprop(T 2 ∗ B 1) (f 1) from h 1).frame iprop(B 0 ∗ A 2 ∗ A 3)
  have h2 := (show Tri R c iprop(T 2 ∗ A 2) iprop(T 3 ∗ B 2) (f 2) from h 2).frame iprop(B 0 ∗ B 1 ∗ A 3)
  have h3 := (show Tri R c iprop(T 3 ∗ A 3) iprop(T 4 ∗ B 3) (f 3) from h 3).frame iprop(B 0 ∗ B 1 ∗ B 2)
  refine (((h0.pre ?_).comp ((h1.pre ?_).comp ((h2.pre ?_).comp (h3.pre ?_)))).post ?_ : Tri R c _ _ (fun k => f 0 (f 1 (f 2 (f 3 k)))))
  · iintro ⟨-, H, H0, H1, H2, H3⟩; isplitl [H H0]
    · isplitl [H] <;> iassumption
    · isplitl [H1]; · iexact H1
      isplitl [H2] <;> iassumption
  · iintro ⟨-, ⟨H, H0⟩, H1, H2, H3⟩; isplitl [H H1]
    · isplitl [H] <;> iassumption
    · isplitl [H0]; · iexact H0
      isplitl [H2] <;> iassumption
  · iintro ⟨-, ⟨H, H1⟩, H0, H2, H3⟩; isplitl [H H2]
    · isplitl [H] <;> iassumption
    · isplitl [H0]; · iexact H0
      isplitl [H1] <;> iassumption
  · iintro ⟨-, ⟨H, H2⟩, H0, H1, H3⟩; isplitl [H H3]
    · isplitl [H] <;> iassumption
    · isplitl [H0]; · iexact H0
      isplitl [H1] <;> iassumption
  · iintro ⟨-, ⟨H, H3⟩, H0, H1, H2⟩
    isplitl [H]; · iexact H
    isplitl [H0]; · iexact H0
    isplitl [H1]; · iexact H1
    isplitl [H2] <;> iassumption

end Tri

/-! ## Loads and stores -/

section Mem
variable {c : Dev nD} {cs : CoreSpace} {s : Shape} {e : EltTy} {Q : PUnit → SP F}

/-- A load through a rectangle reads the contents of the slice. -/
theorem load_owns (m : Memref sig .tc cs s e) (r : Rect s) (hr : ∀ a, r.stride a = 1) {hl : m.view.LoadsAt r.toLoadRect}
    {k : (r.shape.Idx → Elt F e) → PR F} {q : PosShare TreeShare} (X : r.shape.Idx → Elt F e) :
    (owns (c : Thread nD τ) (m.slice r hr) q X : sProp 𝕄)
      ⊢ iprop((owns (c : Thread nD τ) (m.slice r hr) q X -∗ WP c (k X) Q) -∗ WP c (.op (.load m r.toLoadRect hl) k) Q) := by
  iintro H Hk
  ihave H := (show owns (c : Thread nD τ) (m.slice r hr) q X ⊢ iprop(∃ f, ⌜(m.slice r hr).view.read (Elt F) f = X⌝
    ∗ ((m.slice r hr).view.loc (c : Thread nD τ) ↦[(m.slice r hr).view.set]{q} f)) from .rfl) $$ H
  icases H with ⟨%f, %hf, H⟩
  subst hf
  iapply (wp_load 𝒱₀ (c : Thread nD τ) none Set.univ (m := m) (r := r.toLoadRect) (S := (m.slice r hr).view.set) (f := f) (q := q)
    (le_of_eq (View.set_slice m.view r).symm)) $$ H
  iintro H
  iapply Hk
  iapply (owns_intro (c : Thread nD τ) (m.slice r hr) q f)
  iexact H

/-- A store through a rectangle leaves the stored contents in the slice. -/
theorem store_owns (m : Memref sig .tc cs s e) (r : Rect s) (hr : ∀ a, r.stride a = 1) {w : r.shape.Idx → Elt F e}
    {hx : (m.access r).Stores Finset.univ} {hm : (Finset.univ : Finset r.shape.Idx) = Finset.univ ∨ ∀ a, r.stride a = 1}
    {k : PUnit → PR F} (X : r.shape.Idx → Elt F e) :
    (owns (c : Thread nD τ) (m.slice r hr) fullShare X : sProp 𝕄)
      ⊢ iprop((owns (c : Thread nD τ) (m.slice r hr) fullShare w -∗ WP c (k ⟨⟩) Q) -∗ WP c (.op (.store m r w Finset.univ hx hm) k) Q) := by
  iintro H Hk
  ihave H := (show owns (c : Thread nD τ) (m.slice r hr) fullShare X ⊢ iprop(∃ f, ⌜(m.slice r hr).view.read (Elt F) f = X⌝
    ∗ ((m.slice r hr).view.loc (c : Thread nD τ) ↦[(m.slice r hr).view.set]{fullShare} f)) from .rfl) $$ H
  icases H with ⟨%f, -, H⟩
  iapply (wp_store 𝒱₀ (c : Thread nD τ) none Set.univ (m := m) (r := r) (Mk := Finset.univ) (S := (m.slice r hr).view.set) (f := f)
    (Finset.Subset.refl _)) $$ H
  iintro H
  iapply Hk
  ihave H := (owns_intro (c : Thread nD τ) (m.slice r hr) fullShare ((m.access r).write (Elt F) f w Finset.univ)) $$ H
  rw [show (m.slice r hr).view.read (Elt F) ((m.access r).write (Elt F) f w Finset.univ) = w from View.read_write_univ f w]
  iexact H

end Mem

/-! ## The accumulator's blocks -/

section Acc
variable {R : SP F} [BI.Persistent R] {c : Dev nD}

omit [FloatOps F] in
/-- Reading the receive slot in the shape it is stored in. -/
theorem comO_elim (r : Fin 4) (i : ℕ) (X : Vec F S256x512 .f32) :
    (comO c r i X : sProp 𝕄) ⊢ iprop(∃ X' : Vec F S1x1x256x512 .f32, ⌜shapeCast S256x512 X' shapeCasts_S1x1x256x512_S256x512 = X⌝
      ∗ owns (c : Thread nD τ) (comR.slice (Rect.unit (s := S4x2x256x512) ![r.val, i % 2, 0, 0] S1x1x256x512.size (com_inb r i)) (fun _ => rfl)) fullShare X') := by
  unfold comO owns
  iintro ⟨%f, %hf, H⟩
  iexists (comR.slice (Rect.unit (s := S4x2x256x512) ![r.val, i % 2, 0, 0] S1x1x256x512.size (com_inb r i)) (fun _ => rfl)).view.read (Elt F) f
  isplitr
  · ipureintro; rw [← hf]; rfl
  iexists f
  isplitr; · ipureintro; rfl
  rw [Memref.set_view_squeeze]
  iexact H

omit [FloatOps F] in
/-- And back. -/
theorem comO_intro (r : Fin 4) (i : ℕ) (X' : Vec F S1x1x256x512 .f32) :
    (owns (c : Thread nD τ) (comR.slice (Rect.unit (s := S4x2x256x512) ![r.val, i % 2, 0, 0] S1x1x256x512.size (com_inb r i)) (fun _ => rfl)) fullShare X' : sProp 𝕄)
      ⊢ comO c r i (shapeCast S256x512 X' shapeCasts_S1x1x256x512_S256x512) := by
  unfold comO owns
  iintro ⟨%f, %hf, H⟩
  iexists f
  isplitr
  · ipureintro; rw [← hf]; rfl
  rw [Memref.set_view_squeeze]
  iexact H

/-- Adding a received block to a block of the accumulator. -/
theorem tri_add (r : Fin 4) (i : ℕ) (k : Dev nD) (a v : Vec F S256x512 .f32) :
    Tri R c iprop(accO c r k fullShare a ∗ comO c r i v) iprop(accO c r k fullShare (add2 a v) ∗ comO c r i v) (iAdd r i (cblk r k)) := fun Q K => by
  iintro ⟨-, ⟨Ha, Hv⟩, Hk⟩
  ihave Hv := (comO_elim r i v) $$ Hv
  icases Hv with ⟨%v', %hv, Hv⟩
  unfold iAdd accO
  iapply (load_owns accR _ _ a) $$ Ha; iintro Ha
  iapply (load_owns comR _ _ v') $$ Hv; iintro Hv
  iapply (load_owns accR _ _ a) $$ Ha; iintro Ha
  iapply (store_owns accR _ _ a) $$ Ha; iintro Ha
  iapply Hk
  subst hv
  isplitl [Ha]; · iexact Ha
  iapply (comO_intro r i v'); iexact Hv

/-- A block's positive part. -/
theorem tri_relu (r : Fin 4) (k : Dev nD) (a : Vec F S256x512 .f32) :
    Tri R c (accO c r k fullShare a) (accO c r k fullShare (reluPay a)) (iRelu (cblk r k)) := fun Q K => by
  iintro ⟨-, Ha, Hk⟩
  unfold iRelu accO
  iapply (load_owns accR _ _ a) $$ Ha; iintro Ha
  iapply (load_owns accR _ _ a) $$ Ha; iintro Ha
  iapply (store_owns accR _ _ a) $$ Ha; iintro Ha
  iapply Hk; iexact Ha

/-- Band `k` of the accumulator as a rectangle. -/
abbrev bandRect (k : Dev nD) : Rect S4096x2048 := Rect.unit (s := S4096x2048) (band k).1 S256x2048.size (band k).2
/-- Band `k` of the accumulator, any contents. -/
def bandS (c k : Dev nD) : sProp 𝕄 := iprop(∃ X, owns (c : Thread nD τ) (accR.slice (bandRect k) (fun _ => rfl)) fullShare X)

/-- The columns of different rings are disjoint. -/
theorem col_disj (r r' : Fin 4) (h : r ≠ r') : Disjoint (colRect r).set (colRect r').set := by
  refine Rect.unit_disjoint (1 : Fin 2) ?_
  show 512 * r.val + 512 ≤ 512 * r'.val ∨ 512 * r'.val + 512 ≤ 512 * r.val
  have : r.val ≠ r'.val := fun h' => h (Fin.ext h')
  omega

/-- The columns of the four rings are all columns. -/
theorem col_cov : (Finset.univ : Finset (Fin 4)).biUnion (fun r => (colRect r).set) = Finset.univ := by
  refine Finset.eq_univ_iff_forall.mpr fun i => Finset.mem_biUnion.mpr ?_
  have h1 : (i 1).val < 2048 := (i 1).isLt
  have h0 : (i 0).val < 256 := (i 0).isLt
  refine ⟨⟨(i 1).val / 512, by omega⟩, Finset.mem_univ _, Rect.mem_set_unit.mpr fun a => ?_⟩
  fin_cases a
  · show 0 ≤ (i 0).val ∧ (i 0).val < 0 + 256; omega
  · show 512 * ((i 1).val / 512) ≤ (i 1).val ∧ (i 1).val < 512 * ((i 1).val / 512) + 512; omega

/-- An entry of a ring's columns of a band is that entry of the block. -/
theorem emb_col (r : Fin 4) (k : Dev nD) (j : S256x512.Idx) :
    (bandRect k).emb ((colRect r).emb j) = (Rect.unit (s := S4096x2048) (cblk r k).1 S256x512.size (cblk r k).2).emb j := by
  funext a
  apply Fin.ext
  fin_cases a
  · show 256 * k.val + 1 * (0 + 1 * (j 0).val) = 256 * k.val + 1 * (j 0).val; omega
  · show 0 + 1 * (512 * r.val + 1 * (j 1).val) = 512 * r.val + 1 * (j 1).val; omega

omit [FloatOps F] in
/-- A column block of a band is a block of the accumulator. -/
theorem owns_col (r : Fin 4) (k : Dev nD) (X : Vec F S256x512 .f32) :
    (owns (c : Thread nD τ) ((accR.slice (bandRect k) (fun _ => rfl)).slice (colRect r) (fun _ => rfl)) fullShare X : sProp 𝕄) ⊢ accO c r k fullShare X := by
  unfold accO owns
  have hset : ((accR.slice (bandRect k) (fun _ => rfl)).slice (colRect r) (fun _ => rfl)).view.set = (accB (cblk r k)).view.set := by
    show Finset.univ.map _ = Finset.univ.map _
    congr 1
    ext j : 1
    exact emb_col r k j
  iintro ⟨%f, %hf, H⟩
  iexists f
  isplitr
  · ipureintro; rw [← hf]; funext j
    show f _ = f _
    exact congrArg f (emb_col r k j).symm
  rw [← hset]
  iexact H

/-- The operand and the weights on device `c`. -/
abbrev xM : Memref sig .tc .vmem S4096x256 .f32 := Memref.whole cc0_stg0_0
/-- The weights. -/
abbrev wM : Memref sig .tc .vmem S256x2048 .f32 := Memref.whole cc0_stg1_0

variable (xv : Dev nD → Vec F S4096x256 .f32) (wv : Dev nD → Vec F S256x2048 .f32)

/-- Both operands' buffers. -/
def inP (c : Dev nD) : sProp 𝕄 :=
  iprop((((c : Thread nD τ).loc cc0_stg0_0) ↦{fullShare} xv c) ∗ (((c : Thread nD τ).loc cc0_stg1_0) ↦{fullShare} wv c))
/-- The four blocks of band `k`, multiplied. -/
def partP (c k : Dev nD) : sProp 𝕄 :=
  bigSep Finset.univ fun r : Fin 4 => accO c r k fullShare (partV xv wv r c k)

/-- A product into a band. -/
theorem tri_gemm (k : Dev nD) :
    Tri R c iprop(inP xv wv c ∗ bandS c k) iprop(inP xv wv c ∗ partP xv wv c k) (iGemm xM wM (xblk k) (band k)) := fun Q K => by
  unfold inP bandS
  iintro ⟨-, ⟨⟨Hx, Hw⟩, ⟨%X, Hb⟩⟩, Hk⟩
  unfold iGemm
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (load_owns accR _ _ X) $$ Hb; iintro Hb
  iapply (store_owns accR _ _ X) $$ Hb; iintro Hb
  iapply Hk
  isplitl [Hx Hw]
  · isplitl [Hx] <;> iassumption
  rw [show wM.view.readAt (Elt F) (Rect.unit (s := S256x2048) ![0, 0] S256x2048.size inb_S256x2048_S256x2048_0_0).toLoadRect (wv c) = wv c from
    Memref.readAt_unit_zero (Elt F) cc0_stg1_0 (by funext a; fin_cases a <;> rfl) _ _]
  ihave Hb := (owns_rects (c : Thread nD τ) (accR.slice (bandRect k) (fun _ => rfl)) fullShare colRect (fun _ _ => rfl) col_disj col_cov
    (bandV xv wv c k)) $$ [Hb]
  · iexact Hb
  iapply (show bigSep (Finset.univ : Finset (Fin 4)) (fun r => (owns (c : Thread nD τ) ((accR.slice (bandRect k) (fun _ => rfl)).slice (colRect r) (fun _ => rfl))
      fullShare (partV xv wv r c k) : sProp 𝕄)) ⊢ partP xv wv c k from bigSep_mono fun r _ => owns_col r k _)
  iexact Hb

end Acc

end Cert.KernelIdeal.Chain
-- ==== Proof.Steps.lean ====
module

public import proofs.«01_k».proof.Proof.Blocks
public import Idealize.SL.BI.BigOpNat

/-! The steps that touch the cells: signals, waits, transfers, and the release of a written place. -/

@[expose] public section

set_option synthInstance.maxSize 4096

noncomputable section

namespace Cert.KernelIdeal.Chain

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-- The records all devices share: the cells' invariants, that every cell has reached its first round, the written
places' invariants, and the levels. -/
def recs (xv : Dev nD → Vec F S4096x256 .f32) (wv : Dev nD → Vec F S256x2048 .f32) (K : Dev nD × CK → ℕ) (ιs : Kx → ℕ) : SP F :=
  iprop(bigSep (Finset.univ : Finset (Dev nD × CK)) (fun ck => cellInv ER (Rd xv wv) (K ck) (kcell ck))
    ∗ bigSep (Finset.univ : Finset (Dev nD × CK)) (fun ck => reached ER (kcell ck) 0)
    ∗ bigSep (Finset.univ : Finset Kx) (fun k => Release.slotInv EQ (ιs k) k (slotS k))
    ∗ levAts L lv)

variable (xv : Dev nD → Vec F S4096x256 .f32) (wv : Dev nD → Vec F S256x2048 .f32) (K : Dev nD × CK → ℕ) (ιs : Kx → ℕ)

instance recs_persistent : BI.Persistent (recs xv wv K ιs) := by unfold recs; infer_instance

/-- The records hold every cell's invariant. -/
theorem recs_cell (ck : Dev nD × CK) : recs xv wv K ιs ⊢ cellInv ER (Rd xv wv) (K ck) (kcell ck) := by
  unfold recs; iintro ⟨H, -⟩
  iapply (show bigSep (Finset.univ : Finset (Dev nD × CK)) (fun ck => cellInv ER (Rd xv wv) (K ck) (kcell ck)) ⊢ _ from bigSep_elim (Finset.mem_univ ck))
  iexact H
/-- The same for a cell given by another name. -/
theorem recs_cell_at (ck : Dev nD × CK) {g : GSem nD τ sig} (e : kcell ck = g) : recs xv wv K ιs ⊢ cellInv ER (Rd xv wv) (K ck) g := by
  rw [← e]; exact recs_cell xv wv K ιs ck
/-- Every cell has reached its first round. -/
theorem recs_reached (ck : Dev nD × CK) : recs xv wv K ιs ⊢ reached ER (kcell ck) 0 := by
  unfold recs; iintro ⟨-, H, -⟩
  iapply (show bigSep (Finset.univ : Finset (Dev nD × CK)) (fun ck => (reached ER (kcell ck) 0 : SP F)) ⊢ _ from bigSep_elim (Finset.mem_univ ck))
  iexact H
/-- The records hold every written place's invariant. -/
theorem recs_slot (k : Kx) : recs xv wv K ιs ⊢ Release.slotInv EQ (ιs k) k (slotS k) := by
  unfold recs; iintro ⟨-, -, H, -⟩
  iapply (show bigSep (Finset.univ : Finset Kx) (fun k => (Release.slotInv EQ (ιs k) k (slotS k) : SP F)) ⊢ _ from bigSep_elim (Finset.mem_univ k))
  iexact H
/-- The records hold the levels. -/
theorem recs_lev : recs xv wv K ιs ⊢ levAts L lv := by
  unfold recs; iintro ⟨-, -, -, H⟩; iexact H

/-- What device `c` owes from time `t` on. -/
def ow (c : Dev nD) (t : ℕ) : SP F := iprop(∃ W, owes (c : Thread nD τ) (owed t c) W)

section Steps
variable (c : Dev nD)

/-- A wait at a cell is allowed if its level is below that of everything still owed. -/
theorem recs_may (k : CK) (u t : ℕ) (hu : u < 15) (hlt : ∀ i, t ≤ i → i < 250 → lvK k u < lvT i) {l : SemLoc sig} (e : locOf k = l) :
    recs xv wv K ιs ⊢ MayWait (c : Thread nD τ) l u (owed t c) := by
  have h := @mayWait F c k u t hu hlt
  rw [e] at h
  exact (@recs_lev F _ xv wv K ιs).trans h

/-! ## Signals -/

/-- A signal pays its cell what the duty carries. -/
theorem tri_signal (d : Dev nD) (k : CK) (sem : Sem sig) (e : locOf k = .reg sem) (t u j : ℕ) (ht : t < 250)
    (hdue : due c t = some (kcell (d, k), u, 1)) (hj : j ∈ dutK k 0) (ha : amtK k = 1) :
    Tri (recs xv wv K ιs) c iprop(ow c t ∗ dutyTok ER (kcell (d, k)) 0 j ∗ payK xv wv d k 0 j) (ow c (t + 1)) (iSignal d sem) := fun Q k' => by
  have e' : kcell (d, k) = ((d : Thread nD τ), .reg sem) := by show (_, _) = _; rw [e]
  have hd : j ∈ (Rd xv wv).duties ((d : Thread nD τ), .reg sem) 0 := by rw [← e', Rd_duties]; exact hj
  have hk : (Rd xv wv).amount ((d : Thread nD τ), .reg sem) 0 j = 1 := by rw [← e', Rd_amount]; exact ha
  have hp : payK xv wv d k 0 j = (Rd xv wv).payload ((d : Thread nD τ), .reg sem) 0 j := by rw [← e', Rd_payload]
  have hO : owed t c = owed (t + 1) c + tallyAt ((d : Thread nD τ), .reg sem) u 1 := by
    rw [owed_step c t ht]; unfold tal; rw [hdue, e']
  have hr := recs_reached xv wv K ιs (d, k)
  unfold ow iSignal
  rw [hp]
  rw [e'] at hr ⊢
  iintro ⟨#HR, ⟨⟨%W, HO⟩, Ht, Hp⟩, Hk⟩
  ihave #HI := (recs_cell_at xv wv K ιs (d, k) e') $$ HR
  ihave #Hr := hr $$ HR
  iapply (Rounds.wp_signal 𝒱₀ ER (Rd xv wv) (c : Thread nD τ) none (dst := (d : Thread nD τ)) (κ := K (d, k)) hd (hk.trans (by decide)) u (owed (t + 1) c) (by exact hO) (W := W)) $$ [HO Ht Hp]
  · isplitr; · iexact HI
    isplitl [HO]; · iexact HO
    isplitl [Ht]; · iexact Ht
    isplitl [Hp]; · iexact Hp
    iexact Hr
  iintro HO
  iapply Hk
  iexists W; iexact HO

/-! ## Waits -/

/-- The positions at a pair of two-slot cells after `n` waits. -/
def Pos (f : Fin 5) (r : Fin 4) (n : ℕ) : SP F :=
  iprop(atPos ER (cel2 c f r n) (n / 2) ∅ 0 ∗ atPos ER (cel2 c f r (n + 1)) ((n + 1) / 2) ∅ 0)
/-- The rounds reached after `n` waits. -/
def Rch (f : Fin 5) (r : Fin 4) (n : ℕ) : SP F :=
  bigSep (Finset.range (n + 2)) fun i => reached ER (cel2 c f r i) (i / 2)

omit [FloatOps F] in
instance Rch_persistent (f : Fin 5) (r : Fin 4) (n : ℕ) : BI.Persistent (Rch (F := F) c f r n) := by unfold Rch; infer_instance

omit [FloatOps F] in
/-- The rounds known to be reached include that of every step up to two ahead. -/
theorem Rch_elim (f : Fin 5) (r : Fin 4) (n i : ℕ) (hi : i < n + 2) : Rch (F := F) c f r n ⊢ reached ER (cel2 c f r i) (i / 2) := by
  unfold Rch; exact bigSep_elim (Finset.mem_range.mpr hi)

omit [FloatOps F] in
/-- One further round reached extends what is known. -/
theorem Rch_succ (f : Fin 5) (r : Fin 4) (n : ℕ) :
    iprop(Rch (F := F) c f r n ∗ reached ER (cel2 c f r n) (n / 2 + 1)) ⊢ Rch c f r (n + 1) := by
  unfold Rch
  rw [show n + 1 + 2 = (n + 2) + 1 by omega, bigSep_range_succ (n + 2), cel2_add, show (n + 2) / 2 = n / 2 + 1 by omega]
  iintro ⟨H, H'⟩
  isplitl [H'] <;> iassumption

/-- At the start the first rounds are reached. -/
theorem Rch_zero (f : Fin 5) (r : Fin 4) : recs xv wv K ιs ⊢ Rch c f r 0 := by
  unfold Rch
  rw [bigSep_range_succ 1, bigSep_range_succ 0, Finset.range_zero, bigSep_empty]
  iintro #H
  isplitr
  · iapply (recs_reached xv wv K ιs (c, ck2 f r 1)); iexact H
  · isplitr; · iapply (recs_reached xv wv K ιs (c, ck2 f r 0)); iexact H
    iempintro

/-- A wait for the transfer of step `n` at a two-slot cell. -/
theorem tri_dwait2 (f : Fin 5) (r : Fin 4) (n t u : ℕ) (hn : n < 15) (hu : u < 15) {m₁ m₂ : Space} (sem : DmaSem sig)
    (e : sem = sem2 (arr2 f) r n)
    (a : Memref sig .tc m₁ S256x512 .f32) (b : Memref sig .tc m₂ S256x512 .f32) (hb : b.view.dmaCredit = NN)
    (hlt : ∀ i, t ≤ i → i < 250 → lvK (ck2 f r n) u < lvT i) :
    Tri (recs xv wv K ιs) c iprop(ow c t ∗ Pos c f r n ∗ Rch c f r n ∗ cred (tallyAt (cel2 c f r n) u NN))
      iprop(ow c t ∗ Pos c f r (n + 1) ∗ Rch c f r (n + 1) ∗ pay2 xv wv f c r n) (iDWait sem a b) := fun Q k' => by
  have e' : cel2 c f r n = ((c : Thread nD τ), .dma sem) := by rw [cel2_eq, e]
  have hexp : (Rd xv wv).expect ((c : Thread nD τ), .dma sem) (n / 2) = NN := by rw [← e', expect2 xv wv c f r n hn]
  have hrest : bigSep ((Rd xv wv).duties ((c : Thread nD τ), .dma sem) (n / 2) \ ∅) (fun d => (Rd xv wv).payload ((c : Thread nD τ), .dma sem) (n / 2) d)
      = pay2 xv wv f c r n := by rw [← e', rest2 xv wv c f r n hn]
  have hmay : recs xv wv K ιs ⊢ MayWait (c : Thread nD τ) (.dma sem) u (owed t c) :=
    recs_may xv wv K ιs c (ck2 f r n) u t hu hlt (congrArg Prod.snd e')
  have hRch := Rch_succ (F := F) c f r n
  unfold Pos ow iDWait
  rw [cel2_add, show (n + 1 + 1) / 2 = n / 2 + 1 by omega]
  rw [e'] at hRch ⊢
  iintro ⟨#HR, ⟨⟨%W, HO⟩, ⟨Hat, Hat'⟩, #Hr, Hc⟩, Hk⟩
  ihave #HI := (recs_cell_at xv wv K ιs (c, ck2 f r n) e') $$ HR
  iapply (Rounds.wp_wait_rest_token 𝒱₀ ER (Rd xv wv) (c : Thread nD τ) none (κ := K (c, ck2 f r n))
      (wpE_waitDma2_eq 𝒱₀ (c : Thread nD τ) none Set.univ) (Set.mem_univ _) u (O := owed t c) (W := W) (R := n / 2) (m := 0) (T := ∅)
      (by rw [Nat.zero_add, hexp]; exact hb)) $$ [Hc HO Hat]
  · isplitr; · iexact HI
    isplitl [Hc]; · rw [hb]; iexact Hc
    isplitl [HO]; · iexact HO
    isplitr; · iapply hmay; iexact HR
    iexact Hat
  iintro ⟨HO, Hat, #Hr', Hpay⟩
  iapply Hk
  isplitl [HO]; · iexists _; iexact HO
  isplitl [Hat Hat']
  · isplitl [Hat']; · iexact Hat'
    iexact Hat
  isplitr
  · iapply hRch; isplitr; · iexact Hr
    iexact Hr'
  iapply (Entails.of_eq hrest); iexact Hpay

/-- The wait for the copy of the own block. -/
theorem tri_dwait1 (r : Fin 4) (t : ℕ) {m₁ m₂ : Space}
    (a : Memref sig .tc m₁ S256x512 .f32) (b : Memref sig .tc m₂ S256x512 .f32) (hb : b.view.dmaCredit = NN)
    (hlt : ∀ i, t ≤ i → i < 250 → 0 < lvT i) :
    Tri (recs xv wv K ιs) c iprop(ow c t ∗ atPos ER (cel1 c 0 r) 0 ∅ 0 ∗ cred (tallyAt (cel1 c 0 r) 0 NN))
      iprop(ow c t ∗ atPos ER (cel1 c 0 r) 1 ∅ 0 ∗ pay1 xv wv 0 c r 0) (iDWait (sem1 cc0_scratch9 r) a b) := fun Q k' => by
  have hexp : (Rd xv wv).expect ((c : Thread nD τ), .dma (sem1 cc0_scratch9 r)) 0 = NN :=
    (Rd_expect xv wv c (ck1 0 r) 0).trans (Nat.one_mul _)
  have hrest : bigSep ((Rd xv wv).duties ((c : Thread nD τ), .dma (sem1 cc0_scratch9 r)) 0 \ ∅)
      (fun d => (Rd xv wv).payload ((c : Thread nD τ), .dma (sem1 cc0_scratch9 r)) 0 d) = pay1 xv wv 0 c r 0 := by
    rw [Finset.sdiff_empty, show (Rd xv wv).duties ((c : Thread nD τ), .dma (sem1 cc0_scratch9 r)) 0 = {0} from Rd_duties xv wv c (ck1 0 r) 0, bigSep_singleton]
    exact Rd_payload xv wv c (ck1 0 r) 0 0
  have hmay := recs_may xv wv K ιs c (ck1 0 r) 0 t (by decide) hlt rfl
  unfold ow iDWait cel1
  iintro ⟨#HR, ⟨⟨%W, HO⟩, Hat, Hc⟩, Hk⟩
  ihave #HI := (recs_cell xv wv K ιs (c, ck1 0 r)) $$ HR
  iapply (Rounds.wp_wait_rest_token 𝒱₀ ER (Rd xv wv) (c : Thread nD τ) none (κ := K (c, ck1 0 r))
      (wpE_waitDma2_eq 𝒱₀ (c : Thread nD τ) none Set.univ) (Set.mem_univ _) 0 (O := owed t c) (W := W) (R := 0) (m := 0) (T := ∅)
      (by rw [Nat.zero_add, hexp]; exact hb)) $$ [Hc HO Hat]
  · isplitr; · iexact HI
    isplitl [Hc]; · rw [hb]; iexact Hc
    isplitl [HO]; · iexact HO
    isplitr; · iapply hmay; iexact HR
    iexact Hat
  iintro ⟨HO, Hat, -, Hpay⟩
  iapply Hk
  isplitl [HO]; · iexists _; iexact HO
  isplitl [Hat]; · iexact Hat
  iapply (Entails.of_eq hrest); iexact Hpay

/-- The facts a phase's credits bring. -/
def cfact (f : Fin 3) (r : Fin 4) (n : ℕ) : SP F := if f = 1 then sfacts (nxt r c) r n else afacts (nxt r c) r n

omit [FloatOps F] in
instance cfact_persistent (f : Fin 3) (r : Fin 4) (n : ℕ) : BI.Persistent (cfact (F := F) c f r n) := by
  unfold cfact; split <;> infer_instance

/-- A credit carries the facts up to three steps ahead. -/
theorem pay1_eq (f : Fin 3) (hf : f ≠ 0) (r : Fin 4) (d : ℕ) : pay1 xv wv f c r d = cfact c f r (d + 3) := by
  fin_cases f
  · exact absurd rfl hf
  · rfl
  · rfl

omit [FloatOps F] in
/-- Knowing more facts one knows fewer. -/
theorem cfact_mono (f : Fin 3) (r : Fin 4) {n n' : ℕ} (h : n ≤ n') : cfact (F := F) c f r n' ⊢ cfact c f r n := by
  unfold cfact sfacts afacts
  have hs : Finset.range n ⊆ Finset.range n' := Finset.range_subset_range.mpr h
  split <;> exact bigSep_subset hs

/-- The position at a credit cell after `m` waits. -/
def CrPos (f : Fin 3) (r : Fin 4) (m : ℕ) : SP F :=
  if m < 13 then iprop(∃ S : Finset ℕ, ⌜S ⊆ Finset.range 13⌝ ∗ atPos ER (cel1 c f r) 0 S m ∗ bigSep S fun d => cfact c f r (d + 3))
  else atPos ER (cel1 c f r) 1 ∅ 0

omit [FloatOps F] in
/-- More than `m` of the duties include one past `m`. -/
theorem facts_of_card (f : Fin 3) (r : Fin 4) (S : Finset ℕ) (m : ℕ) (h : m < S.card) :
    (bigSep S fun d => cfact (F := F) c f r (d + 3)) ⊢ cfact c f r (m + 3) := by
  obtain ⟨d, hd, hm⟩ : ∃ d ∈ S, m ≤ d := by
    by_contra hn
    have : S ⊆ Finset.range m := fun d hd => Finset.mem_range.mpr (by by_contra h'; exact hn ⟨d, hd, by omega⟩)
    have := Finset.card_le_card this
    rw [Finset.card_range] at this; omega
  exact (bigSep_elim hd).trans (cfact_mono c f r (by omega))

/-- A wait for one credit. -/
theorem tri_cwait (f : Fin 3) (hf : f ≠ 0) (r : Fin 4) (m t : ℕ) (hm : m < 13) (sem : Sem sig) (e : locOf (ck1 f r) = .reg sem)
    (hlt : ∀ i, t ≤ i → i < 250 → lvK (ck1 f r) m < lvT i) :
    Tri (recs xv wv K ιs) c iprop(ow c t ∗ CrPos c f r m ∗ cred (tallyAt (cel1 c f r) m 1))
      iprop(ow c t ∗ CrPos c f r (m + 1) ∗ cfact c f r (m + 3)) (iWait sem 1#32) := fun Q k' => by
  have e' : cel1 c f r = ((c : Thread nD τ), .reg sem) := by show (_, _) = _; rw [e]
  have hdut : (Rd xv wv).duties ((c : Thread nD τ), .reg sem) 0 = Finset.range 13 := by
    rw [← e']; unfold cel1; rw [Rd_duties]; show (if 0 = 0 then (if f = 0 then {0} else Finset.range 13) else ∅) = _; rw [if_pos rfl, if_neg hf]
  have hamt : amtK (ck1 f r) = 1 := if_neg hf
  have hexp : (Rd xv wv).expect ((c : Thread nD τ), .reg sem) 0 = 13 := by
    rw [← e']; unfold cel1; rw [Rd_expect, ← Rd_duties xv wv c, show kcell (c, ck1 f r) = _ from e', hdut, hamt]; rfl
  have hpay (d : ℕ) : (Rd xv wv).payload ((c : Thread nD τ), .reg sem) 0 d = cfact c f r (d + 3) := by
    rw [← e', ← pay1_eq xv wv c f hf]; exact Rd_payload xv wv c (ck1 f r) 0 d
  have hmay : recs xv wv K ιs ⊢ MayWait (c : Thread nD τ) (.reg sem) m (owed t c) :=
    recs_may xv wv K ιs c (ck1 f r) m t (by omega) hlt e
  unfold CrPos ow iWait
  rw [if_pos hm, e']
  iintro ⟨#HR, ⟨⟨%W, HO⟩, ⟨%S, %hS, Hat, #HS⟩, Hc⟩, Hk⟩
  ihave #HI := (recs_cell_at xv wv K ιs (c, ck1 f r) e') $$ HR
  by_cases hl : m + 1 < 13
  · rw [if_pos hl]
    iapply (Rounds.wp_wait 𝒱₀ ER (Rd xv wv) (c : Thread nD τ) none (κ := K (c, ck1 f r))
        (wpE_semWait_eq 𝒱₀ (c : Thread nD τ) none Set.univ) (Set.mem_univ _) (cr := Finsupp.single m 1) (O := owed t c) (W := W) {(SemLoc.reg sem, m)}
        (R := 0) (m := m) (T := S) (Util.total_single _ _) (image_single_subset (SemLoc.reg sem) m 1)) $$ [Hc HO Hat]
    · isplitr; · iexact HI
      isplitl [Hc]; · iexact Hc
      isplitl [HO]; · iexact HO
      isplitr; · iapply hmay; iexact HR
      iexact Hat
    iintro %S' ⟨%hS', HO, Hat, Hp⟩
    obtain ⟨h1, h2, h3⟩ := hS'
    rw [hdut] at h2 h3
    rw [hexp] at h3
    have hcard : m < S'.card := by
      have := Finset.card_sdiff_add_card_eq_card h2
      rw [Finset.card_range] at this
      have h4 : m + 1 + (Finset.range 13 \ S').card ≤ 13 := h3
      omega
    ihave #HS' : (bigSep S' fun d => cfact c f r (d + 3)) $$ [Hp]
    · iapply (show iprop((bigSep S fun d => cfact (F := F) c f r (d + 3)) ∗ bigSep (S' \ S) fun d => cfact (F := F) c f r (d + 3)) ⊢ bigSep S' fun d => cfact (F := F) c f r (d + 3)
        from Entails.of_eq (bigSep_sdiff_split h1).symm)
      isplitr; · iexact HS
      iapply (Entails.of_eq (bigSep_congr (fun d _ => hpay d)))
      iexact Hp
    iapply Hk
    isplitl [HO]; · iexists _; iexact HO
    isplitl [Hat]
    · iexists S'; isplitr; · ipureintro; exact h2
      isplitl [Hat]; · iexact Hat
      iexact HS'
    iapply (facts_of_card c f r S' m hcard); iexact HS'
  · rw [if_neg hl]
    iapply (Rounds.wp_wait_rest_token 𝒱₀ ER (Rd xv wv) (c : Thread nD τ) none (κ := K (c, ck1 f r))
        (wpE_semWait_eq 𝒱₀ (c : Thread nD τ) none Set.univ) (Set.mem_univ _) m (O := owed t c) (W := W) (R := 0) (m := m) (T := S)
        (by rw [hexp]; show m + 1 = 13; omega)) $$ [Hc HO Hat]
    · isplitr; · iexact HI
      isplitl [Hc]; · iexact Hc
      isplitl [HO]; · iexact HO
      isplitr; · iapply hmay; iexact HR
      iexact Hat
    iintro ⟨HO, Hat, -, Hp⟩
    rw [hdut]
    ihave #HS' : (bigSep (Finset.range 13) fun d => cfact c f r (d + 3)) $$ [Hp]
    · iapply (show iprop((bigSep S fun d => cfact (F := F) c f r (d + 3)) ∗ bigSep ((Finset.range 13) \ S) fun d => cfact (F := F) c f r (d + 3)) ⊢ bigSep (Finset.range 13) fun d => cfact (F := F) c f r (d + 3)
        from Entails.of_eq (bigSep_sdiff_split hS).symm)
      isplitr; · iexact HS
      iapply (Entails.of_eq (bigSep_congr (fun d _ => hpay d)))
      iexact Hp
    iapply Hk
    isplitl [HO]; · iexists _; iexact HO
    isplitl [Hat]; · iexact Hat
    iapply (facts_of_card c f r (Finset.range 13) m (by rw [Finset.card_range]; exact hm)); iexact HS'

/-! ## Transfers -/

/-- Reading what is held as a piece of memory. -/
theorem owns_of_pts (d : Dev nD) {m₁ : Space} {s : Shape} (m : Memref sig .tc m₁ s .f32) (q : PosShare TreeShare) (f : Buf (Elt F) (m.view.loc (d : Thread nD τ)))
    {X : Vec F s .f32} (h : m.view.read (Elt F) f = X) : (m.view.loc (d : Thread nD τ) ↦[m.view.set]{q} f : SP F) ⊢ owns (d : Thread nD τ) m q X := by
  unfold owns; iintro H; iexists f; isplitr; · ipureintro; exact h
  iexact H

omit [FloatOps F] in
/-- A block of the accumulator has a block's credit. -/
theorem credit_acc (b : Blk) : (accB b).view.dmaCredit = NN := rfl
/-- A block of the output has a block's credit. -/
theorem credit_out (b : Blk) : (outB b).view.dmaCredit = NN := rfl
/-- A receive slot has a block's credit. -/
theorem credit_com (r : Fin 4) (i : ℕ) : (comB r i).view.dmaCredit = NN := rfl

/-- A transfer to another device. -/
theorem tri_send (d : Dev nD) (f₁ f₂ : Fin 5) (r : Fin 4) (i t u : ℕ) (hi : i < 15) (ht : t < 250)
    (hdue : due c t = some (cel2 d f₂ r i, u, NN))
    (src dst : Memref sig .tc .vmem S256x512 .f32) (q : PosShare TreeShare) (X : Vec F S256x512 .f32) (ss sr : DmaSem sig)
    (e₁ : ss = sem2 (arr2 f₁) r i) (e₂ : sr = sem2 (arr2 f₂) r i)
    {hsc : (dst : Memref sig (Dev.tc d : Thread nD τ).2.kind .vmem S256x512 .f32).view.ref.isScScratch = false}
    {hsrc : src.view.WordExact} {hdst : dst.view.WordExact}
    {hsem : DmaTarget.Typed .vmem (.dma sr) (.remote (Dev.tc d : Thread nD τ) dst (.dma ss) hsc)}
    (hN : dst.view.amount (.dma sr) = NN)
    (hp₁ : owns (c : Thread nD τ) src q X ⊢ pay2 xv wv f₁ c r i)
    (hp₂ : owns (d : Thread nD τ) dst fullShare X ⊢ pay2 xv wv f₂ d r i) :
    Tri (recs xv wv K ιs) c
      iprop(ow c t ∗ owns (c : Thread nD τ) src q X ∗ Release.slot (dst.view.loc (d : Thread nD τ)) dst.view.set
        ∗ dutyTok ER (cel2 c f₁ r i) (i / 2) 0 ∗ reached ER (cel2 c f₁ r i) (i / 2)
        ∗ dutyTok ER (cel2 d f₂ r i) (i / 2) 0 ∗ reached ER (cel2 d f₂ r i) (i / 2))
      iprop(ow c (t + 1) ∗ cred (tallyAt (cel2 c f₁ r i) 0 NN))
      (fun k => .op (.enqueueDma src (.remote (Dev.tc d : Thread nD τ) dst (.dma ss) hsc) (.dma sr) hsrc hdst hsem) fun _ => k) := fun Q k' => by
  have e₁' : cel2 c f₁ r i = ((c : Thread nD τ), .dma ss) := by rw [cel2_eq, e₁]
  have e₂' : cel2 d f₂ r i = ((d : Thread nD τ), .dma sr) := by rw [cel2_eq, e₂]
  have hd₁ : 0 ∈ (Rd xv wv).duties ((c : Thread nD τ), .dma ss) (i / 2) := by rw [← e₁', duties2 xv wv c f₁ r i hi]; exact Finset.mem_singleton_self _
  have hd₂ : 0 ∈ (Rd xv wv).duties ((d : Thread nD τ), .dma sr) (i / 2) := by rw [← e₂', duties2 xv wv d f₂ r i hi]; exact Finset.mem_singleton_self _
  have hk₁ : (Rd xv wv).amount ((c : Thread nD τ), .dma ss) (i / 2) 0 = NN := by rw [← e₁', amount2]
  have hk₂ : (Rd xv wv).amount ((d : Thread nD τ), .dma sr) (i / 2) 0 = NN := by rw [← e₂', amount2]
  have hO : owed t c = owed (t + 1) c + tallyAt ((d : Thread nD τ), .dma sr) u NN := by
    rw [owed_step c t ht]; unfold tal; rw [hdue, e₂']
  have hq₁ : pay2 xv wv f₁ c r i = (Rd xv wv).payload ((c : Thread nD τ), .dma ss) (i / 2) 0 := by rw [← e₁', payload2]
  have hq₂ : pay2 xv wv f₂ d r i = (Rd xv wv).payload ((d : Thread nD τ), .dma sr) (i / 2) 0 := by rw [← e₂', payload2]
  unfold ow Release.slot
  rw [e₁', e₂']
  beta_reduce
  iintro ⟨#HR, ⟨⟨%W, HO⟩, Hs, ⟨%fd, Hd⟩, Ht₁, #Hr₁, Ht₂, #Hr₂⟩, Hk⟩
  ihave Hs := (show owns (c : Thread nD τ) src q X ⊢ iprop(∃ f, ⌜src.view.read (Elt F) f = X⌝ ∗ (src.view.loc (c : Thread nD τ) ↦[src.view.set]{q} f)) from .rfl) $$ Hs
  icases Hs with ⟨%fs, %hfs, Hs⟩
  ihave #HI₁ := (recs_cell_at xv wv K ιs (c, ck2 f₁ r i) e₁') $$ HR
  ihave #HI₂ := (recs_cell_at xv wv K ιs (d, ck2 f₂ r i) e₂') $$ HR
  iapply (Rounds.wp_send_pointsTo 𝒱₀ ER (Rd xv wv) (c : Thread nD τ) none (κ₁ := K (c, ck2 f₁ r i)) (κ₂ := K (d, ck2 f₂ r i))
    (r₁ := i / 2) (r₂ := i / 2) (d₁ := 0) (d₂ := 0) (fs := fs) (fd := fd) hd₁ hd₂ u 0 NN hN hk₁ hk₂ (owed (t + 1) c) hO (W := W)
    (((owns_of_pts c src q fs hfs).trans hp₁).trans (Entails.of_eq hq₁))
    (((owns_of_pts d dst fullShare _ ((View.read_write_univ _ _).trans hfs)).trans hp₂).trans (Entails.of_eq hq₂))
    (Es := Set.univ) (Q := Q) (k := fun _ => k') (hsrc := hsrc) (hdst := hdst) (hsem := hsem)) $$ [HO Hs Hd Ht₁ Ht₂]
  · isplitr; · iexact HI₁
    isplitr; · iexact HI₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [HO]; · iexists W; iexact HO
  iexact Hc

/-- A copy from one memory of the device to another. -/
theorem tri_here {m₁ m₂ : Space} (src : Memref sig .tc m₁ S256x512 .f32) (dst : Memref sig .tc m₂ S256x512 .f32) (q : PosShare TreeShare)
    (X : Vec F S256x512 .f32) (kc : CK) (R : ℕ) (sem : DmaSem sig) (e : locOf kc = .dma sem)
    {hsrc : src.view.WordExact} {hdst : dst.view.WordExact} {hsem : DmaTarget.Typed (nD := nD) (τ := τ) m₁ (.dma sem) (.here (p := .tc) dst)}
    (hN : dst.view.amount (.dma sem) = NN) (hd : 0 ∈ dutK kc R) (ha : amtK kc = NN)
    (hp : iprop(owns (c : Thread nD τ) src q X ∗ owns (c : Thread nD τ) dst fullShare X) ⊢ payK xv wv c kc R 0) :
    Tri (recs xv wv K ιs) c
      iprop(owns (c : Thread nD τ) src q X ∗ Release.slot (dst.view.loc (c : Thread nD τ)) dst.view.set
        ∗ dutyTok ER (kcell (c, kc)) R 0 ∗ reached ER (kcell (c, kc)) R)
      (cred (tallyAt (kcell (c, kc)) 0 NN))
      (fun k => .op (.enqueueDma src (.here dst) (.dma sem) hsrc hdst hsem) fun _ => k) := fun Q k' => by
  have e' : kcell (c, kc) = ((c : Thread nD τ), .dma sem) := by show (_, _) = _; rw [e]
  have hd' : 0 ∈ (Rd xv wv).duties ((c : Thread nD τ), .dma sem) R := by rw [← e', Rd_duties]; exact hd
  have hk : (Rd xv wv).amount ((c : Thread nD τ), .dma sem) R 0 = NN := by rw [← e', Rd_amount]; exact ha
  have hq : payK xv wv c kc R 0 = (Rd xv wv).payload ((c : Thread nD τ), .dma sem) R 0 := by rw [← e', Rd_payload]
  unfold Release.slot
  rw [e']
  beta_reduce
  iintro ⟨#HR, ⟨Hs, ⟨%fd, Hd⟩, Ht, #Hr⟩, Hk⟩
  ihave Hs := (show owns (c : Thread nD τ) src q X ⊢ iprop(∃ f, ⌜src.view.read (Elt F) f = X⌝ ∗ (src.view.loc (c : Thread nD τ) ↦[src.view.set]{q} f)) from .rfl) $$ Hs
  icases Hs with ⟨%fs, %hfs, Hs⟩
  ihave #HI := (recs_cell_at xv wv K ιs (c, kc) e') $$ HR
  iapply (Rounds.wp_copy_pointsTo 𝒱₀ ER (Rd xv wv) (c : Thread nD τ) none (κ := K (c, kc)) (r := R) (d := 0) (fs := fs) (fd := fd) hd' 0 NN hN hk
    (((Idealize.SL.BI.Laws.sep_mono (owns_of_pts c dst fullShare _ ((View.read_write_univ _ _).trans hfs)) (owns_of_pts c src q fs hfs)).trans
      (sep_comm (PROP := sProp 𝕄)).1).trans (hp.trans (Entails.of_eq hq)))
    (Es := Set.univ) (Q := Q) (k := fun _ => k') (hsrc := hsrc) (hdst := hdst) (hsem := hsem)) $$ [Hs Hd Ht]
  · isplitr; · iexact HI
    isplitl [Hs]; · iexact Hs
    isplitl [Hd]; · iexact Hd
    isplitl [Ht]; · iexact Ht
    iexact Hr
  iintro Hc
  iapply Hk
  iexact Hc

/-- A copy to the output. -/
theorem tri_copy (r : Fin 4) (k : Dev nD) (X : Vec F S256x512 .f32) (kc : CK) (R : ℕ) (sem : DmaSem sig) (e : locOf kc = .dma sem)
    (hd : 0 ∈ dutK kc R) (ha : amtK kc = NN)
    (hp : iprop(accO c r k fullShare.right X ∗ outO c r k X) ⊢ payK xv wv c kc R 0) :
    Tri (recs xv wv K ιs) c
      iprop(accO c r k fullShare.right X ∗ outS c r k ∗ dutyTok ER (kcell (c, kc)) R 0 ∗ reached ER (kcell (c, kc)) R)
      (cred (tallyAt (kcell (c, kc)) 0 NN)) (iOut sem (cblk r k)) :=
  tri_here xv wv K ιs c (accB (cblk r k)) (outB (cblk r k)) fullShare.right X kc R sem e (credit_out _) hd ha hp

/-! ## Written places -/

omit [FloatOps F] in
/-- The place of a receive slot holds the slot. -/
theorem slotS_ckey (d : Dev nD) (r : Fin 4) (i : ℕ) : slotS (F := F) (ckey d r i) = comS d r i := by
  have h : (i % 2) % 2 = i % 2 := Nat.mod_mod _ _
  show (if i % 2 < 2 then comS d r (i % 2) else accS d r (chunk r d (i % 2 - 2))) = _
  rw [if_pos (Nat.mod_lt _ (by decide))]
  have : ∀ a b : ℕ, a % 2 = b % 2 → comB r a = comB r b := by
    intro a b hab
    have key : ∀ (x y : ℕ) (h : x = y) (hx : _) (hy : _),
        (comR.slice (Rect.unit (s := S4x2x256x512) ![r.val, x, 0, 0] S1x1x256x512.size hx) (fun _ => rfl)).squeeze S256x512 squeezes_S1x1x256x512_S256x512
          = (comR.slice (Rect.unit (s := S4x2x256x512) ![r.val, y, 0, 0] S1x1x256x512.size hy) (fun _ => rfl)).squeeze S256x512 squeezes_S1x1x256x512_S256x512 := by
      intro x y h hx hy; subst h; rfl
    exact key _ _ hab _ _
  unfold comS; rw [this _ _ h]

omit [FloatOps F] in
/-- The place of a step's block holds the accumulator's block. -/
theorem slotS_bkey (d : Dev nD) (r : Fin 4) (j : ℕ) (hj : j < 15) : slotS (F := F) (bkey d r j) = accS d r (chunk r d j) := by
  show (if 2 + j % 15 < 2 then comS d r (2 + j % 15) else accS d r (chunk r d (2 + j % 15 - 2))) = _
  rw [if_neg (by omega), Nat.mod_eq_of_lt hj, show 2 + j - 2 = j by omega]

omit [FloatOps F] in
/-- No place is held twice. -/
theorem slotS_excl (k : Kx) : iprop(slotS (F := F) k ∗ slotS k) ⊢ (False : SP F) := by
  unfold slotS
  have z : (S256x512 : Shape).Idx := fun a => ⟨0, by fin_cases a <;> decide⟩
  split
  · unfold comS; exact Release.slot_slot_false ⟨_, View.emb_mem_set _ z⟩
  · unfold accS; exact Release.slot_slot_false ⟨_, View.emb_mem_set _ z⟩

/-- A place is given back. -/
theorem release (k : Kx) (n : ℕ) : iprop(recs xv wv K ιs ∗ Release.readerAt EQ k n ∗ slotS k)
    ⊢ iprop(|={Set.univ}=> (Release.readerAt EQ k (n + 1) ∗ Release.released EQ k (n + 1))) := by
  iintro ⟨#HR, Hr, HS⟩
  ihave #HI := (recs_slot xv wv K ιs k) $$ HR
  iapply (Release.slot_release EQ (Set.mem_univ (ιs k)) (slotS_excl k) n)
  isplitr; · iexact HI
  isplitl [Hr] <;> iassumption

/-- A place is taken. -/
theorem take (k : Kx) (n : ℕ) : iprop(recs xv wv K ιs ∗ Release.released EQ k n ∗ Release.writeTok EQ k n) ⊢ iprop(|={Set.univ}=> slotS k) := by
  iintro ⟨#HR, Hr, HS⟩
  ihave #HI := (recs_slot xv wv K ιs k) $$ HR
  iapply (Release.slot_take EQ (Set.mem_univ (ιs k)) n)
  isplitr; · iexact HI
  isplitl [Hr] <;> iassumption

end Steps

end Cert.KernelIdeal.Chain
-- ==== Proof.Reduce.lean ====
module

public import proofs.«01_k».proof.Proof.Steps
public import Idealize.SL.BI.BigOpNat

/-! The reduction: what a ring holds at each step, and how a step changes it. -/

@[expose] public section

set_option synthInstance.maxSize 4096

noncomputable section

namespace Cert.KernelIdeal.Chain

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section Lists
variable {a b : ℕ} (A : ℕ → SP F)

omit [FloatOps F] in
/-- Take the first of a range of parts. -/
theorem ico_pop (h : a < b) : bigSep (Finset.Ico a b) A ⊢ iprop(A a ∗ bigSep (Finset.Ico (a + 1) b) A) := Entails.of_eq (bigSep_Ico_succ_bot h A)
omit [FloatOps F] in
/-- Add a part after the last of a range. -/
theorem ico_push (h : a ≤ b) : iprop(A b ∗ bigSep (Finset.Ico a b) A) ⊢ bigSep (Finset.Ico a (b + 1)) A := Entails.of_eq (bigSep_Ico_succ_top h A).symm
omit [FloatOps F] in
/-- Add the next part to the first ones. -/
theorem rng_push : iprop(A a ∗ bigSep (Finset.range a) A) ⊢ bigSep (Finset.range (a + 1)) A := Entails.of_eq (bigSep_range_succ a A).symm
omit [FloatOps F] in
/-- One of the first parts. -/
theorem rng_elim {i : ℕ} (h : i < a) : bigSep (Finset.range a) A ⊢ A i := bigSep_elim (Finset.mem_range.mpr h)
end Lists

section Slots
variable (c : Dev nD)

omit [FloatOps F] in
/-- A buffer with known contents can be written. -/
theorem slot_of_owns {m₁ : Space} {s : Shape} (m : Memref sig .tc m₁ s .f32) (X : Vec F s .f32) :
    (owns (c : Thread nD τ) m fullShare X : SP F) ⊢ Release.slot (m.view.loc (c : Thread nD τ)) m.view.set := by
  unfold owns Release.slot
  iintro ⟨%f, -, H⟩; iexists f; iexact H
omit [FloatOps F] in
/-- A block of the accumulator, its contents forgotten. -/
theorem accS_of (r : Fin 4) (k : Dev nD) (X : Vec F S256x512 .f32) : accO c r k fullShare X ⊢ accS (F := F) c r k := slot_of_owns c _ X
omit [FloatOps F] in
/-- A receive slot, its contents forgotten. -/
theorem comS_of (r : Fin 4) (i : ℕ) (X : Vec F S256x512 .f32) : comO c r i X ⊢ comS (F := F) c r i := slot_of_owns c _ X
omit [FloatOps F] in
/-- A block of the accumulator as two half shares. -/
theorem acc_split (r : Fin 4) (k : Dev nD) (X : Vec F S256x512 .f32) :
    accO c r k fullShare X ⊢ iprop(accO (F := F) c r k fullShare.left X ∗ accO c r k fullShare.right X) := (owns_halves _ _ _ X).1
omit [FloatOps F] in
/-- Two half shares of a block as the block. -/
theorem acc_join (r : Fin 4) (k : Dev nD) (X : Vec F S256x512 .f32) :
    iprop(accO (F := F) c r k fullShare.left X ∗ accO c r k fullShare.right X) ⊢ accO c r k fullShare X := (owns_halves _ _ _ X).2
end Slots

variable (xv : Dev nD → Vec F S4096x256 .f32) (wv : Dev nD → Vec F S256x2048 .f32) (K : Dev nD × CK → ℕ) (ιs : Kx → ℕ) (c : Dev nD)

/-! ## The parts of a ring's state -/

/-- The receives to come, after `a` of them. -/
def stA (f : Fin 5) (r : Fin 4) (a : ℕ) : SP F :=
  iprop((bigSep (Finset.Ico a 15) fun i => cred (tallyAt (cel2 c f r i) i NN)) ∗ Pos c f r a ∗ Rch c f r a)
/-- The credits to wait for, after `m` of them. -/
def stM (f : Fin 3) (r : Fin 4) (m : ℕ) : SP F :=
  iprop((bigSep (Finset.Ico m 13) fun i => cred (tallyAt (cel1 c f r) i 1)) ∗ CrPos c f r m ∗ cfact c f r (m + 2))
/-- The transfers in flight: `q` started, `n` waited for. -/
def stF (f : Fin 5) (r : Fin 4) (n q : ℕ) : SP F := bigSep (Finset.Ico n q) fun i => cred (tallyAt (cel2 c f r i) 0 NN)
/-- The credits to give, after `b` of them, in the reduction. -/
def stB (r : Fin 4) (b : ℕ) : SP F :=
  iprop((bigSep (Finset.Ico b 13) fun d => dutyTok ER (cel1 (prv r c) 1 r) 0 d)
    ∗ (Release.readerAt EQ (ckey c r b) (b / 2 + 1) ∗ Release.readerAt EQ (ckey c r (b + 1)) ((b + 1) / 2 + 1)) ∗ sfacts c r (b + 2))
/-- The sent blocks that came back, after `n` of them. -/
def stN (r : Fin 4) (n : ℕ) : SP F :=
  iprop((Pos c 0 r n ∗ Rch c 0 r n) ∗ (bigSep (Finset.Ico n 15) fun j => Release.readerAt EQ (bkey c r j) 0)
    ∗ bigSep (Finset.range n) fun j => Release.released EQ (bkey c r j) 1)
/-- The sends to come, after `q` of them. -/
def stQ (r : Fin 4) (q : ℕ) : SP F :=
  bigSep (Finset.Ico q 15) fun i => iprop(dutyTok ER (cel2 c 0 r i) (i / 2) 0 ∗ dutyTok ER (cel2 (nxt r c) 1 r i) (i / 2) 0
    ∗ Release.writeTok EQ (ckey (nxt r c) r i) (i / 2 + 1))
/-- The receive slots held: `a` received, `b` given back. -/
def stC (r : Fin 4) (b a : ℕ) : SP F := bigSep (Finset.Ico b a) fun i => comS c r i
/-- The sums held: `a` received, `q` sent. -/
def stV (r : Fin 4) (q a : ℕ) : SP F := bigSep (Finset.Ico q (a + 1)) fun j => accO c r (chunk r c j) fullShare (runV xv wv r j c)
/-- The own product of step `j`. -/
def stP (r : Fin 4) (j : ℕ) : SP F := accO c r (chunk r c j) fullShare (partV xv wv r c (chunk r c j))

/-- Where nothing is due, time may pass. -/
theorem ow_skip {t : ℕ} (ht : t < 250) (h : due c t = none) : ow (F := F) c t ⊢ ow c (t + 1) := by
  have e : owed t c = owed (t + 1) c := by rw [owed_step c t ht]; unfold tal; rw [h]; exact add_zero _
  unfold ow; rw [e]

/-! ## The times -/

/-- The ring that a time belongs to. -/
theorem ring_of (r : Fin 4) (s o : ℕ) (x : ℕ) (hx : (x - o) % 8 / 2 = r.val) : Fin.ofNat 4 ((x - o) % 8 / 2) = r := by
  rw [hx]; exact Fin.ext (Nat.mod_eq_of_lt r.isLt)

/-- What is due at the reduction's first sends: a block to the successor. -/
theorem due_rs0 (r : Fin 4) : due c (2 + r.val) = some (cel2 (nxt r c) 1 r 0, 0, NN) := by
  have h4 := r.isLt
  have e : Fin.ofNat 4 (2 + r.val - 2) = r := by apply Fin.ext; show (2 + r.val - 2) % 4 = r.val; omega
  unfold due; rw [if_neg (by omega), if_neg (by omega), if_pos (by omega), e]
/-- What is due at the gather's first sends. -/
theorem due_ag0 (r : Fin 4) : due c (126 + r.val) = some (cel2 (nxt r c) 3 r 0, 0, NN) := by
  have h4 := r.isLt
  have e : Fin.ofNat 4 (126 + r.val - 126) = r := by apply Fin.ext; show (126 + r.val - 126) % 4 = r.val; omega
  unfold due; rw [if_neg (by omega), if_neg (by omega), if_neg (by omega), if_neg (by omega), if_pos (by omega), e]

/-- What is due in a reduction step: a credit to the predecessor, then a block to the successor. -/
theorem due_rs (r : Fin 4) (s : ℕ) (hs : s < 15) :
    due c (6 + 8 * s + 2 * r.val) = (if s ≤ 12 then some (cel1 (prv r c) 1 r, s, 1) else none)
    ∧ due c (6 + 8 * s + 2 * r.val + 1) = (if s ≤ 13 then some (cel2 (nxt r c) 1 r (s + 1), s + 1, NN) else none) := by
  have h4 := r.isLt
  have e1 := ring_of r s 6 (6 + 8 * s + 2 * r.val) (by omega)
  have e2 := ring_of r s 6 (6 + 8 * s + 2 * r.val + 1) (by omega)
  have d1 : (6 + 8 * s + 2 * r.val - 6) / 8 = s := by omega
  have d2 : (6 + 8 * s + 2 * r.val + 1 - 6) / 8 = s := by omega
  constructor
  · unfold due; rw [if_neg (by omega), if_neg (by omega), if_neg (by omega), if_pos (by omega), if_pos (by omega), e1, d1]
  · unfold due; rw [if_neg (by omega), if_neg (by omega), if_neg (by omega), if_pos (by omega), if_neg (by omega), e2, d2]
/-- What is due in a gather step: a credit to the predecessor, then a block to the successor. -/
theorem due_ag (r : Fin 4) (s : ℕ) (hs : s < 15) :
    due c (130 + 8 * s + 2 * r.val) = (if s ≤ 12 then some (cel1 (prv r c) 2 r, s, 1) else none)
    ∧ due c (130 + 8 * s + 2 * r.val + 1) = (if s ≤ 13 then some (cel2 (nxt r c) 3 r (s + 1), s + 1, NN) else none) := by
  have h4 := r.isLt
  have e1 := ring_of r s 130 (130 + 8 * s + 2 * r.val) (by omega)
  have e2 := ring_of r s 130 (130 + 8 * s + 2 * r.val + 1) (by omega)
  have d1 : (130 + 8 * s + 2 * r.val - 130) / 8 = s := by omega
  have d2 : (130 + 8 * s + 2 * r.val + 1 - 130) / 8 = s := by omega
  constructor
  · unfold due; rw [if_neg (by omega), if_neg (by omega), if_neg (by omega), if_neg (by omega), if_neg (by omega), if_pos (by omega), e1, d1]
  · unfold due; rw [if_neg (by omega), if_neg (by omega), if_neg (by omega), if_neg (by omega), if_neg (by omega), if_neg (by omega), e2, d2]

/-- From a reduction step on, payments lie above that step's waits. -/
theorem lvT_rs (s t : ℕ) (ht : 6 + 8 * s ≤ t) : 2 * s + 3 ≤ lvT t := by
  unfold lvT; split_ifs <;> omega
/-- The same within a step, after a ring's credit. -/
theorem lvT_rs' (s t r : ℕ) (hr : r < 4) (ht : 6 + 8 * s + 2 * r + 1 ≤ t) : 2 * s + 3 ≤ lvT t := by
  unfold lvT; split_ifs <;> omega
/-- From a gather step on, payments lie above that step's waits. -/
theorem lvT_ag (s t : ℕ) (ht : 130 + 8 * s ≤ t) : 2 * s + 41 ≤ lvT t := by
  unfold lvT; split_ifs <;> omega
/-- No payment is at level zero. -/
theorem lvT_pos (t : ℕ) : 0 < lvT t := by unfold lvT; split_ifs <;> omega

/-! ## A wait for one of the parts -/

/-- A wait for a credit. -/
theorem tri_M (f : Fin 3) (hf : f ≠ 0) (r : Fin 4) (m t : ℕ) (hm : m < 13) (sem : Sem sig) (e : locOf (ck1 f r) = .reg sem)
    (hlt : ∀ i, t ≤ i → i < 250 → lvK (ck1 f r) m < lvT i) :
    Tri (recs xv wv K ιs) c iprop(ow c t ∗ stM c f r m) iprop(ow c t ∗ stM c f r (m + 1)) (iWait sem 1#32) := by
  refine ((tri_cwait xv wv K ιs c f hf r m t hm sem e hlt).frame (bigSep (Finset.Ico (m + 1) 13) fun i => cred (tallyAt (cel1 c f r) i 1))).pre ?_ |>.post ?_
  · unfold stM
    iintro ⟨-, HO, Hc, Hp, -⟩
    ihave Hc := (ico_pop _ hm) $$ Hc
    icases Hc with ⟨Hc, Hr⟩
    isplitr [Hr]
    · isplitl [HO]; · iexact HO
      isplitl [Hp] <;> iassumption
    iexact Hr
  · unfold stM
    iintro ⟨-, ⟨HO, Hp, Hf⟩, Hr⟩
    isplitl [HO]; · iexact HO
    isplitl [Hr]; · iexact Hr
    isplitl [Hp] <;> iassumption

/-- The wait for the oldest transfer in flight. -/
theorem tri_F (f : Fin 5) (r : Fin 4) (n q t : ℕ) (hn : n < 15) (hq : n < q) {m₁ m₂ : Space} (sem : DmaSem sig)
    (e : sem = sem2 (arr2 f) r n) (hf : ∀ u, lvK (ck2 f r n) u = 0)
    (a : Memref sig .tc m₁ S256x512 .f32) (b : Memref sig .tc m₂ S256x512 .f32) (hb : b.view.dmaCredit = NN) :
    Tri (recs xv wv K ιs) c iprop(ow c t ∗ (Pos c f r n ∗ Rch c f r n) ∗ stF c f r n q)
      iprop(ow c t ∗ (Pos c f r (n + 1) ∗ Rch c f r (n + 1)) ∗ stF c f r (n + 1) q ∗ pay2 xv wv f c r n) (iDWait sem a b) := by
  refine ((tri_dwait2 xv wv K ιs c f r n t 0 hn (by decide) sem e a b hb (fun i _ _ => by rw [hf]; exact lvT_pos i)).frame (stF c f r (n + 1) q)).pre ?_ |>.post ?_
  · unfold stF
    iintro ⟨-, HO, ⟨Hp, Hr⟩, Hc⟩
    ihave Hc := (ico_pop _ hq) $$ Hc
    icases Hc with ⟨Hc, Hcs⟩
    isplitr [Hcs]
    · isplitl [HO]; · iexact HO
      isplitl [Hp]; · iexact Hp
      isplitl [Hr] <;> iassumption
    iexact Hcs
  · iintro ⟨-, ⟨HO, Hp, Hr, Hy⟩, Hc⟩
    isplitl [HO]; · iexact HO
    isplitl [Hp Hr]; · isplitl [Hp] <;> iassumption
    isplitl [Hc] <;> iassumption

/-- The wait for the next block received. -/
theorem tri_A (f : Fin 5) (r : Fin 4) (a t : ℕ) (ha : a < 15) {m₁ m₂ : Space} (sem : DmaSem sig)
    (e : sem = sem2 (arr2 f) r a) (hlt : ∀ i, t ≤ i → i < 250 → lvK (ck2 f r a) a < lvT i)
    (x : Memref sig .tc m₁ S256x512 .f32) (y : Memref sig .tc m₂ S256x512 .f32) (hb : y.view.dmaCredit = NN) :
    Tri (recs xv wv K ιs) c iprop(ow c t ∗ stA c f r a) iprop(ow c t ∗ stA c f r (a + 1) ∗ pay2 xv wv f c r a) (iDWait sem x y) := by
  refine ((tri_dwait2 xv wv K ιs c f r a t a ha ha sem e x y hb hlt).frame (bigSep (Finset.Ico (a + 1) 15) fun i => cred (tallyAt (cel2 c f r i) i NN))).pre ?_ |>.post ?_
  · unfold stA
    iintro ⟨-, HO, Hc, Hp, Hr⟩
    ihave Hc := (ico_pop _ ha) $$ Hc
    icases Hc with ⟨Hc, Hcs⟩
    isplitr [Hcs]
    · isplitl [HO]; · iexact HO
      isplitl [Hp]; · iexact Hp
      isplitl [Hr] <;> iassumption
    iexact Hcs
  · unfold stA
    iintro ⟨-, ⟨HO, Hp, Hr, Hy⟩, Hc⟩
    isplitl [HO]; · iexact HO
    isplitr [Hy]
    · isplitl [Hc]; · iexact Hc
      isplitl [Hp] <;> iassumption
    iexact Hy

/-! ## The reduction's parts -/

/-- A block received is added to the own product of the next step. -/
theorem rs_recv (r : Fin 4) (a b q t : ℕ) (ha : a < 15) (hb : b ≤ a) (hq : q ≤ a + 1) {m₁ : Space} (x : Memref sig .tc m₁ S256x512 .f32)
    (hlt : ∀ i, t ≤ i → i < 250 → lvK (ck2 1 r a) a < lvT i) :
    Tri (recs xv wv K ιs) c iprop(ow c t ∗ stA c 1 r a ∗ stC c r b a ∗ stV xv wv c r q a ∗ stP xv wv c r (a + 1))
      iprop(ow c t ∗ stA c 1 r (a + 1) ∗ stC c r b (a + 1) ∗ stV xv wv c r q (a + 1))
      (fun k => iDWait (sem2 cc0_scratch3 r a) x (comB r a) (iAdd r a (cblk r (chunk r c (a + 1))) k)) := by
  have h1 := (tri_A xv wv K ιs c 1 r a t ha _ rfl hlt x (comB r a) (credit_com r a)).frame
    iprop(stC c r b a ∗ stV xv wv c r q a ∗ stP xv wv c r (a + 1))
  have h2 := (tri_add (R := recs xv wv K ιs) (c := c) r a (chunk r c (a + 1)) (partV xv wv r c (chunk r c (a + 1))) (runV xv wv r a (prv r c))).frame
    iprop(ow c t ∗ stA c 1 r (a + 1) ∗ stC c r b a ∗ stV xv wv c r q a)
  refine (h1.pre ?_).comp (h2.pre ?_ |>.post ?_)
  · iintro ⟨-, HO, HA, HC, HV, HP⟩
    isplitl [HO HA]; · isplitl [HO] <;> iassumption
    isplitl [HC]; · iexact HC
    isplitl [HV] <;> iassumption
  · unfold stP
    iintro ⟨-, ⟨HO, HA, Hy⟩, HC, HV, HP⟩
    isplitl [Hy HP]
    · isplitl [HP]; · iexact HP
      iapply (show pay2 xv wv 1 c r a ⊢ comO c r a (runV xv wv r a (prv r c)) from .rfl); iexact Hy
    isplitl [HO]; · iexact HO
    isplitl [HA]; · iexact HA
    isplitl [HC] <;> iassumption
  · unfold stC stV
    iintro ⟨-, ⟨HP, Hy⟩, HO, HA, HC, HV⟩
    isplitl [HO]; · iexact HO
    isplitl [HA]; · iexact HA
    isplitl [HC Hy]
    · iapply (ico_push (fun i => comS c r i) hb)
      isplitl [Hy]; · iapply (comS_of c r a _); iexact Hy
      iexact HC
    iapply (ico_push (fun j => accO c r (chunk r c j) fullShare (runV xv wv r j c)) hq)
    isplitl [HP]
    · iapply (show accO c r (chunk r c (a + 1)) fullShare (add2 (partV xv wv r c (chunk r c (a + 1))) (runV xv wv r a (prv r c)))
        ⊢ accO c r (chunk r c (a + 1)) fullShare (runV xv wv r (a + 1) c) from .rfl)
      iexact HP
    iexact HV

/-- The receive slot just read is given back and the predecessor is told. -/
theorem rs_signal (r : Fin 4) (a b n t : ℕ) (ht : t < 250) (hb : b < 13) (hba : b < a) (hbn : b ≤ n + 1)
    (hdue : due c t = some (cel1 (prv r c) 1 r, b, 1)) :
    Tri (recs xv wv K ιs) c iprop(ow c t ∗ stA c 1 r a ∗ stB c r b ∗ stN c r n ∗ stC c r b a)
      iprop(ow c (t + 1) ∗ stA c 1 r a ∗ stB c r (b + 1) ∗ stN c r n ∗ stC c r (b + 1) a)
      (iSignal (prv r c) (csem cc0_scratch6 r)) := by
  have h := (tri_signal xv wv K ιs c (prv r c) (ck1 1 r) (csem cc0_scratch6 r) rfl t b b ht hdue (Finset.mem_range.mpr hb) rfl).frame
    iprop(stA c 1 r a ∗ stB c r (b + 1) ∗ stN c r n ∗ stC c r (b + 1) a)
  refine Tri.fupd (h.post ?_) ?_
  · iintro ⟨-, HO, H⟩
    isplitl [HO] <;> iassumption
  have hp : payK xv wv (prv r c) (ck1 1 r) 0 b = sfacts (F := F) c r (b + 3) := by
    show sfacts (nxt r (prv r c)) r (b + 3) = _; rw [nxt_prv]
  have hk : ckey c r (b + 2) = ckey c r b := by
    have e : (b + 2) % 2 = b % 2 := by omega
    unfold ckey; simp only [e]
  have hs : iprop(sfact (F := F) c r (b + 2) ∗ sfacts c r (b + 2)) ⊢ sfacts c r (b + 3) := by
    unfold sfacts; exact rng_push (sfact c r)
  rw [hp]
  unfold stB
  rw [hk, show (b + 2) / 2 + 1 = b / 2 + 1 + 1 by omega]
  rw [show (b + 1 + 2) = b + 3 by omega]
  unfold stA stN stC
  iintro ⟨#HR, HO, ⟨HAc, HAp, #HAr⟩, ⟨HB, ⟨Hr0, Hr1⟩, #Hs⟩, ⟨HNp, HNr, #HNd⟩, HC⟩
  ihave HC := (ico_pop _ hba) $$ HC
  icases HC with ⟨Hcb, HC⟩
  ihave HB := (ico_pop _ hb) $$ HB
  icases HB with ⟨Htok, HB⟩
  ihave Hrel := (release xv wv K ιs (ckey c r b) (b / 2 + 1)) $$ [Hr0 Hcb]
  · isplitr; · iexact HR
    isplitl [Hr0]; · iexact Hr0
    iapply (Entails.of_eq (slotS_ckey c r b).symm); iexact Hcb
  imod Hrel with ⟨Hr0, #Hrel⟩
  imodintro
  ihave #Hf : sfact c r (b + 2) $$ []
  · unfold sfact
    rw [hk, show (b + 2) / 2 + 1 = b / 2 + 1 + 1 by omega]
    isplitr; · iexact Hrel
    isplitr; · iapply (Rch_elim c 1 r a (b + 2) (by omega)); iexact HAr
    by_cases h4 : 4 ≤ b + 2
    · rw [if_pos h4, show b + 2 - 4 = b - 2 by omega]
      iapply (rng_elim (fun j => Release.released EQ (bkey c r j) 1) (by omega : b - 2 < n)); iexact HNd
    · rw [if_neg h4]; iempintro
  ihave #Hs' := hs $$ []
  · isplitr; · iexact Hf
    iexact Hs
  isplitl [HO Htok]
  · isplitl [HO]; · iexact HO
    isplitl [Htok]; · iexact Htok
    iexact Hs'
  isplitl [HAc HAp]
  · isplitl [HAc]; · iexact HAc
    isplitl [HAp]; · iexact HAp
    iexact HAr
  isplitl [HB Hr0 Hr1]
  · isplitl [HB]; · iexact HB
    isplitl [Hr0 Hr1]
    · isplitl [Hr1]; · iexact Hr1
      iexact Hr0
    iexact Hs'
  isplitl [HNp HNr]
  · isplitl [HNp]; · iexact HNp
    isplitl [HNr]; · iexact HNr
    iexact HNd
  iexact HC

/-- The block sent comes back and is given back to the successor's predecessor. -/
theorem rs_swait (r : Fin 4) (n q t : ℕ) (hn : n < 15) (hq : n < q) {m₁ m₂ : Space} (sem : DmaSem sig) (e : sem = sem2 cc0_scratch2 r n)
    (x : Memref sig .tc m₁ S256x512 .f32) (y : Memref sig .tc m₂ S256x512 .f32) (hb : y.view.dmaCredit = NN) :
    Tri (recs xv wv K ιs) c iprop(ow c t ∗ stN c r n ∗ stF c 0 r n q) iprop(ow c t ∗ stN c r (n + 1) ∗ stF c 0 r (n + 1) q) (iDWait sem x y) := by
  have h := (tri_F xv wv K ιs c 0 r n q t hn hq sem e (fun _ => rfl) x y hb).frame
    iprop((bigSep (Finset.Ico n 15) fun j => Release.readerAt EQ (bkey c r j) 0) ∗ bigSep (Finset.range n) fun j => Release.released EQ (bkey c r j) 1)
  refine Tri.postFupd (h.pre ?_) ?_
  · unfold stN
    iintro ⟨-, HO, ⟨HN, Hr, Hd⟩, HF⟩
    isplitl [HO HN HF]
    · isplitl [HO]; · iexact HO
      isplitl [HN] <;> iassumption
    isplitl [Hr] <;> iassumption
  have hs : pay2 xv wv 0 c r n ⊢ slotS (F := F) (bkey c r n) := by rw [slotS_bkey c r n hn]; exact accS_of c r _ _
  unfold stN
  iintro ⟨#HR, ⟨HO, HN, HF, Hy⟩, Hr, Hd⟩
  ihave Hr := (ico_pop _ hn) $$ Hr
  icases Hr with ⟨Hr0, Hr⟩
  ihave Hrel := (release xv wv K ιs (bkey c r n) 0) $$ [Hr0 Hy]
  · isplitr; · iexact HR
    isplitl [Hr0]; · iexact Hr0
    iapply hs; iexact Hy
  imod Hrel with ⟨-, Hrel⟩
  imodintro
  isplitl [HO]; · iexact HO
  isplitr [HF]
  · isplitl [HN]; · iexact HN
    isplitl [Hr]; · iexact Hr
    iapply (rng_push (fun j => Release.released EQ (bkey c r j) 1))
    isplitl [Hrel] <;> iassumption
  iexact HF

/-- The next sum is sent on. -/
theorem rs_send (r : Fin 4) (a m n q t : ℕ) (ht : t < 250) (hq : q < 15) (hqa : q ≤ a) (hqm : q ≤ m + 1) (hqn : q ≤ n + 1) (hnq : n ≤ q)
    (hdue : due c t = some (cel2 (nxt r c) 1 r q, q, NN)) :
    Tri (recs xv wv K ιs) c iprop(ow c t ∗ stM c 1 r m ∗ stN c r n ∗ stQ c r q ∗ stF c 0 r n q ∗ stV xv wv c r q a)
      iprop(ow c (t + 1) ∗ stM c 1 r m ∗ stN c r n ∗ stQ c r (q + 1) ∗ stF c 0 r n (q + 1) ∗ stV xv wv c r (q + 1) a)
      (iSendRS (nxt r c) r q (cblk r (chunk r c q))) := by
  have h := (tri_send xv wv K ιs c (nxt r c) 0 1 r q t q hq ht hdue (accB (cblk r (chunk r c q))) (comB r q) fullShare (runV xv wv r q c)
      (sem2 cc0_scratch2 r q) (sem2 cc0_scratch3 r q) rfl rfl (hsc := rfl) (hsrc := View.wordExact_bits rfl) (hdst := (View.wordExact_bits rfl).reshape _ _)
      (hsem := ⟨⟨rfl, Or.inl rfl⟩, trivial⟩) (credit_com r q) .rfl
      (by show _ ⊢ comO (nxt r c) r q (runV xv wv r q (prv r (nxt r c))); rw [prv_nxt]; exact .rfl)).frame
    iprop(stM c 1 r m ∗ stN c r n ∗ stQ c r (q + 1) ∗ stF c 0 r n q ∗ stV xv wv c r (q + 1) a)
  refine Tri.fupd (h.post ?_) ?_
  · unfold stF
    iintro ⟨-, ⟨HO, Hc⟩, HM, HN, HQ, HF, HV⟩
    isplitl [HO]; · iexact HO
    isplitl [HM]; · iexact HM
    isplitl [HN]; · iexact HN
    isplitl [HQ]; · iexact HQ
    isplitl [HF Hc]
    · iapply (ico_push (fun i => cred (tallyAt (cel2 c 0 r i) 0 NN)) hnq)
      isplitl [Hc] <;> iassumption
    iexact HV
  have hf : cfact (F := F) c 1 r (m + 2) ⊢ sfact (nxt r c) r q := by
    unfold cfact; rw [if_pos rfl]; exact rng_elim (sfact (nxt r c) r) (by omega)
  have hslot : slotS (F := F) (ckey (nxt r c) r q) ⊢ Release.slot ((comB r q).view.loc (nxt r c : Thread nD τ)) (comB r q).view.set := by
    rw [slotS_ckey]; exact .rfl
  have hv : accO c r (chunk r c q) fullShare (runV xv wv r q c) ⊢ owns (c : Thread nD τ) (accB (cblk r (chunk r c q))) fullShare (runV xv wv r q c) := .rfl
  unfold stQ stM stN stV sfact at *
  iintro ⟨#HR, HO, ⟨HM1, HM2, #HMf⟩, ⟨⟨HNp, #HNr⟩, HN2⟩, HQ, HF, HV⟩
  ihave HQ := (ico_pop _ hq) $$ HQ
  icases HQ with ⟨⟨Ht1, Ht2, Hw⟩, HQ⟩
  ihave HV := (ico_pop _ (by omega : q < a + 1)) $$ HV
  icases HV with ⟨Hv, HV⟩
  ihave #Hf := hf $$ HMf
  icases Hf with ⟨#Hf1, #Hf2, -⟩
  ihave Hs := (take xv wv K ιs (ckey (nxt r c) r q) (q / 2 + 1)) $$ [Hw]
  · isplitr; · iexact HR
    isplitr; · iexact Hf1
    iexact Hw
  imod Hs
  imodintro
  isplitl [HO Hv Hs Ht1 Ht2]
  · isplitl [HO]; · iexact HO
    isplitl [Hv]; · iapply hv; iexact Hv
    isplitl [Hs]; · iapply hslot; iexact Hs
    isplitl [Ht1]; · iexact Ht1
    isplitr; · iapply (Rch_elim c 0 r n q (by omega)); iexact HNr
    isplitl [Ht2]; · iexact Ht2
    iexact Hf2
  isplitl [HM1 HM2]
  · isplitl [HM1]; · iexact HM1
    isplitl [HM2]; · iexact HM2
    iexact HMf
  isplitl [HNp HN2]
  · isplitl [HNp]
    · isplitl [HNp]; · iexact HNp
      iexact HNr
    iexact HN2
  isplitl [HQ]; · iexact HQ
  isplitl [HF]; · iexact HF
  iexact HV

end Cert.KernelIdeal.Chain
-- ==== Proof.Gather.lean ====
module

public import proofs.«01_k».proof.Proof.Reduce

/-! The gather's parts, and whole steps of both phases. -/

@[expose] public section

set_option synthInstance.maxSize 4096

noncomputable section

namespace Cert.KernelIdeal.Chain

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (xv : Dev nD → Vec F S4096x256 .f32) (wv : Dev nD → Vec F S256x2048 .f32) (K : Dev nD × CK → ℕ) (ιs : Kx → ℕ) (c : Dev nD)

/-! ## A reduction step -/

/-- The credits given before step `s`. -/
def bs (s : ℕ) : ℕ := min s 13
/-- The credits and send waits done before step `s`. -/
def ms (s : ℕ) : ℕ := min (s - 1) 13
/-- The sends started before step `s`. -/
def qs (s : ℕ) : ℕ := min (s + 1) 15

/-- What ring `r` holds before reduction step `s`, but for the own products. -/
def stR (r : Fin 4) (s : ℕ) : SP F :=
  iprop(stA c 1 r s ∗ stB c r (bs s) ∗ stM c 1 r (ms s) ∗ stN c r (ms s) ∗ stQ c r (qs s) ∗ stF c 0 r (ms s) (qs s)
    ∗ stC c r (bs s) s ∗ stV xv wv c r (qs s) s)

/-- One reduction step of one ring: receive, add, wait for what was sent before, give credit, send on. -/
theorem rs_step (r : Fin 4) (s : ℕ) (hs : s < 15) :
    Tri (recs xv wv K ιs) c iprop(ow c (6 + 8 * s + 2 * r.val) ∗ stR xv wv c r s ∗ stP xv wv c r (s + 1))
      iprop(ow c (6 + 8 * s + 2 * (r.val + 1)) ∗ stR xv wv c r (s + 1)) (rsStep (printed c) s r) := fun Q k => by
  have h4 := r.isLt
  obtain ⟨d1, d2⟩ := due_rs c r s hs
  have e : rsStep (printed c) s r k = iDWait (sem2 cc0_scratch3 r s) (accB ((printed c).dma r (wd r s))) (comB r s) (iAdd r s (cblk r (chunk r c (s + 1)))
      (opt (s ≤ 12) (iSignal (prv r c) (csem cc0_scratch6 r)) (opt (1 ≤ s ∧ s ≤ 13) (iWait (csem cc0_scratch6 r) 1#32)
        (opt (1 ≤ s ∧ s ≤ 13) (iDWait (sem2 cc0_scratch2 r (s - 1)) (comB r (s - 1)) (accB ((printed c).dma r (wd r (s - 1)))))
          (opt (s ≤ 13) (iSendRS (nxt r c) r (s + 1) (cblk r (chunk r c (s + 1)))) k))))) := by
    have e3 : rsStart (F := F) (printed c) r (s + 1) = iSendRS (nxt r c) r (s + 1) (cblk r (chunk r c (s + 1))) := by
      funext k; unfold rsStart; rw [printed_out, dma_wd c r (s + 1) (by omega)]
    unfold rsStep; rw [vec_wd c r (s + 1) (by omega) (by omega), printed_inn, e3]
  have t2 : 6 + 8 * s + 2 * (r.val + 1) = 6 + 8 * s + 2 * r.val + 1 + 1 := by omega
  generalize ht : 6 + 8 * s + 2 * r.val = t at d1 d2 t2 ⊢
  have ht' : t + 1 < 250 := by omega
  have h1 := rs_recv xv wv K ιs c r s (bs s) (qs s) t hs (by unfold bs; omega) (by unfold qs; omega) (accB ((printed c).dma r (wd r s)))
    (fun i hi _ => by have := lvT_rs s i (by omega); show 2 * s + 2 < _; omega)
  have h2 : Tri (recs xv wv K ιs) c iprop(ow c t ∗ stA c 1 r (s + 1) ∗ stB c r (bs s) ∗ stN c r (ms s) ∗ stC c r (bs s) (s + 1))
      iprop(ow c (t + 1) ∗ stA c 1 r (s + 1) ∗ stB c r (bs (s + 1)) ∗ stN c r (ms s) ∗ stC c r (bs (s + 1)) (s + 1))
      (opt (s ≤ 12) (iSignal (prv r c) (csem cc0_scratch6 r))) := by
    refine Tri.opt (fun h => ?_) (fun h => ?_)
    · have e1 : bs s = s := by unfold bs; omega
      have e2 : bs (s + 1) = s + 1 := by unfold bs; omega
      rw [if_pos h] at d1
      rw [e1, e2]
      exact rs_signal xv wv K ιs c r (s + 1) s (ms s) t (by omega) (by omega) (by omega) (by unfold ms; omega) d1
    · have e1 : bs (s + 1) = bs s := by unfold bs; omega
      rw [if_neg h] at d1
      rw [e1]
      iintro ⟨-, HO, HX⟩
      isplitl [HO]; · iapply (ow_skip c (by omega) d1); iexact HO
      iexact HX
  have h3 : Tri (recs xv wv K ιs) c iprop(ow c (t + 1) ∗ stM c 1 r (ms s)) iprop(ow c (t + 1) ∗ stM c 1 r (ms (s + 1)))
      (opt (1 ≤ s ∧ s ≤ 13) (iWait (csem cc0_scratch6 r) 1#32)) := by
    refine Tri.opt (fun h => ?_) (fun h => ?_)
    · have e1 : ms s = s - 1 := by unfold ms; omega
      have e2 : ms (s + 1) = s - 1 + 1 := by unfold ms; omega
      rw [e1, e2]
      exact tri_M xv wv K ιs c 1 (by decide) r (s - 1) (t + 1) (by omega) _ rfl
        (fun i hi _ => by have := lvT_rs s i (by omega); show 2 * (s - 1) + 3 < _; omega)
    · have e1 : ms (s + 1) = ms s := by unfold ms; omega
      rw [e1]; iintro ⟨-, H⟩; iexact H
  have h4 : Tri (recs xv wv K ιs) c iprop(ow c (t + 1) ∗ stN c r (ms s) ∗ stF c 0 r (ms s) (qs s))
      iprop(ow c (t + 1) ∗ stN c r (ms (s + 1)) ∗ stF c 0 r (ms (s + 1)) (qs s))
      (opt (1 ≤ s ∧ s ≤ 13) (iDWait (sem2 cc0_scratch2 r (s - 1)) (comB r (s - 1)) (accB ((printed c).dma r (wd r (s - 1)))))) := by
    refine Tri.opt (fun h => ?_) (fun h => ?_)
    · have e1 : ms s = s - 1 := by unfold ms; omega
      have e2 : ms (s + 1) = s - 1 + 1 := by unfold ms; omega
      rw [e1, e2]
      exact rs_swait xv wv K ιs c r (s - 1) (qs s) (t + 1) (by omega) (by unfold qs; omega) _ rfl _ _ (credit_acc _)
    · have e1 : ms (s + 1) = ms s := by unfold ms; omega
      rw [e1]; iintro ⟨-, H⟩; iexact H
  have h5 : Tri (recs xv wv K ιs) c
      iprop(ow c (t + 1) ∗ stM c 1 r (ms (s + 1)) ∗ stN c r (ms (s + 1)) ∗ stQ c r (qs s) ∗ stF c 0 r (ms (s + 1)) (qs s) ∗ stV xv wv c r (qs s) (s + 1))
      iprop(ow c (t + 1 + 1) ∗ stM c 1 r (ms (s + 1)) ∗ stN c r (ms (s + 1)) ∗ stQ c r (qs (s + 1)) ∗ stF c 0 r (ms (s + 1)) (qs (s + 1))
        ∗ stV xv wv c r (qs (s + 1)) (s + 1))
      (opt (s ≤ 13) (iSendRS (nxt r c) r (s + 1) (cblk r (chunk r c (s + 1))))) := by
    refine Tri.opt (fun h => ?_) (fun h => ?_)
    · have e1 : qs s = s + 1 := by unfold qs; omega
      have e2 : qs (s + 1) = s + 1 + 1 := by unfold qs; omega
      have e3 : ms (s + 1) = s := by unfold ms; omega
      rw [if_pos h] at d2
      rw [e1, e2, e3]
      exact rs_send xv wv K ιs c r (s + 1) s s (s + 1) (t + 1) ht' (by omega) (by omega) (by omega) (by omega) (by omega) d2
    · have e1 : qs (s + 1) = qs s := by unfold qs; omega
      rw [if_neg h] at d2
      rw [e1]
      iintro ⟨-, HO, HX⟩
      isplitl [HO]; · iapply (ow_skip c ht' d2); iexact HO
      iexact HX
  rw [e, t2]
  unfold stR
  iintro ⟨#HR, ⟨HO, ⟨HA, HB, HM, HN, HQ, HF, HC, HV⟩, HP⟩, Hk⟩
  iapply (h1 Q _)
  isplitr; · iexact HR
  isplitl [HO HA HC HV HP]
  · isplitl [HO]; · iexact HO
    isplitl [HA]; · iexact HA
    isplitl [HC]; · iexact HC
    isplitl [HV] <;> iassumption
  iintro ⟨HO, HA, HC, HV⟩
  iapply (h2 Q _)
  isplitr; · iexact HR
  isplitl [HO HA HB HN HC]
  · isplitl [HO]; · iexact HO
    isplitl [HA]; · iexact HA
    isplitl [HB]; · iexact HB
    isplitl [HN] <;> iassumption
  iintro ⟨HO, HA, HB, HN, HC⟩
  iapply (h3 Q _)
  isplitr; · iexact HR
  isplitl [HO HM]; · isplitl [HO] <;> iassumption
  iintro ⟨HO, HM⟩
  iapply (h4 Q _)
  isplitr; · iexact HR
  isplitl [HO HN HF]
  · isplitl [HO]; · iexact HO
    isplitl [HN] <;> iassumption
  iintro ⟨HO, HN, HF⟩
  iapply (h5 Q _)
  isplitr; · iexact HR
  isplitl [HO HM HN HQ HF HV]
  · isplitl [HO]; · iexact HO
    isplitl [HM]; · iexact HM
    isplitl [HN]; · iexact HN
    isplitl [HQ]; · iexact HQ
    isplitl [HF] <;> iassumption
  iintro ⟨HO, HM, HN, HQ, HF, HV⟩
  iapply Hk
  isplitl [HO]; · iexact HO
  isplitl [HA]; · iexact HA
  isplitl [HB]; · iexact HB
  isplitl [HM]; · iexact HM
  isplitl [HN]; · iexact HN
  isplitl [HQ]; · iexact HQ
  isplitl [HF]; · iexact HF
  isplitl [HC] <;> iassumption

/-! ## The gather's parts -/

/-- The left half of the block of place `p`: the own block first, then those received. -/
def lef (r : Fin 4) (p : ℕ) : SP F := accO c r (chunk r c (15 + p)) fullShare.left (finV xv wv r (chunk r c (15 + p)))
/-- The right half of the block of step `i`. -/
def rig (r : Fin 4) (i : ℕ) : SP F := accO c r (chunk r c i) fullShare.right (finV xv wv r (chunk r c i))
/-- The output's block of step `i`. -/
def oux (r : Fin 4) (i : ℕ) : SP F := outO c r (chunk r c i) (finV xv wv r (chunk r c i))

/-- The credits to give, after `b` of them, in the gather. -/
def gB (r : Fin 4) (b : ℕ) : SP F :=
  iprop((bigSep (Finset.Ico b 13) fun d => dutyTok ER (cel1 (prv r c) 2 r) 0 d) ∗ afacts c r (b + 2))
/-- The halves sent that came back. -/
def gN (r : Fin 4) (n : ℕ) : SP F := iprop((Pos c 2 r n ∗ Rch c 2 r n) ∗ bigSep (Finset.range n) (lef xv wv c r))
/-- The sends to come. -/
def gQ (r : Fin 4) (q : ℕ) : SP F :=
  bigSep (Finset.Ico q 15) fun i => iprop(dutyTok ER (cel2 c 2 r i) (i / 2) 0 ∗ dutyTok ER (cel2 (nxt r c) 3 r i) (i / 2) 0
    ∗ Release.writeTok EQ (bkey (nxt r c) r i) 1)
/-- The left halves held. -/
def gV (r : Fin 4) (q a : ℕ) : SP F := bigSep (Finset.Ico q (a + 1)) (lef xv wv c r)
/-- The copies to come. -/
def gH (r : Fin 4) (h : ℕ) : SP F :=
  bigSep (Finset.Ico h 15) fun i => iprop(dutyTok ER (cel2 c 4 r i) (i / 2) 0 ∗ outS c r (chunk r c i))
/-- The copies that are done. -/
def gW (r : Fin 4) (w : ℕ) : SP F :=
  iprop((Pos c 4 r w ∗ Rch c 4 r w) ∗ bigSep (Finset.range w) fun i => iprop(rig xv wv c r i ∗ oux xv wv c r i))
/-- All blocks sent in the reduction were given back. -/
def gZ (r : Fin 4) : SP F := bigSep (Finset.range 15) fun j => Release.released EQ (bkey c r j) 1

omit [FloatOps F] in
instance gZ_persistent (r : Fin 4) : BI.Persistent (gZ (F := F) c r) := by unfold gZ; infer_instance

/-- A block is received. -/
theorem ag_recv (r : Fin 4) (a q t : ℕ) (ha : a < 15) (hq : q ≤ a + 1) {m₁ m₂ : Space} (x : Memref sig .tc m₁ S256x512 .f32) (y : Memref sig .tc m₂ S256x512 .f32)
    (hb : y.view.dmaCredit = NN) (hlt : ∀ i, t ≤ i → i < 250 → lvK (ck2 3 r a) a < lvT i) :
    Tri (recs xv wv K ιs) c iprop(ow c t ∗ stA c 3 r a ∗ gV xv wv c r q a)
      iprop(ow c t ∗ stA c 3 r (a + 1) ∗ gV xv wv c r q (a + 1) ∗ rig xv wv c r a) (iDWait (sem2 cc0_scratch5 r a) x y) := by
  refine ((tri_A xv wv K ιs c 3 r a t ha _ rfl hlt x y hb).frame (gV xv wv c r q a)).pre ?_ |>.post ?_
  · iintro ⟨-, HO, HA, HV⟩
    isplitl [HO HA]; · isplitl [HO] <;> iassumption
    iexact HV
  have hs : pay2 xv wv 3 c r a ⊢ iprop(lef xv wv c r (a + 1) ∗ rig xv wv c r a) := by
    unfold lef rig
    rw [show 15 + (a + 1) = a + 16 by omega, chunk_16]
    exact acc_split c r _ _
  unfold gV
  iintro ⟨-, ⟨HO, HA, Hy⟩, HV⟩
  ihave Hy := hs $$ Hy
  icases Hy with ⟨Hl, Hr⟩
  isplitl [HO]; · iexact HO
  isplitl [HA]; · iexact HA
  isplitl [HV Hl]
  · iapply (ico_push (lef xv wv c r) hq)
    isplitl [Hl] <;> iassumption
  iexact Hr

/-- A copy is done. -/
theorem ag_hwait (r : Fin 4) (w h t : ℕ) (hw : w < 15) (hh : w < h) {m₁ m₂ : Space} (sem : DmaSem sig) (e : sem = sem2 cc0_scratch8 r w)
    (x : Memref sig .tc m₁ S256x512 .f32) (y : Memref sig .tc m₂ S256x512 .f32) (hb : y.view.dmaCredit = NN) :
    Tri (recs xv wv K ιs) c iprop(ow c t ∗ gW xv wv c r w ∗ stF c 4 r w h) iprop(ow c t ∗ gW xv wv c r (w + 1) ∗ stF c 4 r (w + 1) h) (iDWait sem x y) := by
  refine ((tri_F xv wv K ιs c 4 r w h t hw hh sem e (fun _ => rfl) x y hb).frame
    (bigSep (Finset.range w) fun i => iprop(rig xv wv c r i ∗ oux xv wv c r i))).pre ?_ |>.post ?_
  · unfold gW
    iintro ⟨-, HO, ⟨HP, HD⟩, HF⟩
    isplitr [HD]
    · isplitl [HO]; · iexact HO
      isplitl [HP] <;> iassumption
    iexact HD
  · unfold gW
    iintro ⟨-, ⟨HO, HP, HF, Hy⟩, HD⟩
    isplitl [HO]; · iexact HO
    isplitr [HF]
    · isplitl [HP]; · iexact HP
      iapply (rng_push (fun i => iprop(rig xv wv c r i ∗ oux xv wv c r i)))
      isplitl [Hy]
      · iapply (show pay2 xv wv 4 c r w ⊢ iprop(rig xv wv c r w ∗ oux xv wv c r w) from .rfl); iexact Hy
      iexact HD
    iexact HF

/-- The block just received is copied to the output. -/
theorem ag_copy (r : Fin 4) (h w : ℕ) (hh : h < 15) (hw : h < w + 2) (hw' : w ≤ h) :
    Tri (recs xv wv K ιs) c iprop(rig xv wv c r h ∗ gH c r h ∗ gW xv wv c r w ∗ stF c 4 r w h)
      iprop(gH c r (h + 1) ∗ gW xv wv c r w ∗ stF c 4 r w (h + 1)) (iOut (sem2 cc0_scratch8 r h) (cblk r (chunk r c h))) := by
  refine ((tri_copy xv wv K ιs c r (chunk r c h) (finV xv wv r (chunk r c h)) (ck2 4 r h) (h / 2) (sem2 cc0_scratch8 r h)
    (congrArg Prod.snd (cel2_eq c 4 r h)) (by rw [← Rd_duties xv wv c]; exact (duties2 xv wv c 4 r h hh) ▸ Finset.mem_singleton_self _) rfl
    (Entails.of_eq ((payload2 xv wv c 4 r h 0).symm.trans (Rd_payload xv wv c (ck2 4 r h) (h / 2) 0)))).frame
      iprop(gH c r (h + 1) ∗ gW xv wv c r w ∗ stF c 4 r w h)).pre ?_ |>.post ?_
  · unfold gH gW
    iintro ⟨-, Hr, HH, ⟨⟨HP, #HR⟩, HD⟩, HF⟩
    ihave HH := (ico_pop _ hh) $$ HH
    icases HH with ⟨⟨Ht, Ho⟩, HH⟩
    isplitl [Hr Ht Ho]
    · isplitl [Hr]; · iapply (show rig xv wv c r h ⊢ accO c r (chunk r c h) fullShare.right (finV xv wv r (chunk r c h)) from .rfl); iexact Hr
      isplitl [Ho]; · iexact Ho
      isplitl [Ht]; · iexact Ht
      iapply (Rch_elim c 4 r w h hw); iexact HR
    isplitl [HH]; · iexact HH
    isplitr [HF]
    · isplitl [HP]
      · isplitl [HP]; · iexact HP
        iexact HR
      iexact HD
    iexact HF
  · unfold stF
    iintro ⟨-, Hc, HH, HW, HF⟩
    isplitl [HH]; · iexact HH
    isplitl [HW]; · iexact HW
    iapply (ico_push (fun i => cred (tallyAt (cel2 c 4 r i) 0 NN)) hw')
    isplitl [Hc]; · iexact Hc
    iexact HF

/-- The predecessor is told that it may go on. -/
theorem ag_signal (r : Fin 4) (a b t : ℕ) (ht : t < 250) (hb : b < 13) (hba : b < a) (hdue : due c t = some (cel1 (prv r c) 2 r, b, 1)) :
    Tri (recs xv wv K ιs) c iprop(ow c t ∗ stA c 3 r a ∗ gB c r b ∗ gZ c r) iprop(ow c (t + 1) ∗ stA c 3 r a ∗ gB c r (b + 1) ∗ gZ c r)
      (iSignal (prv r c) (csem cc0_scratch7 r)) := by
  have h := (tri_signal xv wv K ιs c (prv r c) (ck1 2 r) (csem cc0_scratch7 r) rfl t b b ht hdue (Finset.mem_range.mpr hb) rfl).frame
    iprop(stA c 3 r a ∗ gB c r (b + 1) ∗ gZ c r)
  refine (h.pre ?_).post ?_
  · have hp : payK xv wv (prv r c) (ck1 2 r) 0 b = afacts (F := F) c r (b + 3) := by
      show afacts (nxt r (prv r c)) r (b + 3) = _; rw [nxt_prv]
    have hs : iprop(afact (F := F) c r (b + 2) ∗ afacts c r (b + 2)) ⊢ afacts c r (b + 3) := by
      unfold afacts; exact rng_push (afact c r)
    rw [hp]
    unfold gB
    rw [show (b + 1 + 2) = b + 3 by omega]
    unfold stA
    iintro ⟨-, HO, ⟨HAc, HAp, #HAr⟩, ⟨HB, #Hs⟩, #HZ⟩
    ihave HB := (ico_pop _ hb) $$ HB
    icases HB with ⟨Htok, HB⟩
    ihave #Hf : afact c r (b + 2) $$ []
    · unfold afact gZ
      isplitr; · iapply (rng_elim (fun j => Release.released EQ (bkey c r j) 1) (by omega : b + 2 < 15)); iexact HZ
      iapply (Rch_elim c 3 r a (b + 2) (by omega)); iexact HAr
    ihave #Hs' := hs $$ []
    · isplitr; · iexact Hf
      iexact Hs
    isplitl [HO Htok]
    · isplitl [HO]; · iexact HO
      isplitl [Htok]; · iexact Htok
      iexact Hs'
    isplitl [HAc HAp]
    · isplitl [HAc]; · iexact HAc
      isplitl [HAp]; · iexact HAp
      iexact HAr
    isplitl [HB]
    · isplitl [HB]; · iexact HB
      iexact Hs'
    iexact HZ
  · iintro ⟨-, HO, H⟩
    isplitl [HO] <;> iassumption

/-- A half sent comes back. -/
theorem ag_swait (r : Fin 4) (n q t : ℕ) (hn : n < 15) (hq : n < q) {m₁ m₂ : Space} (sem : DmaSem sig) (e : sem = sem2 cc0_scratch4 r n)
    (x : Memref sig .tc m₁ S256x512 .f32) (y : Memref sig .tc m₂ S256x512 .f32) (hb : y.view.dmaCredit = NN) :
    Tri (recs xv wv K ιs) c iprop(ow c t ∗ gN xv wv c r n ∗ stF c 2 r n q) iprop(ow c t ∗ gN xv wv c r (n + 1) ∗ stF c 2 r (n + 1) q) (iDWait sem x y) := by
  refine ((tri_F xv wv K ιs c 2 r n q t hn hq sem e (fun _ => rfl) x y hb).frame (bigSep (Finset.range n) (lef xv wv c r))).pre ?_ |>.post ?_
  · unfold gN
    iintro ⟨-, HO, ⟨HP, HD⟩, HF⟩
    isplitr [HD]
    · isplitl [HO]; · iexact HO
      isplitl [HP] <;> iassumption
    iexact HD
  · unfold gN
    iintro ⟨-, ⟨HO, HP, HF, Hy⟩, HD⟩
    isplitl [HO]; · iexact HO
    isplitr [HF]
    · isplitl [HP]; · iexact HP
      iapply (rng_push (lef xv wv c r))
      isplitl [Hy]
      · iapply (show pay2 xv wv 2 c r n ⊢ lef xv wv c r n from .rfl); iexact Hy
      iexact HD
    iexact HF

/-- The next block is sent on. -/
theorem ag_send (r : Fin 4) (a m n q t : ℕ) (ht : t < 250) (hq : q < 15) (hqa : q ≤ a) (hqm : q ≤ m + 1) (hqn : q ≤ n + 1) (hnq : n ≤ q)
    (hdue : due c t = some (cel2 (nxt r c) 3 r q, q, NN)) :
    Tri (recs xv wv K ιs) c iprop(ow c t ∗ stM c 2 r m ∗ gN xv wv c r n ∗ gQ c r q ∗ stF c 2 r n q ∗ gV xv wv c r q a)
      iprop(ow c (t + 1) ∗ stM c 2 r m ∗ gN xv wv c r n ∗ gQ c r (q + 1) ∗ stF c 2 r n (q + 1) ∗ gV xv wv c r (q + 1) a)
      (iSendAG (nxt r c) r q (cblk r (chunk r c (15 + q)))) := by
  have hch : chunk r (nxt r c) q = chunk r c (15 + q) := by rw [← chunk_16, show q + 16 = (15 + q) + 1 by omega, chunk_nxt]
  have h := (tri_send xv wv K ιs c (nxt r c) 2 3 r q t q hq ht hdue (accB (cblk r (chunk r c (15 + q)))) (accB (cblk r (chunk r c (15 + q)))) fullShare.left
      (finV xv wv r (chunk r c (15 + q)))
      (sem2 cc0_scratch4 r q) (sem2 cc0_scratch5 r q) rfl rfl (hsc := rfl) (hsrc := View.wordExact_bits rfl) (hdst := View.wordExact_bits rfl)
      (hsem := ⟨⟨rfl, Or.inl rfl⟩, trivial⟩) (credit_acc _) .rfl
      (by show _ ⊢ accO (nxt r c) r (chunk r (nxt r c) q) fullShare (finV xv wv r (chunk r (nxt r c) q)); rw [hch]; exact .rfl)).frame
    iprop(stM c 2 r m ∗ gN xv wv c r n ∗ gQ c r (q + 1) ∗ stF c 2 r n q ∗ gV xv wv c r (q + 1) a)
  refine Tri.fupd (h.post ?_) ?_
  · unfold stF
    iintro ⟨-, ⟨HO, Hc⟩, HM, HN, HQ, HF, HV⟩
    isplitl [HO]; · iexact HO
    isplitl [HM]; · iexact HM
    isplitl [HN]; · iexact HN
    isplitl [HQ]; · iexact HQ
    isplitl [HF Hc]
    · iapply (ico_push (fun i => cred (tallyAt (cel2 c 2 r i) 0 NN)) hnq)
      isplitl [Hc] <;> iassumption
    iexact HV
  have hf : cfact (F := F) c 2 r (m + 2) ⊢ afact (nxt r c) r q := by
    unfold cfact; rw [if_neg (by decide)]; exact rng_elim (afact (nxt r c) r) (by omega)
  have hslot : slotS (F := F) (bkey (nxt r c) r q)
      ⊢ Release.slot ((accB (cblk r (chunk r c (15 + q)))).view.loc (nxt r c : Thread nD τ)) (accB (cblk r (chunk r c (15 + q)))).view.set := by
    rw [slotS_bkey _ _ _ hq, hch]; exact .rfl
  have hv : lef xv wv c r q ⊢ owns (c : Thread nD τ) (accB (cblk r (chunk r c (15 + q)))) fullShare.left (finV xv wv r (chunk r c (15 + q))) := .rfl
  unfold gQ stM gN gV afact at *
  iintro ⟨#HR, HO, ⟨HM1, HM2, #HMf⟩, ⟨⟨HNp, #HNr⟩, HN2⟩, HQ, HF, HV⟩
  ihave HQ := (ico_pop _ hq) $$ HQ
  icases HQ with ⟨⟨Ht1, Ht2, Hw⟩, HQ⟩
  ihave HV := (ico_pop _ (by omega : q < a + 1)) $$ HV
  icases HV with ⟨Hv, HV⟩
  ihave #Hf := hf $$ HMf
  icases Hf with ⟨#Hf1, #Hf2⟩
  ihave Hs := (take xv wv K ιs (bkey (nxt r c) r q) 1) $$ [Hw]
  · isplitr; · iexact HR
    isplitr; · iexact Hf1
    iexact Hw
  imod Hs
  imodintro
  isplitl [HO Hv Hs Ht1 Ht2]
  · isplitl [HO]; · iexact HO
    isplitl [Hv]; · iapply hv; iexact Hv
    isplitl [Hs]; · iapply hslot; iexact Hs
    isplitl [Ht1]; · iexact Ht1
    isplitr; · iapply (Rch_elim c 2 r n q (by omega)); iexact HNr
    isplitl [Ht2]; · iexact Ht2
    iexact Hf2
  isplitl [HM1 HM2]
  · isplitl [HM1]; · iexact HM1
    isplitl [HM2]; · iexact HM2
    iexact HMf
  isplitl [HNp HN2]
  · isplitl [HNp]
    · isplitl [HNp]; · iexact HNp
      iexact HNr
    iexact HN2
  isplitl [HQ]; · iexact HQ
  isplitl [HF]; · iexact HF
  iexact HV

end Cert.KernelIdeal.Chain
-- ==== Proof.Phases.lean ====
module

public import proofs.«01_k».proof.Proof.Gather

/-! The starts and ends of both phases, and the gather's step. -/

@[expose] public section

set_option synthInstance.maxSize 4096

noncomputable section

namespace Cert.KernelIdeal.Chain

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (xv : Dev nD → Vec F S4096x256 .f32) (wv : Dev nD → Vec F S256x2048 .f32) (K : Dev nD × CK → ℕ) (ιs : Kx → ℕ) (c : Dev nD)

/-- What ring `r` holds before the reduction. -/
def stR0 (r : Fin 4) : SP F :=
  iprop(stA c 1 r 0 ∗ stB c r 0 ∗ stM c 1 r 0 ∗ stN c r 0 ∗ stQ c r 0 ∗ stV xv wv c r 0 0)

omit [FloatOps F] in
/-- With as many waits as sends nothing is in flight. -/
theorem stF_self (f : Fin 5) (r : Fin 4) (n : ℕ) : ⊢ stF (F := F) c f r n n := by unfold stF; rw [Finset.Ico_self, bigSep_empty]; exact .rfl
omit [FloatOps F] in
/-- With as many slots given back as received none is held. -/
theorem stC_self (r : Fin 4) (n : ℕ) : ⊢ stC (F := F) c r n n := by unfold stC; rw [Finset.Ico_self, bigSep_empty]; exact .rfl

/-- The first send of the reduction. -/
theorem rs_start (r : Fin 4) :
    Tri (recs xv wv K ιs) c iprop(ow c (2 + r.val) ∗ stR0 xv wv c r) iprop(ow c (2 + (r.val + 1)) ∗ stR xv wv c r 0) (rsStart (printed c) r 0) := fun Q k => by
  have h4 := r.isLt
  have e : rsStart (printed c) r 0 k = iSendRS (nxt r c) r 0 (cblk r (chunk r c 0)) k := by
    unfold rsStart; rw [printed_out, dma_wd c r 0 (by omega)]
  have h := rs_send xv wv K ιs c r 0 0 0 0 (2 + r.val) (by omega) (by omega) (by omega) (by omega) (by omega) (by omega) (due_rs0 c r)
  rw [e]
  unfold stR0 stR
  iintro ⟨#HR, ⟨HO, HA, HB, HM, HN, HQ, HV⟩, Hk⟩
  ihave HF := (stF_self c 0 r 0)
  ihave HC := (stC_self c r 0)
  iapply (h Q _)
  isplitr; · iexact HR
  isplitl [HO HM HN HQ HF HV]
  · isplitl [HO]; · iexact HO
    isplitl [HM]; · iexact HM
    isplitl [HN]; · iexact HN
    isplitl [HQ]; · iexact HQ
    isplitl [HF]; · iexact HF
    iexact HV
  iintro ⟨HO, HM, HN, HQ, HF, HV⟩
  iapply Hk
  isplitl [HO]; · iexact HO
  isplitl [HA]; · iexact HA
  isplitl [HB]; · iexact HB
  isplitl [HM]; · iexact HM
  isplitl [HN]; · iexact HN
  isplitl [HQ]; · iexact HQ
  isplitl [HF]; · iexact HF
  isplitl [HC]; · iexact HC
  iexact HV

/-- What ring `r` keeps of the reduction to the end. -/
def rsEnd (r : Fin 4) : SP F := iprop(Pos c 1 r 15 ∗ Pos c 0 r 15 ∗ CrPos c 1 r 13 ∗ stC c r 13 15)
/-- What the gather takes from the reduction. -/
def rsOut (r : Fin 4) : SP F := iprop(gZ c r ∗ cfact c 1 r 15 ∗ accO c r (chunk r c 15) fullShare (runV xv wv r 15 c))

/-- The last two send waits of the reduction. -/
theorem rs_tail (r : Fin 4) (t : ℕ) :
    Tri (recs xv wv K ιs) c iprop(ow c t ∗ stR xv wv c r 15) iprop(ow c t ∗ rsEnd c r ∗ rsOut xv wv c r) (rsTail (printed c) r) := fun Q k => by
  have h1 := rs_swait xv wv K ιs c r 13 15 t (by omega) (by omega) (sem2 cc0_scratch2 r 1) rfl (comB r 1) (accB ((printed c).dma r (wd r 15))) (credit_acc _)
  have h2 := rs_swait xv wv K ιs c r 14 15 t (by omega) (by omega) (sem2 cc0_scratch2 r 0) rfl (comB r 0) (accB ((printed c).dma r (wd r 14))) (credit_acc _)
  have ev : stV xv wv c r 15 15 ⊢ accO c r (chunk r c 15) fullShare (runV xv wv r 15 c) := by
    unfold stV; rw [show Finset.Ico 15 (15 + 1) = {15} from rfl, bigSep_singleton]
  unfold rsTail stR rsEnd rsOut
  iintro ⟨#HR, ⟨HO, HA, HB, HM, HN, HQ, HF, HC, HV⟩, Hk⟩
  iapply (h1 Q _)
  isplitr; · iexact HR
  isplitl [HO HN HF]
  · isplitl [HO]; · iexact HO
    isplitl [HN]; · iexact HN
    iexact HF
  iintro ⟨HO, HN, HF⟩
  iapply (h2 Q _)
  isplitr; · iexact HR
  isplitl [HO HN HF]
  · isplitl [HO]; · iexact HO
    isplitl [HN]; · iexact HN
    iexact HF
  iintro ⟨HO, HN, -⟩
  ihave HA := (show stA (F := F) c 1 r 15 ⊢ Pos c 1 r 15 by unfold stA; iintro ⟨-, H, -⟩; iexact H) $$ HA
  ihave HM := (show stM (F := F) c 1 r (ms 15) ⊢ iprop(CrPos c 1 r 13 ∗ cfact c 1 r 15) by unfold stM; iintro ⟨-, H⟩; iexact H) $$ HM
  ihave HN := (show stN (F := F) c r (14 + 1) ⊢ iprop(Pos c 0 r 15 ∗ gZ c r) by
    unfold stN gZ; iintro ⟨⟨H, -⟩, -, H'⟩; isplitl [H] <;> iassumption) $$ HN
  icases HM with ⟨HM, Hf⟩
  icases HN with ⟨HN, HZ⟩
  iapply Hk
  isplitl [HO]; · iexact HO
  isplitl [HA HM HN HC]
  · isplitl [HA]; · iexact HA
    isplitl [HN]; · iexact HN
    isplitl [HM]; · iexact HM
    iexact HC
  isplitl [HZ]; · iexact HZ
  isplitl [Hf]; · iexact Hf
  iapply ev; iexact HV

/-- What ring `r` needs from the start for the gather. -/
def gI (r : Fin 4) : SP F :=
  iprop(((bigSep (Finset.Ico 0 15) fun i => cred (tallyAt (cel2 c 3 r i) i NN)) ∗ Pos c 3 r 0)
    ∗ (bigSep (Finset.Ico 0 13) fun d => dutyTok ER (cel1 (prv r c) 2 r) 0 d)
    ∗ ((bigSep (Finset.Ico 0 13) fun i => cred (tallyAt (cel1 c 2 r) i 1)) ∗ CrPos c 2 r 0)
    ∗ Pos c 2 r 0 ∗ gQ c r 0 ∗ gH c r 0 ∗ Pos c 4 r 0
    ∗ dutyTok ER (cel1 c 0 r) 0 0 ∗ atPos ER (cel1 c 0 r) 0 ∅ 0 ∗ outS c r (chunk r c 15))

/-- What ring `r` holds before the gather's first send. -/
def stG0 (r : Fin 4) : SP F :=
  iprop(stA c 3 r 0 ∗ gB c r 0 ∗ stM c 2 r 0 ∗ gN xv wv c r 0 ∗ gQ c r 0 ∗ gV xv wv c r 0 0 ∗ gH c r 0 ∗ gW xv wv c r 0 ∗ gZ c r)
/-- The copy of the own block, in flight. -/
def ownR (r : Fin 4) : SP F := iprop(atPos ER (cel1 c 0 r) 0 ∅ 0 ∗ cred (tallyAt (cel1 c 0 r) 0 NN))

/-- The band that a device finishes is numbered by its successor. -/
theorem chunk_15 (r : Fin 4) : prv r (chunk r c 15) = c := by
  apply Fin.ext; have : c.val < 16 := c.isLt; rcases kk_cases r with ⟨-, h⟩ | ⟨-, h⟩ <;> simp only [prv, chunk, h] <;> omega

/-- The finished block is the positive part of the last running sum. -/
theorem finV_15 (r : Fin 4) : finV xv wv r (chunk r c 15) = reluPay (runV xv wv r 15 c) := by unfold finV; rw [chunk_15]

omit [FloatOps F] in
/-- Two parts as a family over two steps. -/
theorem bigSep_range_two (A : ℕ → SP F) : iprop(A 0 ∗ A 1) ⊢ bigSep (Finset.range 2) A := by
  iintro ⟨H0, H1⟩
  iapply (rng_push A)
  isplitl [H1]; · iexact H1
  iapply (rng_push A)
  isplitl [H0]; · iexact H0
  rw [Finset.range_zero, bigSep_empty]; iempintro

/-- The first two facts of the gather about the own device. -/
theorem afacts_two (r : Fin 4) : iprop(recs xv wv K ιs ∗ gZ c r) ⊢ afacts c r 2 := by
  unfold afacts
  refine BIBase.Entails.trans ?_ (bigSep_range_two _)
  unfold afact gZ
  iintro ⟨#HR, #HZ⟩
  ihave #HC := (Rch_zero xv wv K ιs c 3 r) $$ HR
  isplitr
  · isplitr; · iapply (rng_elim (fun j => Release.released EQ (bkey c r j) 1) (by omega : 0 < 15)); iexact HZ
    iapply (Rch_elim c 3 r 0 0 (by omega)); iexact HC
  · isplitr; · iapply (rng_elim (fun j => Release.released EQ (bkey c r j) 1) (by omega : 1 < 15)); iexact HZ
    iapply (Rch_elim c 3 r 0 1 (by omega)); iexact HC

omit [FloatOps F] in
/-- The facts of the reduction say that a block sent early has been given back. -/
theorem sfact_rel (d : Dev nD) (r : Fin 4) (j : ℕ) (hj : j + 4 < 15) : sfacts (F := F) d r 15 ⊢ Release.released EQ (bkey d r j) 1 := by
  refine (rng_elim (sfact d r) hj).trans ?_
  unfold sfact; rw [if_pos (by omega), show j + 4 - 4 = j by omega]
  iintro ⟨-, -, H⟩; iexact H

/-- The first two facts of the gather about the successor. -/
theorem cfact_two (r : Fin 4) : iprop(recs xv wv K ιs ∗ cfact c 1 r 15) ⊢ cfact c 2 r 2 := by
  unfold cfact
  rw [if_pos rfl, if_neg (by decide)]
  unfold afacts
  refine BIBase.Entails.trans ?_ (bigSep_range_two _)
  unfold afact
  iintro ⟨#HR, #HZ⟩
  ihave #HC := (Rch_zero xv wv K ιs (nxt r c) 3 r) $$ HR
  isplitr
  · isplitr; · iapply (sfact_rel (nxt r c) r 0 (by omega)); iexact HZ
    iapply (Rch_elim (nxt r c) 3 r 0 0 (by omega)); iexact HC
  · isplitr; · iapply (sfact_rel (nxt r c) r 1 (by omega)); iexact HZ
    iapply (Rch_elim (nxt r c) 3 r 0 1 (by omega)); iexact HC

/-- The own block is finished and its copy started. -/
theorem own_step (r : Fin 4) :
    Tri (recs xv wv K ιs) c iprop(rsOut xv wv c r ∗ gI c r) iprop(stG0 xv wv c r ∗ ownR c r) (own (printed c) r) := fun Q k => by
  have e : own (F := F) (printed c) r k = iRelu (cblk r (chunk r c 15)) (iOut (sem1 cc0_scratch9 r) (cblk r (chunk r c 15)) k) := by
    unfold own; rw [vec_wd c r 15 (by omega) (by omega), dma_wd c r 15 (by omega)]
  have h1 := tri_relu (R := recs xv wv K ιs) (c := c) r (chunk r c 15) (runV xv wv r 15 c)
  rw [← finV_15] at h1
  have h2 := tri_copy xv wv K ιs c r (chunk r c 15) (finV xv wv r (chunk r c 15)) (ck1 0 r) 0 (sem1 cc0_scratch9 r) rfl (Finset.mem_singleton_self _) rfl .rfl
  have hs := acc_split c r (chunk r c 15) (finV xv wv r (chunk r c 15))
  rw [e]
  unfold rsOut gI
  iintro ⟨#HR, ⟨⟨#HZ, #Hf, Hy⟩, ⟨HAc, HAp⟩, HB, ⟨HMc, HMp⟩, HNp, HQ, HH, HWp, Hd, Hp, Ho⟩, Hk⟩
  iapply (h1 Q _)
  isplitr; · iexact HR
  isplitl [Hy]; · iexact Hy
  iintro Hy
  ihave Hy := hs $$ Hy
  icases Hy with ⟨Hl, Hr⟩
  iapply (h2 Q _)
  isplitr; · iexact HR
  isplitl [Hr Ho Hd]
  · isplitl [Hr]; · iexact Hr
    isplitl [Ho]; · iexact Ho
    isplitl [Hd]; · iexact Hd
    iapply (recs_reached xv wv K ιs (c, ck1 0 r)); iexact HR
  iintro Hc
  iapply Hk
  unfold stG0 ownR stA gB stM gN gV gW
  isplitr [Hp Hc]
  · isplitl [HAc HAp]
    · isplitl [HAc]; · iexact HAc
      isplitl [HAp]; · iexact HAp
      iapply (Rch_zero xv wv K ιs c 3 r); iexact HR
    isplitl [HB]
    · isplitl [HB]; · iexact HB
      iapply (afacts_two xv wv K ιs c r)
      isplitr; · iexact HR
      iexact HZ
    isplitl [HMc HMp]
    · isplitl [HMc]; · iexact HMc
      isplitl [HMp]; · iexact HMp
      iapply (cfact_two xv wv K ιs c r)
      isplitr; · iexact HR
      iexact Hf
    isplitl [HNp]
    · isplitl [HNp]
      · isplitl [HNp]; · iexact HNp
        iapply (Rch_zero xv wv K ιs c 2 r); iexact HR
      rw [Finset.range_zero, bigSep_empty]; iempintro
    isplitl [HQ]; · iexact HQ
    isplitl [Hl]
    · rw [show Finset.Ico 0 (0 + 1) = {0} from rfl, bigSep_singleton]
      iapply (show accO c r (chunk r c 15) fullShare.left (finV xv wv r (chunk r c 15)) ⊢ lef xv wv c r 0 from .rfl); iexact Hl
    isplitl [HH]; · iexact HH
    isplitl [HWp]
    · isplitl [HWp]
      · isplitl [HWp]; · iexact HWp
        iapply (Rch_zero xv wv K ιs c 4 r); iexact HR
      rw [Finset.range_zero, bigSep_empty]; iempintro
    iexact HZ
  isplitl [Hp]; · iexact Hp
  iapply (show cred (tallyAt (kcell (c, ck1 0 r)) 0 NN) ⊢ (cred (tallyAt (cel1 c 0 r) 0 NN) : SP F) from .rfl); iexact Hc

/-- What ring `r` holds before gather step `s`. -/
def stG (r : Fin 4) (s : ℕ) : SP F :=
  iprop(stA c 3 r s ∗ gB c r (bs s) ∗ stM c 2 r (ms s) ∗ gN xv wv c r (ms s) ∗ gQ c r (qs s) ∗ stF c 2 r (ms s) (qs s)
    ∗ gV xv wv c r (qs s) s ∗ gH c r s ∗ gW xv wv c r (s - 2) ∗ stF c 4 r (s - 2) s ∗ gZ c r)

/-- The first send of the gather. -/
theorem ag_start (r : Fin 4) :
    Tri (recs xv wv K ιs) c iprop(ow c (126 + r.val) ∗ stG0 xv wv c r) iprop(ow c (126 + (r.val + 1)) ∗ stG xv wv c r 0) (agStart (printed c) r 0) := fun Q k => by
  have h4 := r.isLt
  have e : agStart (printed c) r 0 k = iSendAG (nxt r c) r 0 (cblk r (chunk r c (15 + 0))) k := by
    unfold agStart; rw [printed_out, dma_wa c r 0 (by omega)]
  have h := ag_send xv wv K ιs c r 0 0 0 0 (126 + r.val) (by omega) (by omega) (by omega) (by omega) (by omega) (by omega) (due_ag0 c r)
  rw [e]
  unfold stG0 stG
  iintro ⟨#HR, ⟨HO, HA, HB, HM, HN, HQ, HV, HH, HW, HZ⟩, Hk⟩
  ihave HF := (stF_self c 2 r 0)
  ihave HF4 := (stF_self c 4 r 0)
  iapply (h Q _)
  isplitr; · iexact HR
  isplitl [HO HM HN HQ HF HV]
  · isplitl [HO]; · iexact HO
    isplitl [HM]; · iexact HM
    isplitl [HN]; · iexact HN
    isplitl [HQ]; · iexact HQ
    isplitl [HF]; · iexact HF
    iexact HV
  iintro ⟨HO, HM, HN, HQ, HF, HV⟩
  iapply Hk
  isplitl [HO]; · iexact HO
  isplitl [HA]; · iexact HA
  isplitl [HB]; · iexact HB
  isplitl [HM]; · iexact HM
  isplitl [HN]; · iexact HN
  isplitl [HQ]; · iexact HQ
  isplitl [HF]; · iexact HF
  isplitl [HV]; · iexact HV
  isplitl [HH]; · iexact HH
  isplitl [HW]; · iexact HW
  isplitl [HF4]; · iexact HF4
  iexact HZ

/-- Two steps later the two-slot semaphore is the same. -/
theorem sem2_add (A : DmaSems sig S4x2) (r : Fin 4) (i : ℕ) : sem2 A r (i + 2) = sem2 A r i := by
  rw [← sem2_par, par_add, sem2_par]

/-- A gather step. -/
theorem ag_step (r : Fin 4) (s : ℕ) (hs : s < 15) :
    Tri (recs xv wv K ιs) c iprop(ow c (130 + 8 * s + 2 * r.val) ∗ stG xv wv c r s)
      iprop(ow c (130 + 8 * s + 2 * (r.val + 1)) ∗ stG xv wv c r (s + 1)) (agStep (printed c) s r) := fun Q k => by
  have h4 := r.isLt
  obtain ⟨d1, d2⟩ := due_ag c r s hs
  have e : agStep (printed c) s r k = iDWait (sem2 cc0_scratch5 r s) (accB ((printed c).dma r (wa r s))) (accB ((printed c).dma r (wa r s)))
      (opt (2 ≤ s) (iDWait (sem2 cc0_scratch8 r s) (accB ((printed c).dma r (wd r (s - 2)))) (outB ((printed c).dma r (wd r (s - 2)))))
      (iOut (sem2 cc0_scratch8 r s) (cblk r (chunk r c s))
      (opt (s ≤ 12) (iSignal (prv r c) (csem cc0_scratch7 r)) (opt (1 ≤ s ∧ s ≤ 13) (iWait (csem cc0_scratch7 r) 1#32)
        (opt (1 ≤ s ∧ s ≤ 13) (iDWait (sem2 cc0_scratch4 r (s - 1)) (accB ((printed c).dma r (wa r (s - 1)))) (accB ((printed c).dma r (wa r (s - 1)))))
          (opt (s ≤ 13) (iSendAG (nxt r c) r (s + 1) (cblk r (chunk r c (15 + (s + 1))))) k)))))) := by
    have e3 : agStart (F := F) (printed c) r (s + 1) = iSendAG (nxt r c) r (s + 1) (cblk r (chunk r c (15 + (s + 1)))) := by
      funext k; unfold agStart; rw [printed_out, dma_wa c r (s + 1) (by omega)]
    unfold agStep; rw [dma_wd c r s (by omega), printed_inn, e3]
  have t2 : 130 + 8 * s + 2 * (r.val + 1) = 130 + 8 * s + 2 * r.val + 1 + 1 := by omega
  generalize ht : 130 + 8 * s + 2 * r.val = t at d1 d2 t2 ⊢
  have ht' : t + 1 < 250 := by omega
  have h1 := ag_recv xv wv K ιs c r s (qs s) t hs (by unfold qs; omega) (accB ((printed c).dma r (wa r s))) (accB ((printed c).dma r (wa r s))) (credit_acc _)
    (fun i hi _ => by have := lvT_ag s i (by omega); show 2 * s + 40 < _; omega)
  have h1b : Tri (recs xv wv K ιs) c iprop(ow c t ∗ gW xv wv c r (s - 2) ∗ stF c 4 r (s - 2) s) iprop(ow c t ∗ gW xv wv c r (s + 1 - 2) ∗ stF c 4 r (s + 1 - 2) s)
      (opt (2 ≤ s) (iDWait (sem2 cc0_scratch8 r s) (accB ((printed c).dma r (wd r (s - 2)))) (outB ((printed c).dma r (wd r (s - 2)))))) := by
    refine Tri.opt (fun h => ?_) (fun h => ?_)
    · have e1 : s + 1 - 2 = s - 2 + 1 := by omega
      rw [e1]
      exact ag_hwait xv wv K ιs c r (s - 2) s t (by omega) (by omega) _ (by conv_lhs => rw [show s = s - 2 + 2 by omega, sem2_add]) _ _ (credit_out _)
    · have e1 : s + 1 - 2 = s - 2 := by omega
      rw [e1]; iintro ⟨-, H⟩; iexact H
  have h1c := ag_copy xv wv K ιs c r s (s + 1 - 2) hs (by omega) (by omega)
  have h2 : Tri (recs xv wv K ιs) c iprop(ow c t ∗ stA c 3 r (s + 1) ∗ gB c r (bs s) ∗ gZ c r)
      iprop(ow c (t + 1) ∗ stA c 3 r (s + 1) ∗ gB c r (bs (s + 1)) ∗ gZ c r)
      (opt (s ≤ 12) (iSignal (prv r c) (csem cc0_scratch7 r))) := by
    refine Tri.opt (fun h => ?_) (fun h => ?_)
    · have e1 : bs s = s := by unfold bs; omega
      have e2 : bs (s + 1) = s + 1 := by unfold bs; omega
      rw [if_pos h] at d1
      rw [e1, e2]
      exact ag_signal xv wv K ιs c r (s + 1) s t (by omega) (by omega) (by omega) d1
    · have e1 : bs (s + 1) = bs s := by unfold bs; omega
      rw [if_neg h] at d1
      rw [e1]
      iintro ⟨-, HO, HX⟩
      isplitl [HO]; · iapply (ow_skip c (by omega) d1); iexact HO
      iexact HX
  have h3 : Tri (recs xv wv K ιs) c iprop(ow c (t + 1) ∗ stM c 2 r (ms s)) iprop(ow c (t + 1) ∗ stM c 2 r (ms (s + 1)))
      (opt (1 ≤ s ∧ s ≤ 13) (iWait (csem cc0_scratch7 r) 1#32)) := by
    refine Tri.opt (fun h => ?_) (fun h => ?_)
    · have e1 : ms s = s - 1 := by unfold ms; omega
      have e2 : ms (s + 1) = s - 1 + 1 := by unfold ms; omega
      rw [e1, e2]
      exact tri_M xv wv K ιs c 2 (by decide) r (s - 1) (t + 1) (by omega) _ rfl
        (fun i hi _ => by have := lvT_ag s i (by omega); show 2 * (s - 1) + 41 < _; omega)
    · have e1 : ms (s + 1) = ms s := by unfold ms; omega
      rw [e1]; iintro ⟨-, H⟩; iexact H
  have h4 : Tri (recs xv wv K ιs) c iprop(ow c (t + 1) ∗ gN xv wv c r (ms s) ∗ stF c 2 r (ms s) (qs s))
      iprop(ow c (t + 1) ∗ gN xv wv c r (ms (s + 1)) ∗ stF c 2 r (ms (s + 1)) (qs s))
      (opt (1 ≤ s ∧ s ≤ 13) (iDWait (sem2 cc0_scratch4 r (s - 1)) (accB ((printed c).dma r (wa r (s - 1)))) (accB ((printed c).dma r (wa r (s - 1)))))) := by
    refine Tri.opt (fun h => ?_) (fun h => ?_)
    · have e1 : ms s = s - 1 := by unfold ms; omega
      have e2 : ms (s + 1) = s - 1 + 1 := by unfold ms; omega
      rw [e1, e2]
      exact ag_swait xv wv K ιs c r (s - 1) (qs s) (t + 1) (by omega) (by unfold qs; omega) _ rfl _ _ (credit_acc _)
    · have e1 : ms (s + 1) = ms s := by unfold ms; omega
      rw [e1]; iintro ⟨-, H⟩; iexact H
  have h5 : Tri (recs xv wv K ιs) c
      iprop(ow c (t + 1) ∗ stM c 2 r (ms (s + 1)) ∗ gN xv wv c r (ms (s + 1)) ∗ gQ c r (qs s) ∗ stF c 2 r (ms (s + 1)) (qs s) ∗ gV xv wv c r (qs s) (s + 1))
      iprop(ow c (t + 1 + 1) ∗ stM c 2 r (ms (s + 1)) ∗ gN xv wv c r (ms (s + 1)) ∗ gQ c r (qs (s + 1)) ∗ stF c 2 r (ms (s + 1)) (qs (s + 1))
        ∗ gV xv wv c r (qs (s + 1)) (s + 1))
      (opt (s ≤ 13) (iSendAG (nxt r c) r (s + 1) (cblk r (chunk r c (15 + (s + 1)))))) := by
    refine Tri.opt (fun h => ?_) (fun h => ?_)
    · have e1 : qs s = s + 1 := by unfold qs; omega
      have e2 : qs (s + 1) = s + 1 + 1 := by unfold qs; omega
      have e3 : ms (s + 1) = s := by unfold ms; omega
      rw [if_pos h] at d2
      rw [e1, e2, e3]
      exact ag_send xv wv K ιs c r (s + 1) s s (s + 1) (t + 1) ht' (by omega) (by omega) (by omega) (by omega) (by omega) d2
    · have e1 : qs (s + 1) = qs s := by unfold qs; omega
      rw [if_neg h] at d2
      rw [e1]
      iintro ⟨-, HO, HX⟩
      isplitl [HO]; · iapply (ow_skip c ht' d2); iexact HO
      iexact HX
  rw [e, t2]
  unfold stG
  iintro ⟨#HR, ⟨HO, HA, HB, HM, HN, HQ, HF, HV, HH, HW, HF4, HZ⟩, Hk⟩
  iapply (h1 Q _)
  isplitr; · iexact HR
  isplitl [HO HA HV]
  · isplitl [HO]; · iexact HO
    isplitl [HA]; · iexact HA
    iexact HV
  iintro ⟨HO, HA, HV, Hr⟩
  iapply (h1b Q _)
  isplitr; · iexact HR
  isplitl [HO HW HF4]
  · isplitl [HO]; · iexact HO
    isplitl [HW]; · iexact HW
    iexact HF4
  iintro ⟨HO, HW, HF4⟩
  iapply (h1c Q _)
  isplitr; · iexact HR
  isplitl [Hr HH HW HF4]
  · isplitl [Hr]; · iexact Hr
    isplitl [HH]; · iexact HH
    isplitl [HW]; · iexact HW
    iexact HF4
  iintro ⟨HH, HW, HF4⟩
  iapply (h2 Q _)
  isplitr; · iexact HR
  isplitl [HO HA HB HZ]
  · isplitl [HO]; · iexact HO
    isplitl [HA]; · iexact HA
    isplitl [HB]; · iexact HB
    iexact HZ
  iintro ⟨HO, HA, HB, HZ⟩
  iapply (h3 Q _)
  isplitr; · iexact HR
  isplitl [HO HM]; · isplitl [HO] <;> iassumption
  iintro ⟨HO, HM⟩
  iapply (h4 Q _)
  isplitr; · iexact HR
  isplitl [HO HN HF]
  · isplitl [HO]; · iexact HO
    isplitl [HN]; · iexact HN
    iexact HF
  iintro ⟨HO, HN, HF⟩
  iapply (h5 Q _)
  isplitr; · iexact HR
  isplitl [HO HM HN HQ HF HV]
  · isplitl [HO]; · iexact HO
    isplitl [HM]; · iexact HM
    isplitl [HN]; · iexact HN
    isplitl [HQ]; · iexact HQ
    isplitl [HF]; · iexact HF
    iexact HV
  iintro ⟨HO, HM, HN, HQ, HF, HV⟩
  iapply Hk
  isplitl [HO]; · iexact HO
  isplitl [HA]; · iexact HA
  isplitl [HB]; · iexact HB
  isplitl [HM]; · iexact HM
  isplitl [HN]; · iexact HN
  isplitl [HQ]; · iexact HQ
  isplitl [HF]; · iexact HF
  isplitl [HV]; · iexact HV
  isplitl [HH]; · iexact HH
  isplitl [HW]; · iexact HW
  isplitl [HF4] <;> iassumption

/-- Ring `r`'s blocks, all finished. -/
def fin (r : Fin 4) : SP F :=
  bigSep (Finset.range 16) fun i => iprop(accO c r (chunk r c i) fullShare (finV xv wv r (chunk r c i)) ∗ oux xv wv c r i)
/-- Where ring `r`'s cells of the gather stand at the end. -/
def agEnd (r : Fin 4) : SP F :=
  iprop(Pos c 3 r 15 ∗ CrPos c 2 r 13 ∗ Pos c 2 r 15 ∗ Pos c 4 r 15 ∗ atPos ER (cel1 c 0 r) 1 ∅ 0)

/-- The halves join. -/
theorem fin_join (r : Fin 4) :
    iprop(bigSep (Finset.range 15) (lef xv wv c r) ∗ lef xv wv c r 15 ∗ (bigSep (Finset.range 15) fun i => iprop(rig xv wv c r i ∗ oux xv wv c r i))
      ∗ (rig xv wv c r 15 ∗ oux xv wv c r 15)) ⊢ fin xv wv c r := by
  have hl : iprop(bigSep (Finset.range 15) (lef xv wv c r) ∗ lef xv wv c r 15)
      ⊢ iprop((bigSep (Finset.range 15) fun i => accO c r (chunk r c i) fullShare.left (finV xv wv r (chunk r c i)))
        ∗ accO c r (chunk r c 15) fullShare.left (finV xv wv r (chunk r c 15))) := by
    have e1 (p : ℕ) : lef xv wv c r (p + 1) = accO c r (chunk r c p) fullShare.left (finV xv wv r (chunk r c p)) := by
      unfold lef; rw [show 15 + (p + 1) = p + 16 by omega, chunk_16]
    have e2 : bigSep (Finset.range 15) (lef xv wv c r) ⊢ iprop(lef xv wv c r 0 ∗ bigSep (Finset.Ico 1 15) (lef xv wv c r)) := by
      rw [Finset.range_eq_Ico]; exact ico_pop _ (by omega : 0 < 15)
    have e3 : Finset.Ico 1 15 = (Finset.range 14).image (· + 1) := by decide
    have e4 : bigSep (Finset.Ico 1 15) (lef xv wv c r) = bigSep (Finset.range 14) fun p => accO c r (chunk r c p) fullShare.left (finV xv wv r (chunk r c p)) := by
      rw [e3, bigSep_image_of_injOn (fun a _ b _ h => Nat.succ.inj h)]
      exact bigSep_congr fun p _ => e1 p
    iintro ⟨H, H15⟩
    ihave H := e2 $$ H
    icases H with ⟨H0, H⟩
    ihave H := (Entails.of_eq e4) $$ H
    isplitl [H H15]
    · iapply (rng_push (fun p => accO c r (chunk r c p) fullShare.left (finV xv wv r (chunk r c p))))
      isplitl [H15]; · iapply (Entails.of_eq (e1 14)); iexact H15
      iexact H
    iapply (show lef xv wv c r 0 ⊢ accO c r (chunk r c 15) fullShare.left (finV xv wv r (chunk r c 15)) from .rfl); iexact H0
  have hj (i : ℕ) : iprop(accO c r (chunk r c i) fullShare.left (finV xv wv r (chunk r c i)) ∗ (rig xv wv c r i ∗ oux xv wv c r i))
      ⊢ iprop(accO c r (chunk r c i) fullShare (finV xv wv r (chunk r c i)) ∗ oux xv wv c r i) := by
    iintro ⟨H, Hr, Ho⟩
    isplitr [Ho]
    · iapply (acc_join c r (chunk r c i) (finV xv wv r (chunk r c i)))
      isplitl [H]; · iexact H
      iapply (show rig xv wv c r i ⊢ accO c r (chunk r c i) fullShare.right (finV xv wv r (chunk r c i)) from .rfl); iexact Hr
    iexact Ho
  have hz : iprop((bigSep (Finset.range 15) fun i => accO c r (chunk r c i) fullShare.left (finV xv wv r (chunk r c i)))
      ∗ (bigSep (Finset.range 15) fun i => iprop(rig xv wv c r i ∗ oux xv wv c r i)))
      ⊢ bigSep (Finset.range 15) fun i => iprop(accO c r (chunk r c i) fullShare (finV xv wv r (chunk r c i)) ∗ oux xv wv c r i) :=
    (Entails.of_eq (bigSep_sep' _ _ _).symm).trans (bigSep_mono fun i _ => hj i)
  unfold fin
  iintro ⟨H, H15, HD, HD15⟩
  ihave H := hl $$ [H H15]
  · isplitl [H] <;> iassumption
  icases H with ⟨H, H15⟩
  iapply (rng_push (fun i => iprop(accO c r (chunk r c i) fullShare (finV xv wv r (chunk r c i)) ∗ oux xv wv c r i)))
  isplitl [H15 HD15]
  · iapply (hj 15); isplitl [H15] <;> iassumption
  iapply hz; isplitl [H] <;> iassumption

/-- The last waits. -/
theorem ag_tail (r : Fin 4) (t : ℕ) :
    Tri (recs xv wv K ιs) c iprop(ow c t ∗ stG xv wv c r 15 ∗ ownR c r) iprop(ow c t ∗ agEnd c r ∗ fin xv wv c r) (agTail (printed c) r) := fun Q k => by
  have h1 := ag_swait xv wv K ιs c r 13 15 t (by omega) (by omega) (sem2 cc0_scratch4 r 1) rfl (accB ((printed c).dma r (wa r 15))) (accB ((printed c).dma r (wa r 15))) (credit_acc _)
  have h2 := ag_hwait xv wv K ιs c r 13 15 t (by omega) (by omega) (sem2 cc0_scratch8 r 1) rfl (accB ((printed c).dma r (wd r 15))) (outB ((printed c).dma r (wd r 15))) (credit_out _)
  have h3 := ag_swait xv wv K ιs c r 14 15 t (by omega) (by omega) (sem2 cc0_scratch4 r 0) rfl (accB ((printed c).dma r (wa r 14))) (accB ((printed c).dma r (wa r 14))) (credit_acc _)
  have h4 := ag_hwait xv wv K ιs c r 14 15 t (by omega) (by omega) (sem2 cc0_scratch8 r 0) rfl (accB ((printed c).dma r (wd r 14))) (outB ((printed c).dma r (wd r 14))) (credit_out _)
  have h5 := tri_dwait1 xv wv K ιs c r t (accB (blk0 r)) (outB (blk0 r)) (credit_out _) (fun i _ _ => lvT_pos i)
  unfold agTail stG ownR
  iintro ⟨#HR, ⟨HO, ⟨HA, HB, HM, HN, HQ, HF, HV, HH, HW, HF4, HZ⟩, Hp, Hc⟩, Hk⟩
  iapply (h1 Q _)
  isplitr; · iexact HR
  isplitl [HO HN HF]
  · isplitl [HO]; · iexact HO
    isplitl [HN]; · iexact HN
    iexact HF
  iintro ⟨HO, HN, HF⟩
  iapply (h2 Q _)
  isplitr; · iexact HR
  isplitl [HO HW HF4]
  · isplitl [HO]; · iexact HO
    isplitl [HW]; · iexact HW
    iexact HF4
  iintro ⟨HO, HW, HF4⟩
  iapply (h3 Q _)
  isplitr; · iexact HR
  isplitl [HO HN HF]
  · isplitl [HO]; · iexact HO
    isplitl [HN]; · iexact HN
    iexact HF
  iintro ⟨HO, HN, -⟩
  iapply (h4 Q _)
  isplitr; · iexact HR
  isplitl [HO HW HF4]
  · isplitl [HO]; · iexact HO
    isplitl [HW]; · iexact HW
    iexact HF4
  iintro ⟨HO, HW, -⟩
  iapply (h5 Q _)
  isplitr; · iexact HR
  isplitl [HO Hp Hc]
  · isplitl [HO]; · iexact HO
    isplitl [Hp]; · iexact Hp
    iexact Hc
  iintro ⟨HO, Hp, Hy⟩
  ihave HA := (show stA (F := F) c 3 r 15 ⊢ Pos c 3 r 15 by unfold stA; iintro ⟨-, H, -⟩; iexact H) $$ HA
  ihave HM := (show stM (F := F) c 2 r (ms 15) ⊢ CrPos c 2 r 13 by unfold stM; iintro ⟨-, H, -⟩; iexact H) $$ HM
  ihave HN := (show gN xv wv c r (14 + 1) ⊢ iprop(Pos c 2 r 15 ∗ bigSep (Finset.range 15) (lef xv wv c r)) by
    unfold gN; iintro ⟨⟨H, -⟩, H'⟩; isplitl [H] <;> iassumption) $$ HN
  ihave HW := (show gW xv wv c r (14 + 1) ⊢ iprop(Pos c 4 r 15 ∗ bigSep (Finset.range 15) fun i => iprop(rig xv wv c r i ∗ oux xv wv c r i)) by
    unfold gW; iintro ⟨⟨H, -⟩, H'⟩; isplitl [H] <;> iassumption) $$ HW
  icases HN with ⟨HN, HL⟩
  icases HW with ⟨HW, HD⟩
  iapply Hk
  unfold agEnd
  isplitl [HO]; · iexact HO
  isplitl [HA HM HN HW Hp]
  · isplitl [HA]; · iexact HA
    isplitl [HM]; · iexact HM
    isplitl [HN]; · iexact HN
    isplitl [HW]; · iexact HW
    iexact Hp
  iapply (fin_join xv wv c r)
  isplitl [HL]; · iexact HL
  isplitl [HV]
  · iapply (show gV xv wv c r (qs 15) 15 ⊢ lef xv wv c r 15 by
      unfold gV; rw [show qs 15 = 15 from rfl, show Finset.Ico 15 (15 + 1) = {15} from rfl, bigSep_singleton])
    iexact HV
  isplitl [HD]; · iexact HD
  iapply (show pay1 xv wv 0 c r 0 ⊢ iprop(rig xv wv c r 15 ∗ oux xv wv c r 15) from .rfl); iexact Hy

end Cert.KernelIdeal.Chain
-- ==== Proof.Body.lean ====
module

public import proofs.«01_k».proof.Proof.Phases

/-! The whole body on one device. -/

@[expose] public section

set_option synthInstance.maxSize 4096

noncomputable section

namespace Cert.KernelIdeal.Chain

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (xv : Dev nD → Vec F S4096x256 .f32) (wv : Dev nD → Vec F S256x2048 .f32) (K : Dev nD × CK → ℕ) (ιs : Kx → ℕ) (c : Dev nD)

/-! ## Four rings as one assertion -/

section Big
variable {I : Type} [DecidableEq I]

omit [FloatOps F] in
/-- One more place. -/
theorem big_insert {i : I} {s : Finset I} (h : i ∉ s) {Φ : I → SP F} : bigSep (insert i s) Φ = iprop(Φ i ∗ bigSep s Φ) := bigSep_insert h
omit [FloatOps F] in
/-- One place taken out. -/
theorem big_erase {s : Finset I} {i : I} (h : i ∈ s) {Φ : I → SP F} : bigSep s Φ = iprop(Φ i ∗ bigSep (s.erase i) Φ) := bigSep_erase h
omit [FloatOps F] in
/-- Two families into one. -/
theorem big_join (s : Finset I) (Φ Ψ : I → SP F) : iprop(bigSep s Φ ∗ bigSep s Ψ) ⊢ bigSep s (fun i => iprop(Φ i ∗ Ψ i)) :=
  Entails.of_eq (bigSep_sep' _ _ _).symm
omit [FloatOps F] in
/-- And back. -/
theorem big_split (s : Finset I) (Φ Ψ : I → SP F) : bigSep s (fun i => iprop(Φ i ∗ Ψ i)) ⊢ iprop(bigSep s Φ ∗ bigSep s Ψ) :=
  Entails.of_eq (bigSep_sep' _ _ _)
end Big

omit [FloatOps F] in
/-- What is held for the four rings, one by one. -/
theorem four_split (A : Fin 4 → SP F) : bigSep Finset.univ A ⊢ iprop(A 0 ∗ A 1 ∗ A 2 ∗ A 3) := by
  rw [show (Finset.univ : Finset (Fin 4)) = {0, 1, 2, 3} from rfl, big_insert (by decide), big_insert (by decide), big_insert (by decide), bigSep_singleton]
omit [FloatOps F] in
/-- What is held one by one, for the four rings. -/
theorem four_join (A : Fin 4 → SP F) : iprop(A 0 ∗ A 1 ∗ A 2 ∗ A 3) ⊢ bigSep Finset.univ A := by
  rw [show (Finset.univ : Finset (Fin 4)) = {0, 1, 2, 3} from rfl, big_insert (by decide), big_insert (by decide), big_insert (by decide), bigSep_singleton]

/-- A pass over the four rings, each taking its part and counting on, takes all four parts. -/
theorem Tri.rings' {R : SP F} [BI.Persistent R] {c : Dev nD} (T : ℕ → SP F) (A B : Fin 4 → SP F) (f : Fin 4 → PR F → PR F)
    (h : ∀ r : Fin 4, Tri R c iprop(T r.val ∗ A r) iprop(T (r.val + 1) ∗ B r) (f r)) :
    Tri R c iprop(T 0 ∗ bigSep Finset.univ A) iprop(T 4 ∗ bigSep Finset.univ B) (Chain.rings f) := by
  refine ((Tri.rings T A B f h).pre ?_).post ?_
  · iintro ⟨-, HT, H⟩
    isplitl [HT]; · iexact HT
    iapply (four_split A); iexact H
  · iintro ⟨-, HT, H⟩
    isplitl [HT]; · iexact HT
    iapply (four_join B); iexact H

/-! ## The products -/

/-- The product's block of ring `r`, `o` bands up from the device. -/
def pblk (r : Fin 4) (o : ℕ) : SP F := accO c r (up c o) fullShare (partV xv wv r c (up c o))
/-- The blocks multiplied and not used yet, the offsets of each ring given. -/
def PB (A : Fin 4 → Finset ℕ) : SP F := bigSep Finset.univ fun r => bigSep (A r) (pblk xv wv c r)
/-- The bands not multiplied yet. -/
def UB (U : Finset ℕ) : SP F := bigSep U fun o => bandS c (up c o)

/-- The step that uses the block `o` bands up. -/
def jo (r : Fin 4) (o : ℕ) : ℕ := (kk r * o) % 16
/-- The offsets multiplied before step `s` and not used yet. -/
def av (s : ℕ) (r : Fin 4) : Finset ℕ := (Finset.range 16).filter fun o => s < jo r o ∧ (o ≤ s + 1 ∨ 15 ≤ o + s)
/-- The same after the step's use. -/
def av' (s : ℕ) (r : Fin 4) : Finset ℕ := (Finset.range 16).filter fun o => s + 1 < jo r o ∧ (o ≤ s + 1 ∨ 15 ≤ o + s)
/-- The offsets not multiplied before step `s`. -/
def un (s : ℕ) : Finset ℕ := (Finset.range 16).filter fun o => ¬ (o ≤ s + 1 ∨ 15 ≤ o + s)

/-- A step's block is among those multiplied and not used, and without it those after the use remain. -/
theorem av_use : ∀ (s : Fin 15) (r : Fin 4), jo r (s.val + 1) ∈ av s r ∧ (av s r).erase (jo r (s.val + 1)) = av' s r := by decide +kernel
/-- On the first six steps two further bands are multiplied, and both are new. -/
theorem gem_two : ∀ s : Fin 6, 14 - s.val ∈ un s ∧ s.val + 2 ∈ (un s).erase (14 - s.val) ∧ ((un s).erase (14 - s.val)).erase (s.val + 2) = un (s.val + 1)
    ∧ ∀ r : Fin 4, 14 - s.val ∉ av' s r ∧ s.val + 2 ∉ insert (14 - s.val) (av' s r) ∧ insert (s.val + 2) (insert (14 - s.val) (av' s r)) = av (s.val + 1) r := by
  decide +kernel
/-- On step six one further band is multiplied. -/
theorem gem_one : 8 ∈ un 6 ∧ (un 6).erase 8 = un 7 ∧ ∀ r : Fin 4, 8 ∉ av' 6 r ∧ insert 8 (av' 6 r) = av 7 r := by decide +kernel
/-- From step seven on no band is multiplied. -/
theorem gem_no : ∀ s : Fin 15, 7 ≤ s.val → un s = un (s.val + 1) ∧ ∀ r : Fin 4, av' s r = av (s.val + 1) r := by decide +kernel
/-- The products made before the first step are those at offsets zero, one and fifteen; the one at zero is used at once. -/
theorem gem_init : ∀ r : Fin 4, insert 15 (insert 1 (insert 0 (∅ : Finset ℕ))) = insert 0 (av 0 r) ∧ 0 ∉ av 0 r := by decide +kernel
/-- The other bands are not multiplied before the first step. -/
theorem gem_un : (((Finset.range 16).erase 0).erase 1).erase 15 = un 0 := by decide +kernel

/-- The band at the offset of a step is the one worked on at that step. -/
theorem up_jo (r : Fin 4) (j : ℕ) : up c (jo r j) = chunk r c j := by
  apply Fin.ext; have : c.val < 16 := c.isLt; rcases kk_cases r with ⟨-, h⟩ | ⟨-, h⟩ <;> simp only [up, chunk, jo, h] <;> omega

/-- One product. -/
theorem tri_product (A : Fin 4 → Finset ℕ) (U : Finset ℕ) (g o : ℕ) (hg : g ≤ 15) (ho : gd g = o) (hU : o ∈ U) (hA : ∀ r, o ∉ A r) :
    Tri (recs xv wv K ιs) c iprop(inP xv wv c ∗ UB c U ∗ PB xv wv c A) iprop(inP xv wv c ∗ UB c (U.erase o) ∗ PB xv wv c fun r => insert o (A r))
      (iGemm xM wM ((printed c).gx g) ((printed c).gb g)) := by
  rw [printed_gx c g hg, printed_gb c g hg, ho]
  have hj : iprop(partP xv wv c (up c o) ∗ PB xv wv c A) ⊢ PB xv wv c fun r => insert o (A r) := by
    unfold partP PB
    refine (big_join _ _ _).trans (bigSep_mono fun r _ => ?_)
    rw [big_insert (hA r)]
    exact fun _ h => h
  have hu : UB (F := F) c U ⊢ iprop(bandS c (up c o) ∗ UB c (U.erase o)) := by unfold UB; exact Entails.of_eq (big_erase hU)
  refine ((tri_gemm (R := recs xv wv K ιs) (c := c) xv wv (up c o)).frame iprop(UB c (U.erase o) ∗ PB xv wv c A)).pre ?_ |>.post ?_
  · iintro ⟨-, HI, HU, HP⟩
    ihave HU := hu $$ HU
    icases HU with ⟨Hb, HU⟩
    iframe HI Hb HU HP
  · iintro ⟨-, ⟨HI, Hp⟩, HU, HP⟩
    iframe HI HU
    iapply hj; iframe Hp HP

/-- The products after step `s`. -/
theorem tri_products (s : ℕ) (hs : s < 15) :
    Tri (recs xv wv K ιs) c iprop(inP xv wv c ∗ UB c (un s) ∗ PB xv wv c (av' s)) iprop(inP xv wv c ∗ UB c (un (s + 1)) ∗ PB xv wv c (av (s + 1)))
      (rsGemm (printed c) xM wM s) := by
  have e (f g : PR F → PR F) (h : rsGemm (F := F) (printed c) xM wM s = fun k => f (g k)) {P P' P'' : SP F} (h1 : Tri (recs xv wv K ιs) c P P' f)
    (h2 : Tri (recs xv wv K ιs) c P' P'' g) : Tri (recs xv wv K ιs) c P P'' (rsGemm (printed c) xM wM s) := by rw [h]; exact h1.comp h2
  by_cases h6 : s < 6
  · obtain ⟨a1, a2, a3, a4⟩ := gem_two ⟨s, h6⟩
    refine e _ _ (by funext k; unfold rsGemm opt; rw [if_pos (by omega), if_pos (by omega)])
      (tri_product xv wv K ιs c (av' s) (un s) (3 + s) (14 - s) (by omega) (by unfold gd; rw [if_neg (by omega), if_neg (by omega), if_pos (by omega)]; omega) a1 fun r => (a4 r).1) ?_
    have h := tri_product xv wv K ιs c (fun r => insert (14 - s) (av' s r)) ((un s).erase (14 - s)) (10 + s) (s + 2) (by omega)
      (by unfold gd; rw [if_neg (by omega), if_neg (by omega), if_neg (by omega)]; omega) a2 fun r => (a4 r).2.1
    rw [a3, show (fun r => insert (s + 2) (insert (14 - s) (av' s r))) = av (s + 1) from funext fun r => (a4 r).2.2] at h
    exact h
  · by_cases h7 : s = 6
    · subst h7
      obtain ⟨a1, a2, a3⟩ := gem_one
      have h := tri_product xv wv K ιs c (av' 6) (un 6) 9 8 (by omega) rfl a1 fun r => (a3 r).1
      rw [a2, show (fun r => insert 8 (av' 6 r)) = av 7 from funext fun r => (a3 r).2] at h
      exact h
    · obtain ⟨a1, a2⟩ := gem_no ⟨s, hs⟩ (by show 7 ≤ s; omega)
      have e0 : rsGemm (F := F) (printed c) xM wM s = fun k => k := by funext k; unfold rsGemm opt; rw [if_neg (by omega), if_neg (by omega)]
      rw [e0, show un (s + 1) = un s from a1.symm, show av (s + 1) = av' s from (funext a2).symm]
      exact Tri.skip (by iintro ⟨-, H⟩; iexact H)

/-! ## The reduction -/

/-- Before reduction step `s`. -/
def RS (s : ℕ) : SP F :=
  iprop(ow c (6 + 8 * s) ∗ (bigSep Finset.univ fun r => stR xv wv c r s) ∗ inP xv wv c ∗ UB c (un s) ∗ PB xv wv c (av s))

/-- One reduction step on all rings, with the products after it. -/
theorem RS_step (s : ℕ) (hs : s < 15) :
    Tri (recs xv wv K ιs) c (RS xv wv c s) (RS xv wv c (s + 1)) (fun k => rings (rsStep (printed c) s) (rsGemm (printed c) xM wM s k)) := by
  have hr (r : Fin 4) : Tri (recs xv wv K ιs) c
      iprop((fun n => ow c (6 + 8 * s + 2 * n)) r.val ∗ (fun r => iprop(stR xv wv c r s ∗ bigSep (av s r) (pblk xv wv c r))) r)
      iprop((fun n => ow c (6 + 8 * s + 2 * n)) (r.val + 1) ∗ (fun r => iprop(stR xv wv c r (s + 1) ∗ bigSep (av' s r) (pblk xv wv c r))) r)
      (rsStep (printed c) s r) := by
    obtain ⟨a1, a2⟩ := av_use ⟨s, hs⟩ r
    have hp : bigSep (av s r) (pblk xv wv c r) ⊢ iprop(stP xv wv c r (s + 1) ∗ bigSep (av' s r) (pblk xv wv c r)) := by
      rw [big_erase a1, show (av s r).erase (jo r (s + 1)) = av' s r from a2]
      unfold stP pblk
      rw [← up_jo c r (s + 1)]
    refine ((rs_step xv wv K ιs c r s hs).frame (bigSep (av' s r) (pblk xv wv c r))).pre ?_ |>.post ?_
    · iintro ⟨-, HO, HR, HP⟩
      ihave HP := hp $$ HP
      icases HP with ⟨Hp, HP⟩
      iframe HO HR Hp HP
    · iintro ⟨-, ⟨HO, HR⟩, HP⟩
      iframe HO HR HP
  have h1 := (Tri.rings' (fun n => ow c (6 + 8 * s + 2 * n)) _ _ _ hr).frame iprop(inP xv wv c ∗ UB c (un s))
  have h2 := (tri_products xv wv K ιs c s hs).frame iprop(ow c (6 + 8 * (s + 1)) ∗ bigSep Finset.univ fun r => stR xv wv c r (s + 1))
  refine (h1.pre ?_).comp (h2.pre ?_ |>.post ?_)
  · unfold RS PB
    iintro ⟨-, HO, HR, HI, HU, HP⟩
    iframe HI HU
    isplitl [HO]; · iexact HO
    iapply (big_join Finset.univ (fun r => stR xv wv c r s) (fun r => bigSep (av s r) (pblk xv wv c r)))
    iframe HR HP
  · have hs' := (big_split (Finset.univ : Finset (Fin 4)) (fun r => stR xv wv c r (s + 1)) (fun r => bigSep (av' s r) (pblk xv wv c r)))
    unfold PB
    iintro ⟨-, ⟨HO, H⟩, HI, HU⟩
    ihave H := hs' $$ H
    icases H with ⟨HR, HP⟩
    iframe HI HU HP HR
    iapply (show ow (F := F) c (6 + 8 * s + 2 * 4) ⊢ ow c (6 + 8 * (s + 1)) by rw [show 6 + 8 * s + 2 * 4 = 6 + 8 * (s + 1) by omega])
    iexact HO
  · unfold RS
    iintro ⟨-, ⟨HI, HU, HP⟩, HO, HR⟩
    iframe HO HR HI HU HP

/-! ## The gather -/

/-- Before gather step `s`. -/
def AG (s : ℕ) : SP F := iprop(ow c (130 + 8 * s) ∗ bigSep Finset.univ fun r => stG xv wv c r s)

/-- One gather step on all rings. -/
theorem AG_step (s : ℕ) (hs : s < 15) :
    Tri (recs xv wv K ιs) c (AG xv wv c s) (AG xv wv c (s + 1)) (fun k => rings (agStep (printed c) s) k) := by
  refine (Tri.rings' (fun n => ow c (130 + 8 * s + 2 * n)) (fun r => stG xv wv c r s) (fun r => stG xv wv c r (s + 1)) _ fun r => ag_step xv wv K ιs c r s hs).post ?_
  unfold AG
  rw [show 130 + 8 * s + 2 * 4 = 130 + 8 * (s + 1) by omega]
  iintro ⟨-, H⟩; iexact H

/-! ## The start -/

/-- The wait for both neighbours. -/
theorem tri_bar (t : ℕ) (ht : 2 ≤ t) :
    Tri (recs xv wv K ιs) c iprop(ow c t ∗ atPos ER (celB c) 0 ∅ 0 ∗ cred (tallyAt (celB c) 0 2))
      iprop(ow c t ∗ atPos ER (celB c) 1 ∅ 0 ∗ barPay c 0 ∗ barPay c 1) (iWait barS 2#32) := fun Q k' => by
  have hexp : (Rd xv wv).expect ((c : Thread nD τ), .reg barS) 0 = 2 := (Rd_expect xv wv c (.inl ()) 0).trans rfl
  have hrest : bigSep ((Rd xv wv).duties ((c : Thread nD τ), .reg barS) 0 \ ∅)
      (fun d => (Rd xv wv).payload ((c : Thread nD τ), .reg barS) 0 d) = iprop(barPay c 0 ∗ barPay c 1) := by
    rw [Finset.sdiff_empty, show (Rd xv wv).duties ((c : Thread nD τ), .reg barS) 0 = {0, 1} from Rd_duties xv wv c (.inl ()) 0, big_insert (by decide), bigSep_singleton]
    exact congrArg₂ (fun a b => iprop(a ∗ b)) (Rd_payload xv wv c (.inl ()) 0 0) (Rd_payload xv wv c (.inl ()) 0 1)
  have hmay := recs_may xv wv K ιs c (.inl ()) 0 t (by decide) (fun i hi _ => by show 1 < _; unfold lvT; split_ifs <;> omega) rfl
  unfold ow iWait celB
  iintro ⟨#HR, ⟨⟨%W, HO⟩, Hat, Hc⟩, Hk⟩
  ihave #HI := (recs_cell xv wv K ιs (c, .inl ())) $$ HR
  iapply (Rounds.wp_wait_rest_token 𝒱₀ ER (Rd xv wv) (c : Thread nD τ) none (κ := K (c, .inl ()))
      (wpE_semWait_eq 𝒱₀ (c : Thread nD τ) none Set.univ) (Set.mem_univ _) 0 (O := owed t c) (W := W) (R := 0) (m := 0) (T := ∅)
      (by rw [Nat.zero_add, hexp]; rfl)) $$ [Hc HO Hat]
  · isplitr; · iexact HI
    isplitl [Hc]; · iexact Hc
    isplitl [HO]; · iexact HO
    isplitr; · iapply hmay; iexact HR
    iexact Hat
  iintro ⟨HO, Hat, -, Hpay⟩
  iapply Hk
  isplitl [HO]; · iexists _; iexact HO
  isplitl [Hat]; · iexact Hat
  iapply (Entails.of_eq hrest); iexact Hpay

/-- What ring `r` needs from the start for the reduction. -/
def rI (r : Fin 4) : SP F :=
  iprop(((bigSep (Finset.Ico 0 15) fun i => cred (tallyAt (cel2 c 1 r i) i NN)) ∗ Pos c 1 r 0)
    ∗ (bigSep (Finset.Ico 0 13) fun d => dutyTok ER (cel1 (prv r c) 1 r) 0 d)
    ∗ ((Release.readerAt EQ (ckey c r 0) 0 ∗ comS c r 0) ∗ (Release.readerAt EQ (ckey c r 1) 0 ∗ comS c r 1))
    ∗ ((bigSep (Finset.Ico 0 13) fun i => cred (tallyAt (cel1 c 1 r) i 1)) ∗ CrPos c 1 r 0)
    ∗ Pos c 0 r 0 ∗ (bigSep (Finset.Ico 0 15) fun j => Release.readerAt EQ (bkey c r j) 0) ∗ stQ c r 0)
/-- The same, the receive slots given to the predecessor. -/
def rI' (r : Fin 4) : SP F :=
  iprop(((bigSep (Finset.Ico 0 15) fun i => cred (tallyAt (cel2 c 1 r i) i NN)) ∗ Pos c 1 r 0)
    ∗ stB c r 0
    ∗ ((bigSep (Finset.Ico 0 13) fun i => cred (tallyAt (cel1 c 1 r) i 1)) ∗ CrPos c 1 r 0)
    ∗ Pos c 0 r 0 ∗ (bigSep (Finset.Ico 0 15) fun j => Release.readerAt EQ (bkey c r j) 0) ∗ stQ c r 0)

/-- The two receive slots are given up for remote writes, which gives the first two facts of the reduction. -/
theorem rI_release (r : Fin 4) : iprop(recs xv wv K ιs ∗ rI c r) ⊢ iprop(|={Set.univ}=> (rI' c r ∗ sfacts c r 2)) := by
  have hs (i : ℕ) : comS (F := F) c r i ⊢ slotS (ckey c r i) := by rw [slotS_ckey]
  have hf (i : ℕ) (hi : i < 2) : iprop(recs xv wv K ιs ∗ Release.released EQ (ckey c r i) 1) ⊢ sfact c r i := by
    have e : i / 2 + 1 = 1 := by omega
    unfold sfact; rw [if_neg (by omega), e]
    iintro ⟨#HR, #H⟩
    isplitr; · iexact H
    isplitr
    · iapply (Rch_elim c 1 r 0 i hi); iapply (Rch_zero xv wv K ιs c 1 r); iexact HR
    iempintro
  unfold rI rI' stB
  iintro ⟨#HR, HA, HB, ⟨⟨Hr0, Hs0⟩, ⟨Hr1, Hs1⟩⟩, HM, HN, HX, HQ⟩
  ihave H0 := (release xv wv K ιs (ckey c r 0) 0) $$ [Hr0 Hs0]
  · isplitr; · iexact HR
    isplitl [Hr0]; · iexact Hr0
    iapply (hs 0); iexact Hs0
  imod H0
  ihave H1 := (release xv wv K ιs (ckey c r 1) 0) $$ [Hr1 Hs1]
  · isplitr; · iexact HR
    isplitl [Hr1]; · iexact Hr1
    iapply (hs 1); iexact Hs1
  imod H1
  icases H0 with ⟨Hr0, #Hf0⟩
  icases H1 with ⟨Hr1, #Hf1⟩
  ihave #Hf : sfacts c r 2 $$ []
  · unfold sfacts
    iapply (bigSep_range_two (sfact c r))
    isplitr
    · iapply (hf 0 (by omega)); isplitr; · iexact HR
      iexact Hf0
    · iapply (hf 1 (by omega)); isplitr; · iexact HR
      iexact Hf1
  imodintro
  isplitl [HA HB Hr0 Hr1 HM HN HX HQ]
  · isplitl [HA]; · iexact HA
    isplitl [HB Hr0 Hr1]
    · isplitl [HB]; · iexact HB
      isplitl [Hr0 Hr1]
      · isplitl [Hr0]; · iexact Hr0
        iexact Hr1
      iexact Hf
    iframe HM HN HX HQ
  iexact Hf

/-- What the barrier needs from the start. -/
def barI : SP F :=
  iprop(dutyTok ER (celB (lft c)) 0 0 ∗ dutyTok ER (celB (rgt c)) 0 1 ∗ atPos ER (celB c) 0 ∅ 0 ∗ cred (tallyAt (celB c) 0 2))

/-- The body's start up to the barrier. -/
theorem bar_step :
    Tri (recs xv wv K ιs) c iprop(ow c 0 ∗ barI c ∗ bigSep Finset.univ fun r => rI c r)
      iprop(ow c 2 ∗ atPos ER (celB c) 1 ∅ 0 ∗ (bigSep Finset.univ fun r => rI' c r) ∗ bigSep Finset.univ fun r => sfacts (nxt r c) r 2)
      (fun k => iSignal (lft c) barS (iSignal (rgt c) barS (iWait barS 2#32 k))) := by
  have h1 := (tri_signal xv wv K ιs c (lft c) (.inl ()) barS rfl 0 0 0 (by omega) rfl (by decide) rfl).frame
    iprop(dutyTok ER (celB (rgt c)) 0 1 ∗ (atPos ER (celB c) 0 ∅ 0 ∗ cred (tallyAt (celB c) 0 2)) ∗ (bigSep Finset.univ fun r => rI' c r)
      ∗ bigSep Finset.univ fun r => sfacts c r 2)
  have h2 := (tri_signal xv wv K ιs c (rgt c) (.inl ()) barS rfl 1 0 1 (by omega) rfl (by decide) rfl).frame
    iprop((atPos ER (celB c) 0 ∅ 0 ∗ cred (tallyAt (celB c) 0 2)) ∗ bigSep Finset.univ fun r => rI' c r)
  have h3 := (tri_bar xv wv K ιs c 2 (by omega)).frame (bigSep Finset.univ fun r => rI' c r)
  have n0 : nxt 0 (lft c) = c := nxt_prv 0 c
  have n1 : nxt 1 (lft c) = c := nxt_prv 1 c
  have n2 : nxt 2 (rgt c) = c := nxt_prv 2 c
  have n3 : nxt 3 (rgt c) = c := nxt_prv 3 c
  have hp0 : iprop(sfacts (F := F) c 0 2 ∗ sfacts c 1 2) ⊢ payK xv wv (lft c) (.inl ()) 0 0 := by
    show _ ⊢ barPay (lft c) 0
    unfold barPay; rw [if_pos rfl, n0, n1]
  have hp1 : iprop(sfacts (F := F) c 2 2 ∗ sfacts c 3 2) ⊢ payK xv wv (rgt c) (.inl ()) 0 1 := by
    show _ ⊢ barPay (rgt c) 1
    unfold barPay; rw [if_neg (by decide), n2, n3]
  have hb : iprop(barPay (F := F) c 0 ∗ barPay c 1) ⊢ bigSep Finset.univ fun r => sfacts (nxt r c) r 2 := by
    refine BIBase.Entails.trans ?_ (four_join fun r => sfacts (nxt r c) r 2)
    unfold barPay; rw [if_pos rfl, if_neg (by decide)]
    iintro ⟨⟨H0, H1⟩, H2, H3⟩; iframe H0 H1 H2 H3
  have hrel : iprop(recs xv wv K ιs ∗ bigSep Finset.univ fun r => rI c r)
      ⊢ iprop(|={Set.univ}=> ((bigSep Finset.univ fun r => rI' c r) ∗ bigSep Finset.univ fun r => sfacts c r 2)) := by
    refine BIBase.Entails.trans ?_ (fupd_mono (big_split (Finset.univ : Finset (Fin 4)) (fun r => rI' (F := F) c r) (fun r => sfacts c r 2)))
    refine BIBase.Entails.trans ?_ (bigSep_fupd _ _)
    exact bigSep_with_persistent fun r _ => rI_release xv wv K ιs c r
  refine (Tri.fupd h1 ?_).comp ((h2.pre ?_).comp ((h3.pre ?_).post ?_))
  · unfold barI
    iintro ⟨#HR, HO, ⟨Ht0, Ht1, HB⟩, H⟩
    ihave H := hrel $$ [H]
    · isplitr; · iexact HR
      iexact H
    imod H
    icases H with ⟨H, #Hf⟩
    ihave #Hf4 := (four_split fun r => sfacts (F := F) c r 2) $$ Hf
    icases Hf4 with ⟨#H0, #H1, -⟩
    imodintro
    isplitl [HO Ht0]
    · isplitl [HO]; · iexact HO
      isplitl [Ht0]; · iexact Ht0
      iapply hp0; isplitr; · iexact H0
      iexact H1
    isplitl [Ht1]; · iexact Ht1
    isplitl [HB]; · iexact HB
    isplitl [H]; · iexact H
    iexact Hf
  · iintro ⟨-, HO, Ht1, HB, H, Hf⟩
    ihave Hf4 := (four_split fun r => sfacts (F := F) c r 2) $$ Hf
    icases Hf4 with ⟨-, -, H2, H3⟩
    isplitl [HO Ht1 H2 H3]
    · isplitl [HO]; · iexact HO
      isplitl [Ht1]; · iexact Ht1
      iapply hp1; iframe H2 H3
    iframe HB H
  · iintro ⟨-, HO, HB, H⟩
    iframe HO HB H
  · iintro ⟨-, ⟨HO, HB, H0, H1⟩, H⟩
    iframe HO HB H
    iapply hb; iframe H0 H1

end Cert.KernelIdeal.Chain
-- ==== Proof.Whole.lean ====
module

public import proofs.«01_k».proof.Proof.Body

/-! The body from its start to its end. -/

@[expose] public section

set_option synthInstance.maxSize 4096

noncomputable section

namespace Cert.KernelIdeal.Chain

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (xv : Dev nD → Vec F S4096x256 .f32) (wv : Dev nD → Vec F S256x2048 .f32) (K : Dev nD × CK → ℕ) (ιs : Kx → ℕ) (c : Dev nD)

/-- The three products before the reduction. -/
theorem tri_first :
    Tri (recs xv wv K ιs) c iprop(inP xv wv c ∗ UB c (Finset.range 16)) iprop(inP xv wv c ∗ UB c (un 0) ∗ PB xv wv c (av 0) ∗ bigSep Finset.univ fun r => pblk xv wv c r 0)
      (fun k => iGemm xM wM ((printed c).gx 0) ((printed c).gb 0) (iGemm xM wM ((printed c).gx 1) ((printed c).gb 1)
        (iGemm xM wM ((printed c).gx 2) ((printed c).gb 2) k))) := by
  have h1 := tri_product xv wv K ιs c (fun _ => ∅) (Finset.range 16) 0 0 (by omega) rfl (by decide) (fun r => by decide)
  have h2 := tri_product xv wv K ιs c (fun _ => insert 0 ∅) ((Finset.range 16).erase 0) 1 1 (by omega) rfl (by decide) (fun r => by decide)
  have h3 := tri_product xv wv K ιs c (fun _ => insert 1 (insert 0 ∅)) (((Finset.range 16).erase 0).erase 1) 2 15 (by omega) rfl (by decide) (fun r => by decide)
  have hs : PB xv wv c (fun _ => insert 15 (insert 1 (insert 0 ∅))) ⊢ iprop(PB xv wv c (av 0) ∗ bigSep Finset.univ fun r => pblk xv wv c r 0) := by
    refine BIBase.Entails.trans ?_ (big_split _ _ _)
    unfold PB
    refine bigSep_mono fun r _ => ?_
    rw [(gem_init r).1, big_insert (gem_init r).2]
    exact Idealize.SL.BI.sep_comm
  refine ((h1.pre ?_).comp (h2.comp h3)).post ?_
  · iintro ⟨-, HI, HU⟩
    iframe HI HU
    unfold PB
    rw [show (fun r : Fin 4 => bigSep (∅ : Finset ℕ) (pblk xv wv c r)) = fun _ => iprop(emp) from funext fun r => bigSep_empty]
    iapply (bigSep_of_persistent (Finset.univ : Finset (Fin 4)) (iprop(emp) : SP F)); iempintro
  · rw [gem_un]
    iintro ⟨-, HI, HU, HP⟩
    iframe HI HU
    iapply hs; iexact HP

/-- What ring `r` starts the reduction with. -/
theorem stR0_intro (r : Fin 4) : iprop(recs xv wv K ιs ∗ (rI' c r ∗ sfacts (nxt r c) r 2 ∗ pblk xv wv c r 0)) ⊢ stR0 xv wv c r := by
  have ev : pblk xv wv c r 0 ⊢ stV xv wv c r 0 0 := by
    unfold stV pblk
    rw [show Finset.Ico 0 (0 + 1) = {0} from rfl, bigSep_singleton, show up c 0 = chunk r c 0 from up_jo c r 0]
    exact .rfl
  unfold rI' stR0 stA stM stN
  iintro ⟨#HR, ⟨⟨HA, HAp⟩, HB, ⟨HM, HMp⟩, HN, HX, HQ⟩, Hf, Hv⟩
  isplitl [HA HAp]
  · iframe HA HAp
    iapply (Rch_zero xv wv K ιs c 1 r); iexact HR
  isplitl [HB]; · iexact HB
  isplitl [HM HMp Hf]
  · iframe HM HMp
    iapply (show sfacts (F := F) (nxt r c) r 2 ⊢ cfact c 1 r 2 from .rfl); iexact Hf
  isplitl [HN HX]
  · isplitl [HN]
    · iframe HN
      iapply (Rch_zero xv wv K ιs c 0 r); iexact HR
    iframe HX
    rw [Finset.range_zero, bigSep_empty]; iempintro
  iframe HQ
  iapply ev; iexact Hv

/-- What the body starts with. -/
def bodyPre : SP F :=
  iprop(ow c 0 ∗ barI c ∗ (bigSep Finset.univ fun r => rI c r) ∗ (bigSep Finset.univ fun r => gI c r) ∗ inP xv wv c ∗ UB c (Finset.range 16))
/-- What the body ends with. -/
def bodyPost : SP F :=
  iprop(ow c 250 ∗ atPos ER (celB c) 1 ∅ 0 ∗ (bigSep Finset.univ fun r => rsEnd c r) ∗ (bigSep Finset.univ fun r => agEnd c r)
    ∗ (bigSep Finset.univ fun r => fin xv wv c r) ∗ inP xv wv c)

/-- The reduction. -/
theorem reduce_tri :
    Tri (recs xv wv K ιs) c iprop(ow c 2 ∗ (bigSep Finset.univ fun r => stR0 xv wv c r) ∗ inP xv wv c ∗ UB c (un 0) ∗ PB xv wv c (av 0))
      iprop(ow c 126 ∗ (bigSep Finset.univ fun r => rsEnd c r) ∗ (bigSep Finset.univ fun r => rsOut xv wv c r) ∗ inP xv wv c)
      (fun k => Chain.rings (fun r => rsStart (printed c) r 0) (steps (fun s k => Chain.rings (rsStep (printed c) s) (rsGemm (printed c) xM wM s k)) 15 0
        (Chain.rings (rsTail (printed c)) k))) := by
  have h1 := (Tri.rings' (fun n => ow c (2 + n)) (fun r => stR0 xv wv c r) (fun r => stR xv wv c r 0) (fun r => rsStart (printed c) r 0)
    fun r => rs_start xv wv K ιs c r).frame iprop(inP xv wv c ∗ UB c (un 0) ∗ PB xv wv c (av 0))
  have h2 := Tri.steps (RS xv wv c) (fun s k => Chain.rings (rsStep (printed c) s) (rsGemm (printed c) xM wM s k)) 15 0
    fun i _ hi => RS_step xv wv K ιs c i (by omega)
  have h3 := (Tri.rings' (fun _ => ow c 126) (fun r => stR xv wv c r 15) (fun r => iprop(rsEnd c r ∗ rsOut xv wv c r)) (rsTail (printed c))
    fun r => rs_tail xv wv K ιs c r 126).frame (inP xv wv c)
  refine (h1.pre ?_).comp ((h2.pre ?_).comp ((h3.pre ?_).post ?_))
  · iintro ⟨-, HO, HR, HX⟩; iframe HO HR HX
  · unfold RS
    iintro ⟨-, ⟨HO, HR⟩, HX⟩; iframe HO HR HX
  · unfold RS
    iintro ⟨-, HO, HR, HI, -⟩
    iframe HR HI
    iexact HO
  · have hs := big_split (F := F) (Finset.univ : Finset (Fin 4)) (fun r => rsEnd c r) (fun r => rsOut xv wv c r)
    iintro ⟨-, ⟨HO, H⟩, HI⟩
    ihave H := hs $$ H
    icases H with ⟨H, H'⟩
    iframe HO H H' HI

/-- The gather. -/
theorem gather_tri :
    Tri (recs xv wv K ιs) c iprop(ow c 126 ∗ (bigSep Finset.univ fun r => rsOut xv wv c r) ∗ bigSep Finset.univ fun r => gI c r)
      iprop(ow c 250 ∗ (bigSep Finset.univ fun r => agEnd c r) ∗ bigSep Finset.univ fun r => fin xv wv c r)
      (fun k => Chain.rings (own (printed c)) (Chain.rings (fun r => agStart (printed c) r 0) (steps (fun s k => Chain.rings (agStep (printed c) s) k) 15 0
        (Chain.rings (agTail (printed c)) k)))) := by
  have h1 := Tri.rings' (R := recs xv wv K ιs) (c := c) (fun _ => ow c 126) (fun r => iprop(rsOut xv wv c r ∗ gI c r)) (fun r => iprop(stG0 xv wv c r ∗ ownR c r)) (own (printed c))
    fun r => ((own_step xv wv K ιs c r).frame (ow c 126)).pre (by iintro ⟨-, HO, H⟩; iframe HO H) |>.post (by iintro ⟨-, H, HO⟩; iframe HO H)
  have h2 := (Tri.rings' (fun n => ow c (126 + n)) (fun r => stG0 xv wv c r) (fun r => stG xv wv c r 0) (fun r => agStart (printed c) r 0)
    fun r => ag_start xv wv K ιs c r).frame (bigSep Finset.univ fun r => ownR c r)
  have h3 := (Tri.steps (AG xv wv c) (fun s k => Chain.rings (agStep (printed c) s) k) 15 0
    fun i _ hi => AG_step xv wv K ιs c i (by omega)).frame (bigSep Finset.univ fun r => ownR c r)
  have h4 := Tri.rings' (R := recs xv wv K ιs) (c := c) (fun _ => ow c 250) (fun r => iprop(stG xv wv c r 15 ∗ ownR c r)) (fun r => iprop(agEnd c r ∗ fin xv wv c r)) (agTail (printed c))
    fun r => ag_tail xv wv K ιs c r 250
  refine (h1.pre ?_).comp ((h2.pre ?_).comp ((h3.pre ?_).comp ((h4.pre ?_).post ?_)))
  · iintro ⟨-, HO, H⟩
    iframe HO
    iapply (big_join Finset.univ (fun r => rsOut xv wv c r) (fun r => gI c r)); iexact H
  · have hs := big_split (F := F) (Finset.univ : Finset (Fin 4)) (fun r => stG0 xv wv c r) (fun r => ownR c r)
    iintro ⟨-, HO, H⟩
    ihave H := hs $$ H
    icases H with ⟨H, H'⟩
    iframe HO H H'
  · unfold AG
    iintro ⟨-, H, H'⟩
    iframe H'
    iexact H
  · unfold AG
    iintro ⟨-, ⟨HO, H⟩, H'⟩
    isplitl [HO]; · iexact HO
    iapply (big_join Finset.univ (fun r => stG xv wv c r 15) (fun r => ownR c r)); iframe H H'
  · have hs := big_split (F := F) (Finset.univ : Finset (Fin 4)) (fun r => agEnd c r) (fun r => fin xv wv c r)
    iintro ⟨-, HO, H⟩
    ihave H := hs $$ H
    icases H with ⟨H, H'⟩
    iframe HO H H'

/-- The body, before it returns, from its start to its end. -/
theorem body_tri :
    Tri (recs xv wv K ιs) c (bodyPre xv wv c) (bodyPost xv wv c)
      (fun k => iSignal (lft c) barS (iSignal (rgt c) barS (iWait barS 2#32
        (iGemm xM wM ((printed c).gx 0) ((printed c).gb 0) (iGemm xM wM ((printed c).gx 1) ((printed c).gb 1) (iGemm xM wM ((printed c).gx 2) ((printed c).gb 2)
        (Chain.rings (fun r => rsStart (printed c) r 0) (steps (fun s k => Chain.rings (rsStep (printed c) s) (rsGemm (printed c) xM wM s k)) 15 0
        (Chain.rings (rsTail (printed c)) (Chain.rings (own (printed c)) (Chain.rings (fun r => agStart (printed c) r 0) (steps (fun s k => Chain.rings (agStep (printed c) s) k) 15 0
        (Chain.rings (agTail (printed c)) k))))))))))))) := by
  have h1 := (bar_step xv wv K ιs c).frame iprop((bigSep Finset.univ fun r => gI c r) ∗ inP xv wv c ∗ UB c (Finset.range 16))
  have h2 := (tri_first xv wv K ιs c).frame iprop(ow c 2 ∗ (atPos ER (celB c) 1 ∅ 0 ∗ bigSep Finset.univ fun r => gI c r)
    ∗ (bigSep Finset.univ fun r => rI' c r) ∗ bigSep Finset.univ fun r => sfacts (nxt r c) r 2)
  have h3 := (reduce_tri xv wv K ιs c).frame iprop(atPos ER (celB c) 1 ∅ 0 ∗ bigSep Finset.univ fun r => gI c r)
  have h4 := (gather_tri xv wv K ιs c).frame iprop(atPos ER (celB c) 1 ∅ 0 ∗ (bigSep Finset.univ fun r => rsEnd c r) ∗ inP xv wv c)
  have hst : iprop(recs xv wv K ιs ∗ ((bigSep Finset.univ fun r => rI' c r) ∗ (bigSep Finset.univ fun r => sfacts (nxt r c) r 2) ∗ bigSep Finset.univ fun r => pblk xv wv c r 0))
      ⊢ bigSep Finset.univ fun r => stR0 xv wv c r := by
    refine BIBase.Entails.trans ?_ (bigSep_with_persistent (R := recs xv wv K ιs) fun r _ => stR0_intro xv wv K ιs c r)
    iintro ⟨#HR, H1, H2, H3⟩
    isplitr; · iexact HR
    iapply (big_join Finset.univ (fun r => rI' c r) (fun r => iprop(sfacts (nxt r c) r 2 ∗ pblk xv wv c r 0)))
    iframe H1
    iapply (big_join Finset.univ (fun r => sfacts (nxt r c) r 2) (fun r => pblk xv wv c r 0))
    iframe H2 H3
  refine (h1.pre ?_).comp ((h2.pre ?_).comp ((h3.pre ?_).comp ((h4.pre ?_).post ?_)))
  · unfold bodyPre
    iintro ⟨-, HO, HB, Hr, Hg, HI, HU⟩
    iframe HO HB Hr Hg HI HU
  · iintro ⟨-, ⟨HO, HB, Hr, Hf⟩, Hg, HI, HU⟩
    iframe HI HU HO HB Hg Hr Hf
  · iintro ⟨#HR, ⟨HI, HU, HP, Hv⟩, HO, ⟨HB, Hg⟩, Hr, Hf⟩
    iframe HB Hg HO HI HU HP
    iapply hst
    isplitr; · iexact HR
    iframe Hr Hf Hv
  · iintro ⟨-, ⟨HO, He, Ho, HI⟩, HB, Hg⟩
    iframe HO Ho Hg HB He HI
  · unfold bodyPost
    iintro ⟨-, ⟨HO, Ha, Hf⟩, HB, He, HI⟩
    iframe HO HB He Ha Hf HI

/-- The body runs from its start to its end. -/
theorem body_wp (Q : PUnit → SP F) :
    iprop(recs xv wv K ιs ∗ bodyPre xv wv c ∗ (bodyPost xv wv c -∗ |={Set.univ}=> Q ⟨⟩)) ⊢ WP c (body (printed c) xM wM) Q := by
  have e : body (printed c) xM wM = iSignal (lft c) barS (iSignal (rgt c) barS (iWait barS 2#32
        (iGemm xM wM ((printed c).gx 0) ((printed c).gb 0) (iGemm xM wM ((printed c).gx 1) ((printed c).gb 1) (iGemm xM wM ((printed c).gx 2) ((printed c).gb 2)
        (Chain.rings (fun r => rsStart (printed c) r 0) (steps (fun s k => Chain.rings (rsStep (printed c) s) (rsGemm (printed c) xM wM s k)) 15 0
        (Chain.rings (rsTail (printed c)) (Chain.rings (own (printed c)) (Chain.rings (fun r => agStart (printed c) r 0) (steps (fun s k => Chain.rings (agStep (printed c) s) k) 15 0
        (Chain.rings (agTail (printed c)) (.ret (⟨⟩ : PUnit) : PR F))))))))))))) := by
    unfold body; rw [printed_lft, printed_rgt]
  rw [e]
  refine BIBase.Entails.trans ?_ (body_tri xv wv K ιs c Q _)
  unfold WP; rw [wp_ret]

end Cert.KernelIdeal.Chain
-- ==== Proof.Deal.lean ====
module

public import proofs.«01_k».proof.Proof.Whole

/-! How the cells, duties and written places are made and dealt to the devices. -/

@[expose] public section

set_option synthInstance.maxSize 4096

noncomputable section

namespace Cert.KernelIdeal.Chain

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Families -/

section Families
omit [FloatOps F]

/-- A family over the numbers below `n`. -/
theorem big_range (n : ℕ) (Φ : ℕ → SP F) : (bigSep (Finset.univ : Finset (Fin n)) fun i => Φ i.val) = bigSep (Finset.Ico 0 n) Φ := by
  have e : Finset.Ico 0 n = (Finset.univ : Finset (Fin n)).map Fin.valEmbedding := by
    ext i
    simp only [Finset.mem_Ico, Finset.mem_map, Finset.mem_univ, true_and, Fin.valEmbedding_apply]
    exact ⟨fun h => ⟨⟨i, h.2⟩, rfl⟩, fun ⟨a, ha⟩ => ha ▸ ⟨Nat.zero_le _, a.isLt⟩⟩
  rw [e, bigSep_map]; rfl
/-- Part of a family, found along an injection. -/
theorem big_inj {A I : Type} [Fintype A] [DecidableEq I] (f : A → I) (hf : Function.Injective f) (s : Finset I) (hs : ∀ a, f a ∈ s) (Φ : I → SP F) :
    bigSep s Φ ⊢ bigSep Finset.univ fun a => Φ (f a) := by
  have h : Finset.univ.map ⟨f, hf⟩ ⊆ s := fun i hi => by
    obtain ⟨a, -, rfl⟩ := Finset.mem_map.mp hi; exact hs a
  refine (bigSep_subset h).trans ?_
  rw [bigSep_map]; exact fun _ h => h
/-- A family over two, one by one. -/
theorem two_big (A : Fin 2 → SP F) : bigSep Finset.univ A = iprop(A 0 ∗ A 1) := bigSep_univ_eq_bigSepL [0, 1] (by decide) (by decide) A
/-- A family over three, one by one. -/
theorem three_big (A : Fin 3 → SP F) : bigSep Finset.univ A = iprop(A 0 ∗ A 1 ∗ A 2) := bigSep_univ_eq_bigSepL [0, 1, 2] (by decide) (by decide) A
/-- A family over five, one by one. -/
theorem five_big (A : Fin 5 → SP F) : bigSep Finset.univ A = iprop(A 0 ∗ A 1 ∗ A 2 ∗ A 3 ∗ A 4) :=
  bigSep_univ_eq_bigSepL [0, 1, 2, 3, 4] (by decide) (by decide) A
/-- A family over a single index is its one member. -/
theorem unit_big (A : Unit → SP F) : bigSep Finset.univ A = A () := bigSep_univ_of_subsingleton ()
/-- Each device's part for ring `r` goes to its predecessor in the ring. -/
theorem deal_nxt (Φ : Fin 4 → Dev nD → SP F) : (bigSep Finset.univ fun c => bigSep Finset.univ fun r => Φ r c)
    = bigSep Finset.univ fun c => bigSep Finset.univ fun r => Φ r (nxt r c) := by
  rw [bigSep_univ_comm, bigSep_univ_comm (fun c r => Φ r (nxt r c))]
  exact bigSep_congr fun r _ => bigSep_univ_equiv (ringE r) (Φ r)
/-- Each device's part for ring `r` goes to its successor in the ring. -/
theorem deal_prv (Φ : Fin 4 → Dev nD → SP F) : (bigSep Finset.univ fun c => bigSep Finset.univ fun r => Φ r c)
    = bigSep Finset.univ fun c => bigSep Finset.univ fun r => Φ r (prv r c) := by
  rw [bigSep_univ_comm, bigSep_univ_comm (fun c r => Φ r (prv r c))]
  exact bigSep_congr fun r _ => bigSep_univ_equiv (ringE r).symm (Φ r)
/-- A family over a device's cells, by kind. -/
theorem cells_split (Φ : CK → SP F) : bigSep Finset.univ Φ
    = iprop(Φ (.inl ()) ∗ (bigSep Finset.univ fun r : Fin 4 => bigSep Finset.univ fun f : Fin 5 => iprop(Φ (ck2 f r 0) ∗ Φ (ck2 f r 1)))
      ∗ bigSep Finset.univ fun r : Fin 4 => bigSep Finset.univ fun f : Fin 3 => Φ (ck1 f r)) := by
  rw [bigSep_univ_sum, bigSep_univ_sum, unit_big, bigSep_univ_prod, bigSep_univ_prod, bigSep_univ_comm (fun (r : Fin 4) (f : Fin 5) => iprop(Φ (ck2 f r 0) ∗ Φ (ck2 f r 1))),
    bigSep_univ_comm (fun (r : Fin 4) (f : Fin 3) => Φ (ck1 f r))]
  rw [show (fun f : Fin 5 => bigSep Finset.univ fun b : Fin 4 × Fin 2 => Φ (.inr (.inl (f, b))))
      = fun f : Fin 5 => bigSep Finset.univ fun r : Fin 4 => iprop(Φ (ck2 f r 0) ∗ Φ (ck2 f r 1)) from
    funext fun f => by
      rw [bigSep_univ_prod]; exact bigSep_congr fun r _ => two_big fun b => Φ (.inr (.inl (f, r, b)))]
  rfl

end Families

/-! ## The duties -/

/-- A device's duties: the barrier's two; per ring the credits of the two phases, the own copy's, and those of the five
two-slot kinds, by step. -/
abbrev JT := Fin 2 ⊕ (Fin 4 × (Fin 13 ⊕ Fin 13 ⊕ Unit ⊕ (Fin 5 × Fin 15)))
/-- A duty's kind of cell, round and number. -/
def tokK : JT → CK × ℕ × ℕ
  | .inl d => (.inl (), 0, d.val)
  | .inr (r, .inl d) => (ck1 1 r, 0, d.val)
  | .inr (r, .inr (.inl d)) => (ck1 2 r, 0, d.val)
  | .inr (r, .inr (.inr (.inl _))) => (ck1 0 r, 0, 0)
  | .inr (r, .inr (.inr (.inr (f, i)))) => (ck2 f r i.val, i.val / 2, 0)
/-- The duty of a kind of cell, a round and a number. -/
def untok : CK × ℕ × ℕ → JT
  | (.inl _, _, d) => .inl ⟨d % 2, Nat.mod_lt _ (by decide)⟩
  | (.inr (.inr (0, r)), _, _) => .inr (r, .inr (.inr (.inl ())))
  | (.inr (.inr (1, r)), _, d) => .inr (r, .inl ⟨d % 13, Nat.mod_lt _ (by decide)⟩)
  | (.inr (.inr (2, r)), _, d) => .inr (r, .inr (.inl ⟨d % 13, Nat.mod_lt _ (by decide)⟩))
  | (.inr (.inl (f, r, b)), R, _) => .inr (r, .inr (.inr (.inr (f, ⟨(2 * R + b.val) % 15, Nat.mod_lt _ (by decide)⟩))))
/-- A duty is found again from its kind, round and number. -/
theorem untok_tokK (j : JT) : untok (tokK j) = j := by revert j; decide +kernel
/-- Different duties differ in kind, round or number. -/
theorem tokK_inj : Function.Injective tokK := Function.LeftInverse.injective untok_tokK
/-- A duty of a device's cells. -/
def tokOf (cj : Dev nD × JT) : GSem nD τ sig × ℕ × ℕ := (kcell (cj.1, (tokK cj.2).1), (tokK cj.2).2)
/-- Different duties of the launch are different. -/
theorem tokOf_inj : Function.Injective tokOf := fun a b h => by
  have h0 : kcell (a.1, (tokK a.2).1) = kcell (b.1, (tokK b.2).1) := congrArg (fun x : GSem nD τ sig × ℕ × ℕ => x.1) h
  have h1 := kcell_inj h0
  have h2 : (tokK a.2).2 = (tokK b.2).2 := congrArg (fun x : GSem nD τ sig × ℕ × ℕ => x.2) h
  have h3 : a.1 = b.1 := congrArg (fun x : Dev nD × CK => x.1) h1
  have h4 : (tokK a.2).1 = (tokK b.2).1 := congrArg (fun x : Dev nD × CK => x.2) h1
  exact Prod.ext h3 (tokK_inj (Prod.ext h4 h2))
/-- The cells of the launch. -/
def allCells : Finset (GSem nD τ sig) := Finset.univ.map ⟨kcell, kcell_inj⟩
/-- The duties of the launch. -/
def allToks : Finset (GSem nD τ sig × ℕ × ℕ) := Finset.univ.map ⟨tokOf, tokOf_inj⟩

section Ghost
variable (xv : Dev nD → Vec F S4096x256 .f32) (wv : Dev nD → Vec F S256x2048 .f32) (K : Dev nD × CK → ℕ) (ιs : Kx → ℕ) (c : Dev nD)

/-- The tokens of a device's own duties. -/
def toks : SP F := bigSep Finset.univ fun j : JT => dutyTok ER (tokOf (c, j)).1 (tokOf (c, j)).2.1 (tokOf (c, j)).2.2
/-- The tokens of one two-slot kind. -/
def tk2 (f : Fin 5) (r : Fin 4) : SP F := bigSep (Finset.Ico 0 15) fun i => dutyTok ER (cel2 c f r i) (i / 2) 0
/-- The tokens of a phase's credits. -/
def tk1 (f : Fin 3) (r : Fin 4) : SP F := bigSep (Finset.Ico 0 13) fun d => dutyTok ER (cel1 c f r) 0 d
/-- The tokens of one ring. -/
def tkR (r : Fin 4) : SP F :=
  iprop(tk1 c 1 r ∗ tk1 c 2 r ∗ dutyTok ER (cel1 c 0 r) 0 0 ∗ tk2 c 0 r ∗ tk2 c 1 r ∗ tk2 c 2 r ∗ tk2 c 3 r ∗ tk2 c 4 r)

omit [FloatOps F] in
/-- A device's tokens are those of the barrier and those of the four rings. -/
theorem toks_eq : toks (F := F) c = iprop((dutyTok ER (celB c) 0 0 ∗ dutyTok ER (celB c) 0 1) ∗ bigSep Finset.univ fun r => tkR c r) := by
  unfold toks
  rw [bigSep_univ_sum, two_big, bigSep_univ_prod]
  rw [show (fun r : Fin 4 => bigSep Finset.univ fun b : Fin 13 ⊕ Fin 13 ⊕ Unit ⊕ (Fin 5 × Fin 15) =>
      (dutyTok ER (tokOf (c, .inr (r, b))).1 (tokOf (c, .inr (r, b))).2.1 (tokOf (c, .inr (r, b))).2.2 : SP F)) = fun r => tkR c r from
    funext fun r => by
      rw [bigSep_univ_sum, bigSep_univ_sum, bigSep_univ_sum, unit_big, bigSep_univ_prod, five_big]
      unfold tkR tk1 tk2
      simp only [← big_range]
      rfl]
  rfl

/-- The device's place at each of its cells, at the start. -/
def pos0 : SP F := bigSep Finset.univ fun k : CK => atPos ER (kcell (c, k)) 0 ∅ 0
/-- The places of one ring, at the start. -/
def posR (r : Fin 4) : SP F :=
  iprop((Pos c 0 r 0 ∗ Pos c 1 r 0 ∗ Pos c 2 r 0 ∗ Pos c 3 r 0 ∗ Pos c 4 r 0) ∗ atPos ER (cel1 c 0 r) 0 ∅ 0 ∗ CrPos c 1 r 0 ∗ CrPos c 2 r 0)

omit [FloatOps F] in
/-- The place at a credit cell at the start, as the rings state it. -/
theorem crPos_intro (f : Fin 3) (r : Fin 4) : atPos ER (cel1 c f r) 0 ∅ 0 ⊢ CrPos (F := F) c f r 0 := by
  unfold CrPos; rw [if_pos (by decide)]
  iintro H
  iexists (∅ : Finset ℕ)
  isplitr; · ipureintro; exact Finset.empty_subset _
  isplitl [H]; · iexact H
  rw [bigSep_empty]; iempintro
omit [FloatOps F] in
/-- A device's places are the barrier's and those of the four rings. -/
theorem pos0_split : pos0 (F := F) c ⊢ iprop(atPos ER (celB c) 0 ∅ 0 ∗ bigSep Finset.univ fun r => posR c r) := by
  unfold pos0
  rw [cells_split]
  have h (r : Fin 4) : iprop((bigSep Finset.univ fun f : Fin 5 => iprop(atPos ER (kcell (c, ck2 f r 0)) 0 ∅ 0 ∗ atPos ER (kcell (c, ck2 f r 1)) 0 ∅ 0))
      ∗ bigSep Finset.univ fun f : Fin 3 => atPos ER (kcell (c, ck1 f r)) 0 ∅ 0) ⊢ posR (F := F) c r := by
    rw [five_big, three_big]
    unfold posR
    iintro ⟨H, H0, H1, H2⟩
    isplitl [H]; · unfold Pos cel2; iexact H
    isplitl [H0]; · unfold cel1; iexact H0
    isplitl [H1]; · iapply (crPos_intro c 1 r); unfold cel1; iexact H1
    iapply (crPos_intro c 2 r); unfold cel1; iexact H2
  exact Idealize.SL.BI.Laws.sep_mono (fun _ h => h) ((big_join _ _ _).trans (bigSep_mono fun r _ => h r))

/-! ## The written places -/

/-- The readers' counts of one ring. -/
def rdR (r : Fin 4) : SP F :=
  iprop((Release.readerAt EQ (ckey c r 0) 0 ∗ Release.readerAt EQ (ckey c r 1) 0) ∗ bigSep (Finset.Ico 0 15) fun j => Release.readerAt EQ (bkey c r j) 0)
/-- The writers' tokens of one ring. -/
def wtR (r : Fin 4) : SP F :=
  iprop((bigSep (Finset.Ico 0 15) fun i => Release.writeTok EQ (ckey c r i) (i / 2 + 1)) ∗ bigSep (Finset.Ico 0 15) fun i => Release.writeTok EQ (bkey c r i) 1)

def rdK : Dev nD × Fin 4 × (Fin 2 ⊕ Fin 15) → Kx
  | (c, r, .inl b) => ckey c r b.val
  | (c, r, .inr j) => bkey c r j.val
def wtK : Dev nD × Fin 4 × (Fin 15 ⊕ Fin 15) → Kx × ℕ
  | (c, r, .inl i) => (ckey c r i.val, i.val / 2)
  | (c, r, .inr j) => (bkey c r j.val, 0)
/-- Different readers' counts are of different written places. -/
theorem rdK_inj : Function.Injective rdK := by
  have h2 : Function.Injective fun b : Fin 2 ⊕ Fin 15 => (rdK ((0 : Fin 16), 0, b)).2.2 := by decide +kernel
  have e : ∀ a, rdK a = (a.1, a.2.1, (rdK ((0 : Fin 16), 0, a.2.2)).2.2) := by rintro ⟨c, r, b | j⟩ <;> rfl
  intro a b h
  rw [e a, e b] at h
  simp only [Prod.mk.injEq] at h
  exact Prod.ext h.1 (Prod.ext h.2.1 (h2 h.2.2))
/-- Different writers' tokens are of different places or turns. -/
theorem wtK_inj : Function.Injective wtK := by
  have h2 : Function.Injective fun b : Fin 15 ⊕ Fin 15 => ((wtK ((0 : Fin 16), 0, b)).1.2.2, (wtK ((0 : Fin 16), 0, b)).2) := by decide +kernel
  have e : ∀ a, wtK a = ((a.1, a.2.1, (wtK ((0 : Fin 16), 0, a.2.2)).1.2.2), (wtK ((0 : Fin 16), 0, a.2.2)).2) := by rintro ⟨c, r, b | j⟩ <;> rfl
  intro a b h
  rw [e a, e b] at h
  simp only [Prod.mk.injEq] at h
  exact Prod.ext h.1.1 (Prod.ext h.1.2.1 (h2 (Prod.ext h.1.2.2 h.2)))

omit [FloatOps F] in
/-- The readers' counts of all places, by device and ring. -/
theorem rd_split : (bigSep (Finset.univ : Finset Kx) fun k => Release.readerAt EQ k 0) ⊢ bigSep Finset.univ fun c => bigSep Finset.univ fun r => rdR (F := F) c r := by
  refine BIBase.Entails.trans (big_inj rdK rdK_inj _ (fun _ => Finset.mem_univ _) _) (Entails.of_eq ?_)
  rw [bigSep_univ_prod]
  refine bigSep_congr fun c _ => ?_
  rw [bigSep_univ_prod]
  refine bigSep_congr fun r _ => ?_
  rw [bigSep_univ_sum, two_big]
  unfold rdR
  rw [← big_range]; rfl
set_option maxRecDepth 20000 in
omit [FloatOps F] in
/-- The writers' tokens that are used, by device and ring. -/
theorem wt_split : (bigSep ((Finset.univ : Finset Kx) ×ˢ Finset.range 8) fun x => Release.writeTok EQ x.1 (x.2 + 1))
    ⊢ bigSep Finset.univ fun c => bigSep Finset.univ fun r => wtR (F := F) c r := by
  have hm (a : Dev nD × Fin 4 × (Fin 15 ⊕ Fin 15)) : wtK a ∈ (Finset.univ : Finset Kx) ×ˢ Finset.range 8 := by
    have h : (wtK a).2 < 8 := by
      match a with
      | (c, r, .inl i) => exact Nat.div_lt_of_lt_mul (Nat.lt_succ_of_lt i.isLt)
      | (c, r, .inr j) => exact Nat.succ_pos 7
    exact Finset.mem_product.mpr ⟨Finset.mem_univ _, Finset.mem_range.mpr h⟩
  refine BIBase.Entails.trans (big_inj wtK wtK_inj _ hm _) (Entails.of_eq ?_)
  rw [bigSep_univ_prod]
  refine bigSep_congr fun c _ => ?_
  rw [bigSep_univ_prod]
  refine bigSep_congr fun r _ => ?_
  rw [bigSep_univ_sum]
  unfold wtR
  rw [← big_range, ← big_range]; rfl

/-! ## Dealing -/

/-- What ring `r` of a device holds of the tokens: its own and its neighbours'. -/
def dealR (r : Fin 4) : SP F :=
  iprop((tk1 (prv r c) 1 r ∗ tk1 (prv r c) 2 r) ∗ (dutyTok ER (cel1 c 0 r) 0 0 ∗ tk2 c 0 r ∗ tk2 c 2 r ∗ tk2 c 4 r)
    ∗ (tk2 (nxt r c) 1 r ∗ tk2 (nxt r c) 3 r) ∗ wtR (nxt r c) r ∗ rdR c r ∗ posR c r)
/-- What a device holds. -/
def dealD : SP F :=
  iprop((dutyTok ER (celB (lft c)) 0 0 ∗ dutyTok ER (celB (rgt c)) 0 1 ∗ atPos ER (celB c) 0 ∅ 0) ∗ bigSep Finset.univ fun r => dealR c r)

omit [FloatOps F] in
/-- Everything is dealt. -/
theorem deal : iprop((bigSep Finset.univ fun c => pos0 c) ∗ (bigSep Finset.univ fun c => toks c)
      ∗ (bigSep (Finset.univ : Finset Kx) fun k => Release.readerAt EQ k 0)
      ∗ (bigSep ((Finset.univ : Finset Kx) ×ˢ Finset.range 8) fun x => Release.writeTok EQ x.1 (x.2 + 1)))
    ⊢ bigSep Finset.univ fun c => dealD (F := F) c := by
  have hp : (bigSep Finset.univ fun c => pos0 (F := F) c) ⊢ iprop((bigSep Finset.univ fun c => atPos ER (celB c) 0 ∅ 0)
      ∗ bigSep Finset.univ fun c => bigSep Finset.univ fun r => posR c r) := (bigSep_mono fun c _ => pos0_split c).trans (big_split _ _ _)
  have ht : (bigSep Finset.univ fun c => toks (F := F) c) ⊢ iprop(((bigSep Finset.univ fun c => dutyTok ER (celB (lft c)) 0 0) ∗ bigSep Finset.univ fun c => dutyTok ER (celB (rgt c)) 0 1)
      ∗ (bigSep Finset.univ fun c => bigSep Finset.univ fun r => iprop(tk1 (prv r c) 1 r ∗ tk1 (prv r c) 2 r))
      ∗ (bigSep Finset.univ fun c => bigSep Finset.univ fun r => iprop(dutyTok ER (cel1 c 0 r) 0 0 ∗ tk2 c 0 r ∗ tk2 c 2 r ∗ tk2 c 4 r))
      ∗ (bigSep Finset.univ fun c => bigSep Finset.univ fun r => iprop(tk2 (nxt r c) 1 r ∗ tk2 (nxt r c) 3 r))) := by
    have e1 : (bigSep Finset.univ fun c => toks (F := F) c)
        ⊢ iprop((bigSep Finset.univ fun c => iprop(dutyTok ER (celB c) 0 0 ∗ dutyTok ER (celB c) 0 1)) ∗ bigSep Finset.univ fun c => bigSep Finset.univ fun r => tkR c r) :=
      (bigSep_mono fun c _ => Entails.of_eq (toks_eq c)).trans (big_split _ _ _)
    have e2 (c : Dev nD) (r : Fin 4) : tkR (F := F) c r ⊢ iprop(iprop(tk1 c 1 r ∗ tk1 c 2 r)
        ∗ iprop(dutyTok ER (cel1 c 0 r) 0 0 ∗ tk2 c 0 r ∗ tk2 c 2 r ∗ tk2 c 4 r) ∗ iprop(tk2 c 1 r ∗ tk2 c 3 r)) := by
      unfold tkR; iintro ⟨H1, H2, H3, H4, H5, H6, H7, H8⟩; iframe H1 H2 H3 H4 H5 H6 H7 H8
    have e3 : (bigSep Finset.univ fun c => bigSep Finset.univ fun r => tkR (F := F) c r)
        ⊢ iprop((bigSep Finset.univ fun c => bigSep Finset.univ fun r => iprop(tk1 c 1 r ∗ tk1 c 2 r))
          ∗ (bigSep Finset.univ fun c => bigSep Finset.univ fun r => iprop(dutyTok ER (cel1 c 0 r) 0 0 ∗ tk2 c 0 r ∗ tk2 c 2 r ∗ tk2 c 4 r))
          ∗ (bigSep Finset.univ fun c => bigSep Finset.univ fun r => iprop(tk2 c 1 r ∗ tk2 c 3 r))) := by
      refine BIBase.Entails.trans (bigSep_mono fun c _ => (bigSep_mono fun r _ => e2 c r).trans ((big_split _ _ _).trans (Idealize.SL.BI.Laws.sep_mono (fun _ h => h) (big_split _ _ _)))) ?_
      exact (big_split _ _ _).trans (Idealize.SL.BI.Laws.sep_mono (fun _ h => h) (big_split _ _ _))
    rw [deal_prv (fun r c => iprop(tk1 c 1 r ∗ tk1 c 2 r)), deal_nxt (fun r c => iprop(tk2 c 1 r ∗ tk2 c 3 r))] at e3
    refine e1.trans (Idealize.SL.BI.Laws.sep_mono ?_ e3)
    refine (big_split _ _ _).trans (Idealize.SL.BI.Laws.sep_mono (Entails.of_eq ?_) (Entails.of_eq ?_))
    · exact bigSep_univ_equiv rgtE.symm _
    · exact bigSep_univ_equiv rgtE _
  have hr := rd_split (F := F)
  have hw := wt_split (F := F)
  rw [deal_nxt (fun r c => wtR c r)] at hw
  have hj (c : Dev nD) : iprop((atPos ER (celB c) 0 ∅ 0 ∗ dutyTok ER (celB (lft c)) 0 0 ∗ dutyTok ER (celB (rgt c)) 0 1)
      ∗ (bigSep Finset.univ fun r => iprop(tk1 (prv r c) 1 r ∗ tk1 (prv r c) 2 r))
      ∗ (bigSep Finset.univ fun r => iprop(dutyTok ER (cel1 c 0 r) 0 0 ∗ tk2 c 0 r ∗ tk2 c 2 r ∗ tk2 c 4 r))
      ∗ (bigSep Finset.univ fun r => iprop(tk2 (nxt r c) 1 r ∗ tk2 (nxt r c) 3 r))
      ∗ (bigSep Finset.univ fun r => wtR (nxt r c) r) ∗ (bigSep Finset.univ fun r => rdR c r) ∗ (bigSep Finset.univ fun r => posR c r)) ⊢ dealD (F := F) c := by
    unfold dealD dealR
    simp only [bigSep_sep']
    iintro ⟨⟨H1, H2, H3⟩, H4, H5, H6, H7, H8, H9⟩
    iframe H1 H2 H3 H4 H5 H6 H7 H8 H9
  refine BIBase.Entails.trans (Idealize.SL.BI.Laws.sep_mono hp (Idealize.SL.BI.Laws.sep_mono ht (Idealize.SL.BI.Laws.sep_mono hr hw))) ?_
  refine BIBase.Entails.trans ?_ (bigSep_mono fun c _ => hj c)
  simp only [bigSep_sep']
  iintro ⟨⟨H1, H2⟩, ⟨⟨H3, H4⟩, H5, H6, H7⟩, H8, H9⟩
  iframe H1 H2 H3 H4 H5 H6 H7 H8 H9

end Ghost

end Cert.KernelIdeal.Chain
-- ==== Proof.Open.lean ====
module

public import proofs.«01_k».proof.Proof.Deal

/-! The cells and the written places are opened, for all devices at once. -/

@[expose] public section

set_option synthInstance.maxSize 4096

noncomputable section

namespace Cert.KernelIdeal.Chain

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Open
variable (xv : Dev nD → Vec F S4096x256 .f32) (wv : Dev nD → Vec F S256x2048 .f32)

/-- The semaphores the kernel declares. -/
def osem (k : (Fin 5 × Fin 4 × Fin 2) ⊕ (Fin 3 × Fin 4)) : SemLoc sig := locOf (.inr k)

/-- The ghost state of the launch. -/
def u₀ : UU :=
  (initOf (Pipeline.cells cfgs cellOf_inj) (Pipeline.launchToks cfgs cellOf_inj), (initOf allCells allToks, Release.initSlots Finset.univ 8))

/-- What a device gets at the launch; the first one also the ghost state of the written places. -/
def G (c : Dev nD) : SP F :=
  iprop((bigSep Finset.univ fun k : CK => roundState ER (Rd xv wv) (kcell (c, k)) 0) ∗ (bigSep Finset.univ fun k : CK => reached ER (kcell (c, k)) 0)
    ∗ pos0 c ∗ toks c ∗ if c = (0 : Fin 16) then BI.own (EQ (Release.initSlots Finset.univ 8)) else iprop(emp))

/-- The records every device shares. -/
def recs0 (K : Dev nD × CK → ℕ) (ιs : Kx → ℕ) : SP F :=
  iprop((bigSep (Finset.univ : Finset (Dev nD × CK)) fun ck => cellInv ER (Rd xv wv) (K ck) (kcell ck))
    ∗ (bigSep (Finset.univ : Finset (Dev nD × CK)) fun ck => reached ER (kcell ck) 0)
    ∗ bigSep (Finset.univ : Finset Kx) fun k => Release.slotInv EQ (ιs k) k (slotS k))

instance recs0_persistent (K : Dev nD × CK → ℕ) (ιs : Kx → ℕ) : BI.Persistent (recs0 xv wv K ιs) := by unfold recs0; infer_instance

/-- What a device starts from. -/
def G' (c : Dev nD) : SP F := iprop(∃ K, ∃ ιs, recs0 xv wv K ιs ∗ dealD c)

/-- The ghost state of the launch gives every device its part. -/
theorem fund_all : BI.own (EE (initOf allCells allToks, Release.initSlots Finset.univ 8)) ⊢ (|==> bigSep Finset.univ (G xv wv) : SP F) := by
  have hX (Φ : GSem nD τ sig → SP F) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : SP F)) = bigSep Finset.univ fun c : Dev nD => toks c := by
    unfold allToks; rw [bigSep_map, bigSep_univ_prod]; rfl
  have hS : BI.own (EQ (Release.initSlots Finset.univ 8)) ⊢ (bigSep Finset.univ fun c : Dev nD => if c = (0 : Fin 16) then BI.own (EQ (Release.initSlots Finset.univ 8)) else iprop(emp) : SP F) := by
    rw [bigSep_univ_at _ (0 : Fin 16), if_pos rfl,
      bigSep_congr (Ψ := fun _ => (iprop(emp) : SP F)) (fun c hc => if_neg (Finset.ne_of_mem_erase hc))]
    iintro H
    isplitl [H]; · iexact H
    iapply (show (BI.emp : SP F) ⊢ bigSep (Finset.univ.erase (0 : Fin 16)) (fun _ : Dev nD => (iprop(emp) : SP F)) from
      Entails.of_eq (bigSep_emp_const _).symm)
    iempintro
  iintro H
  ihave H' := (own_pair_emb (EE (F := F)) (initOf allCells allToks) (Release.initSlots Finset.univ 8)) $$ H
  icases H' with ⟨HX, HS⟩
  ihave HX' := (show BI.own ((Emb.inl.trans EE) (initOf allCells allToks)) ⊢ (BI.own (ER (initOf allCells allToks)) : SP F) from .rfl) $$ HX
  ihave HS' := (show BI.own ((Emb.inr.trans EE) (Release.initSlots Finset.univ 8)) ⊢ (BI.own (EQ (Release.initSlots Finset.univ 8)) : SP F) from .rfl) $$ HS
  imod (Rounds.fund ER (Rd xv wv) allCells allToks) $$ HX' with ⟨Hst, Hr, Hat, Htok⟩
  imodintro
  ihave Hst' := (Entails.of_eq (hX fun g => roundState ER (Rd xv wv) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  ihave HS'' := hS $$ HS'
  unfold G; simp only [bigSep_sep']
  isplitl [Hst']; · iexact Hst'
  isplitl [Hr']; · iexact Hr'
  isplitl [Hat']; · unfold pos0; iexact Hat'
  isplitl [Htok']; · iexact Htok'
  iexact HS''

omit [FloatOps F] in
/-- The launch's counters are the cells' counters. -/
theorem sems_eq (c : Dev nD) :
    iprop(Pipeline.ownSems0 (Ix := ℕ) (Name := ℕ) (U := UU) (Lvl := ℕ) (Val := Elt F) (τ := τ) osem c ∗ unscopedSems0 c)
      = (bigSep Finset.univ fun k : CK => semVal (kcell (c, k)) 0 : SP F) := by
  rw [bigSep_univ_sum, unit_big]
  have e : (unscopedSems0 c : SP F) = semVal (kcell (c, .inl ())) 0 := by
    unfold unscopedSems0; rw [bigSep_eq_bigSepL_of_eq [SemLoc.reg barS] (by decide) (by decide)]; rfl
  rw [e]
  exact Idealize.SL.BI.equiv_iff.mp ⟨Idealize.SL.BI.sep_comm, Idealize.SL.BI.sep_comm⟩

/-- A device's semaphores at zero and its ghost state give the invariants of its cells, its places and its tokens, and leave the state of the written places. -/
theorem core_alloc (c : Dev nD) :
    iprop(Pipeline.ownSems0 (Ix := ℕ) (Name := ℕ) (U := UU) (Lvl := ℕ) (Val := Elt F) (τ := τ) osem c ∗ unscopedSems0 c ∗ G xv wv c)
      ⊢ |={Set.univ}=> iprop((bigSep Finset.univ fun k : CK => iprop(∃ κ : ℕ, cellInv ER (Rd xv wv) κ (kcell (c, k))))
        ∗ (bigSep Finset.univ fun k : CK => reached ER (kcell (c, k)) 0) ∗ pos0 c ∗ toks c
        ∗ if c = (0 : Fin 16) then BI.own (EQ (Release.initSlots Finset.univ 8)) else iprop(emp)) := by
  unfold G
  iintro ⟨Hos, Hus, Hst, Hr, Hat, Htok, HS⟩
  ihave Hv := (Entails.of_eq (sems_eq (F := F) c)) $$ [Hos Hus]
  · isplitl [Hos] <;> iassumption
  imod (show iprop((bigSep Finset.univ fun k : CK => semVal (kcell (c, k)) 0) ∗ bigSep Finset.univ fun k : CK => roundState ER (Rd xv wv) (kcell (c, k)) 0)
      ⊢ (|={Set.univ}=> bigSep Finset.univ fun k : CK => iprop(∃ κ : ℕ, cellInv ER (Rd xv wv) κ (kcell (c, k))) : SP F) from by
        rw [← bigSep_sep']
        exact (bigSep_mono fun k _ => (Rounds.body_intro ER (Rd xv wv) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok]; · iexact Htok
  iexact HS

/-- What all devices got together, shared out: the records for all, the tokens by who uses them. -/
theorem regroup :
    (bigSep Finset.univ fun c : Dev nD => iprop((bigSep Finset.univ fun k : CK => iprop(∃ κ : ℕ, cellInv ER (Rd xv wv) κ (kcell (c, k))))
        ∗ (bigSep Finset.univ fun k : CK => reached ER (kcell (c, k)) 0) ∗ pos0 c ∗ toks c
        ∗ if c = (0 : Fin 16) then BI.own (EQ (Release.initSlots Finset.univ 8)) else iprop(emp)) : SP F)
      ⊢ |={Set.univ}=> bigSep Finset.univ (G' xv wv) := by
  have h0 : (bigSep Finset.univ fun c : Dev nD => if c = (0 : Fin 16) then BI.own (EQ (Release.initSlots Finset.univ 8)) else iprop(emp) : SP F)
      ⊢ BI.own (EQ (Release.initSlots Finset.univ 8)) := by
    have h := bigSep_elim (Φ := fun c : Dev nD => (if c = (0 : Fin 16) then BI.own (EQ (Release.initSlots Finset.univ 8)) else iprop(emp) : SP F)) (Finset.mem_univ (0 : Fin 16))
    rw [if_pos rfl] at h; exact h
  have hg (K : Dev nD × CK → ℕ) (ιs : Kx → ℕ) (c : Dev nD) : iprop(recs0 xv wv K ιs ∗ dealD c) ⊢ G' xv wv c := by
    unfold G'; iintro H; iexists K, ιs; iexact H
  have hb (K : Dev nD × CK → ℕ) (ιs : Kx → ℕ) : iprop(recs0 xv wv K ιs ∗ bigSep Finset.univ fun c => dealD c) ⊢ bigSep Finset.univ (G' xv wv) :=
    (Idealize.SL.BI.Laws.sep_mono (BI.bigSep_of_persistent Finset.univ (recs0 xv wv K ιs)) (fun _ h => h)).trans
      (by rw [← bigSep_sep']; exact bigSep_mono fun c _ => hg K ιs c)
  rw [bigSep_sep', bigSep_sep', bigSep_sep', bigSep_sep', ← bigSep_univ_prod (fun ck : Dev nD × CK => iprop(∃ κ : ℕ, cellInv ER (Rd xv wv) κ (kcell ck))),
    ← bigSep_univ_prod (fun ck : Dev nD × CK => (reached ER (kcell ck) 0 : SP F))]
  iintro ⟨HI, #HR, Hat, Htok, HS⟩
  ihave HK := (BI.bigSep_exists_pi Finset.univ (fun (ck : Dev nD × CK) (κ : ℕ) => (cellInv ER (Rd xv wv) κ (kcell ck) : SP F))) $$ HI
  icases HK with ⟨%K, #HI⟩
  ihave HS' := h0 $$ HS
  imod (Release.slots_init EQ (Finset.univ : Finset Kx) 8 slotS ∅) $$ HS' with ⟨%ιs, -, #HSI, Hrd, Hwt⟩
  imodintro
  iapply (hb K ιs)
  isplitr
  · unfold recs0
    isplitr; · iexact HI
    isplitr; · iexact HR
    iexact HSI
  iapply (deal (F := F))
  isplitl [Hat]; · iexact Hat
  isplitl [Htok]; · iexact Htok
  isplitl [Hrd]; · iexact Hrd
  iexact Hwt

/-- The start, all devices at once. -/
theorem glob : (bigSep Finset.univ fun c => iprop(Pipeline.ownSems0 (Ix := ℕ) (Name := ℕ) (U := UU) (Lvl := ℕ) (Val := Elt F) (τ := τ) osem c ∗ unscopedSems0 c ∗ G xv wv c) : SP F)
    ⊢ |={Set.univ}=> bigSep Finset.univ (G' xv wv) :=
  ((bigSep_mono fun c _ => core_alloc xv wv c).trans (bigSep_fupd _ _)).trans ((BI.fupd_mono (regroup xv wv)).trans BI.fupd_trans)

end Open

end Cert.KernelIdeal.Chain
-- ==== Proof.Places.lean ====
module

public import proofs.«01_k».proof.Proof.Open

/-! The accumulator, the receive slots and the output: taken apart at the start, put together at the end. -/

@[expose] public section

set_option synthInstance.maxSize 4096

noncomputable section

namespace Cert.KernelIdeal.Chain

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Contents are contents. -/
theorem any_of (c : Dev nD) {sp : Space} {sh : Shape} {e : EltTy} (m : Memref sig .tc sp sh e) (X : sh.Idx → Elt F e) :
    (owns (c : Thread nD τ) m fullShare X : SP F) ⊢ iprop(∃ X, owns (c : Thread nD τ) m fullShare X) := by
  iintro H; iexists X; iexact H

section General
variable (c : Dev nD) {sp : Space} {sh : Shape} {e : EltTy} (m : Memref sig .tc sp sh e)
  {T : Type} [Fintype T] [DecidableEq T] (r : T → Rect sh) (hr : ∀ t a, (r t).stride a = 1)
  (hd : ∀ t t', t ≠ t' → Disjoint (r t).set (r t').set)
  (hcov : (Finset.univ : Finset T).biUnion (fun t => (r t).set) = Finset.univ)
include hd hcov

/-- A place whose parts are held is held. -/
theorem join_any : (bigSep Finset.univ fun t => iprop(∃ X, owns (c : Thread nD τ) (m.slice (r t) (hr t)) fullShare X))
    ⊢ (iprop(∃ X, owns (c : Thread nD τ) m fullShare X) : SP F) := by
  have hex (i : sh.Idx) : ∃ t, ∃ j, (r t).emb j = i := by
    obtain ⟨t, -, hi⟩ := Finset.mem_biUnion.mp (hcov.symm ▸ Finset.mem_univ i)
    rw [← Rect.map_emb_univ] at hi
    obtain ⟨j, -, hj⟩ := Finset.mem_map.mp hi
    exact ⟨t, j, hj⟩
  iintro H
  ihave H' := (BI.bigSep_exists_pi Finset.univ (fun (t : T) X => (owns (c : Thread nD τ) (m.slice (r t) (hr t)) fullShare X : SP F))) $$ H
  icases H' with ⟨%X, H⟩
  let Y : sh.Idx → Elt F e := fun i => X (hex i).choose (hex i).choose_spec.choose
  have hY (t : T) (j) : Y ((r t).emb j) = X t j := by
    have key (t' : T) (j') (h : (r t').emb j' = (r t).emb j) : X t' j' = X t j := by
      by_cases ht : t' = t
      · subst ht; rw [(r t').emb.injective h]
      · have h1 : (r t).emb j ∈ (r t').set := by rw [← h, ← Rect.map_emb_univ]; exact Finset.mem_map_of_mem _ (Finset.mem_univ _)
        have h2 : (r t).emb j ∈ (r t).set := by rw [← Rect.map_emb_univ]; exact Finset.mem_map_of_mem _ (Finset.mem_univ _)
        exact absurd h2 (Finset.disjoint_left.mp (hd t' t ht) h1)
    exact key _ _ (hex ((r t).emb j)).choose_spec.choose_spec
  iexists Y
  iapply (owns_of_rects (c : Thread nD τ) m fullShare r hr hd hcov Y)
  rw [show (fun t => (owns (c : Thread nD τ) (m.slice (r t) (hr t)) fullShare (fun j => Y ((r t).emb j)) : SP F))
    = fun t => owns (c : Thread nD τ) (m.slice (r t) (hr t)) fullShare (X t) from funext fun t => by rw [show (fun j => Y ((r t).emb j)) = X t from funext (hY t)]]
  iexact H
/-- And back. -/
theorem split_any : (iprop(∃ X, owns (c : Thread nD τ) m fullShare X) : SP F)
    ⊢ bigSep Finset.univ fun t => iprop(∃ X, owns (c : Thread nD τ) (m.slice (r t) (hr t)) fullShare X) := by
  iintro ⟨%X, H⟩
  ihave H' := (owns_rects (c : Thread nD τ) m fullShare r hr hd hcov X) $$ H
  iapply (show (bigSep Finset.univ fun t => owns (c : Thread nD τ) (m.slice (r t) (hr t)) fullShare (fun j => X ((r t).emb j)))
    ⊢ (bigSep Finset.univ fun t => iprop(∃ X, owns (c : Thread nD τ) (m.slice (r t) (hr t)) fullShare X) : SP F) from
      bigSep_mono fun t _ => any_of c (m.slice (r t) (hr t)) _)
  iexact H'
end General

section Places
variable (c : Dev nD)

/-- A whole buffer with some contents, said in two ways. -/
theorem whole_any (b : Ref sig .tc) : (iprop(∃ X, owns (c : Thread nD τ) (Memref.whole b) fullShare X) : SP F) = iprop(∃ f, ((c : Thread nD τ).loc b) ↦{fullShare} f) := by
  simp only [owns_whole]

/-- A buffer with some contents can be written. -/
theorem any_slot {sp : Space} {sh : Shape} {e : EltTy} (m : Memref sig .tc sp sh e) :
    (iprop(∃ X, owns (c : Thread nD τ) m fullShare X) : SP F) ⊢ Release.slot (m.view.loc (c : Thread nD τ)) m.view.set := by
  unfold owns Release.slot
  iintro ⟨%X, %f, -, H⟩; iexists f; iexact H
/-- A place that can be written is a buffer with some contents. -/
theorem owns_of_slot {sp : Space} {sh : Shape} {e : EltTy} (m : Memref sig .tc sp sh e) :
    (Release.slot (m.view.loc (c : Thread nD τ)) m.view.set : SP F) ⊢ iprop(∃ X, owns (c : Thread nD τ) m fullShare X) := by
  unfold Release.slot
  iintro ⟨%f, H⟩
  iexists m.view.read (Elt F) f
  iapply (owns_intro (c : Thread nD τ) m fullShare f); iexact H

/-! ## The steps and the bands -/

/-- The steps of ring `r` are the bands. -/
def chE (r : Fin 4) : Fin 16 ≃ Dev nD :=
  ⟨fun i => chunk r c i.val, fun k => ⟨stepOf r c k, stepOf_lt r c k⟩, fun i => Fin.ext (stepOf_chunk r c i.isLt), fun k => chunk_stepOf r c k⟩
/-- Over sixteen steps of a ring come all bands. -/
theorem all_chunks (r : Fin 4) (Φ : Dev nD → SP F) : (bigSep (Finset.Ico 0 16) fun i => Φ (chunk r c i)) = bigSep Finset.univ Φ := by
  rw [bigSep_univ_equiv (chE c r), ← big_range]; rfl
/-- All bands are those of the first fifteen steps and that of the last. -/
theorem chunks_last (r : Fin 4) (Φ : Dev nD → SP F) : bigSep Finset.univ Φ = iprop((bigSep (Finset.Ico 0 15) fun i => Φ (chunk r c i)) ∗ Φ (chunk r c 15)) := by
  rw [← all_chunks c r, bigSep_Ico_succ_top (by omega)]
  exact Idealize.SL.BI.equiv_iff.mp ⟨Idealize.SL.BI.sep_comm, Idealize.SL.BI.sep_comm⟩
/-- The bands at all offsets are all bands. -/
theorem all_up (Φ : Dev nD → SP F) : (bigSep (Finset.Ico 0 16) fun i => Φ (up c i)) = bigSep Finset.univ Φ := by
  rw [← all_chunks c 2]
  refine bigSep_congr fun i _ => congrArg Φ (Fin.ext ?_)
  have : kk 2 = 1 := by decide
  simp only [chunk, up, this, Nat.one_mul]

/-! ## The pieces -/

/-- A block. -/
abbrev blkRect (t : Fin 4 × Dev nD) : Rect S4096x2048 := Rect.unit (s := S4096x2048) (cblk t.1 t.2).1 S256x512.size (cblk t.1 t.2).2
/-- A receive slot. -/
abbrev comRect (t : Fin 4 × Fin 2) : Rect S4x2x256x512 := Rect.unit (s := S4x2x256x512) ![t.1.val, t.2.val % 2, 0, 0] S1x1x256x512.size (com_inb t.1 t.2.val)

/-- Different bands are disjoint. -/
theorem band_disj (k k' : Dev nD) (h : k ≠ k') : Disjoint (bandRect k).set (bandRect k').set := by
  refine Rect.unit_disjoint (0 : Fin 2) ?_
  show 256 * k.val + 256 ≤ 256 * k'.val ∨ 256 * k'.val + 256 ≤ 256 * k.val
  have : k.val ≠ k'.val := fun h' => h (Fin.ext h')
  omega
/-- The bands cover the accumulator. -/
theorem band_cov : (Finset.univ : Finset (Dev nD)).biUnion (fun k => (bandRect k).set) = Finset.univ := by
  refine Finset.eq_univ_iff_forall.mpr fun i => Finset.mem_biUnion.mpr ?_
  have h1 : (i 1).val < 2048 := (i 1).isLt
  have h0 : (i 0).val < 4096 := (i 0).isLt
  refine ⟨(⟨(i 0).val / 256, by omega⟩ : Fin 16), Finset.mem_univ _, Rect.mem_set_unit.mpr fun a => ?_⟩
  fin_cases a
  · show 256 * ((i 0).val / 256) ≤ (i 0).val ∧ (i 0).val < 256 * ((i 0).val / 256) + 256; omega
  · show 0 ≤ (i 1).val ∧ (i 1).val < 0 + 2048; omega
/-- Different blocks are disjoint. -/
theorem blk_disj (t t' : Fin 4 × Dev nD) (h : t ≠ t') : Disjoint (blkRect t).set (blkRect t').set := by
  by_cases h2 : t.2 = t'.2
  · refine Rect.unit_disjoint (1 : Fin 2) ?_
    show 512 * t.1.val + 512 ≤ 512 * t'.1.val ∨ 512 * t'.1.val + 512 ≤ 512 * t.1.val
    have : t.1.val ≠ t'.1.val := fun h' => h (Prod.ext (Fin.ext h') h2)
    omega
  · refine Rect.unit_disjoint (0 : Fin 2) ?_
    show 256 * t.2.val + 256 ≤ 256 * t'.2.val ∨ 256 * t'.2.val + 256 ≤ 256 * t.2.val
    have : t.2.val ≠ t'.2.val := fun h' => h2 (Fin.ext h')
    omega
/-- The block and the place in it of an index. -/
def blkOf (i : S4096x2048.Idx) : Fin 4 × Dev nD :=
  (⟨(i 1).val / 512, by have h1 : (i 1).val < 2048 := (i 1).isLt; omega⟩, (⟨(i 0).val / 256, by have h0 : (i 0).val < 4096 := (i 0).isLt; omega⟩ : Fin 16))
/-- The blocks cover the output. -/
theorem blk_cov : (Finset.univ : Finset (Fin 4 × Dev nD)).biUnion (fun t => (blkRect t).set) = Finset.univ := by
  refine Finset.eq_univ_iff_forall.mpr fun i => Finset.mem_biUnion.mpr ⟨blkOf i, Finset.mem_univ _, Rect.mem_set_unit.mpr fun a => ?_⟩
  fin_cases a
  · show 256 * ((i 0).val / 256) ≤ (i 0).val ∧ (i 0).val < 256 * ((i 0).val / 256) + 256; omega
  · show 512 * ((i 1).val / 512) ≤ (i 1).val ∧ (i 1).val < 512 * ((i 1).val / 512) + 512; omega
/-- Different receive slots are disjoint. -/
theorem com_disj (t t' : Fin 4 × Fin 2) (h : t ≠ t') : Disjoint (comRect t).set (comRect t').set := by
  by_cases h1 : t.1 = t'.1
  · refine Rect.unit_disjoint (1 : Fin 4) ?_
    show t.2.val % 2 + 1 ≤ t'.2.val % 2 ∨ t'.2.val % 2 + 1 ≤ t.2.val % 2
    have : t.2.val ≠ t'.2.val := fun h' => h (Prod.ext h1 (Fin.ext h'))
    omega
  · refine Rect.unit_disjoint (0 : Fin 4) ?_
    show t.1.val + 1 ≤ t'.1.val ∨ t'.1.val + 1 ≤ t.1.val
    have : t.1.val ≠ t'.1.val := fun h' => h1 (Fin.ext h')
    omega
/-- The receive slots cover their buffer. -/
theorem com_cov : (Finset.univ : Finset (Fin 4 × Fin 2)).biUnion (fun t => (comRect t).set) = Finset.univ := by
  refine Finset.eq_univ_iff_forall.mpr fun i => Finset.mem_biUnion.mpr ?_
  have h0 : (i 0).val < 4 := (i 0).isLt
  have h1 : (i 1).val < 2 := (i 1).isLt
  have h2 : (i 2).val < 256 := (i 2).isLt
  have h3 : (i 3).val < 512 := (i 3).isLt
  refine ⟨(⟨(i 0).val, h0⟩, ⟨(i 1).val, h1⟩), Finset.mem_univ _, Rect.mem_set_unit.mpr fun a => ?_⟩
  fin_cases a
  · show (i 0).val ≤ (i 0).val ∧ (i 0).val < (i 0).val + 1; omega
  · show (i 1).val % 2 ≤ (i 1).val ∧ (i 1).val < (i 1).val % 2 + 1; omega
  · show 0 ≤ (i 2).val ∧ (i 2).val < 0 + 256; omega
  · show 0 ≤ (i 3).val ∧ (i 3).val < 0 + 512; omega

/-- A receive slot as a part of the whole buffer. -/
theorem comS_slice (r : Fin 4) (i : ℕ) : (comS c r i : SP F)
    = Release.slot (comR.view.loc (c : Thread nD τ)) (comR.slice (Rect.unit (s := S4x2x256x512) ![r.val, i % 2, 0, 0] S1x1x256x512.size (com_inb r i)) (fun _ => rfl)).view.set := by
  unfold comS; rw [Memref.set_view_squeeze]

/-! ## At the start -/

/-- The accumulator is its bands. -/
theorem acc_enter : (iprop(∃ f, ((c : Thread nD τ).loc cc0_scratch0) ↦{fullShare} f) : SP F) ⊢ UB c (Finset.range 16) := by
  rw [← whole_any]
  refine BIBase.Entails.trans (split_any c accR bandRect (fun _ _ => rfl) band_disj band_cov) (Entails.of_eq ?_)
  unfold UB
  rw [Finset.range_eq_Ico, all_up c (fun k => bandS c k)]
  rfl
/-- The receive buffer is its slots. -/
theorem com_enter : (iprop(∃ f, ((c : Thread nD τ).loc cc0_scratch1) ↦{fullShare} f) : SP F)
    ⊢ bigSep Finset.univ fun r : Fin 4 => iprop(comS c r 0 ∗ comS c r 1) := by
  rw [← whole_any]
  refine BIBase.Entails.trans (split_any c comR comRect (fun _ _ => rfl) com_disj com_cov) ?_
  refine BIBase.Entails.trans (bigSep_mono (Ψ := fun t => comS c t.1 t.2.val) fun t _ => ?_) (Entails.of_eq ?_)
  · rw [comS_slice]; exact any_slot c (comR.slice (comRect t) (fun _ => rfl))
  · rw [bigSep_univ_prod]; exact bigSep_congr fun r _ => two_big (fun b : Fin 2 => comS c r b.val)
/-- The output is its blocks. -/
theorem out_enter (f : Buf (Elt F) ((c : Thread nD τ).loc main_v1)) : (iprop(((c : Thread nD τ).loc main_v1) ↦{fullShare} f) : SP F)
    ⊢ bigSep Finset.univ fun r : Fin 4 => iprop((bigSep (Finset.Ico 0 15) fun i => outS c r (chunk r c i)) ∗ outS c r (chunk r c 15)) := by
  have h0 : (iprop(((c : Thread nD τ).loc main_v1) ↦{fullShare} f) : SP F) ⊢ iprop(∃ X, owns (c : Thread nD τ) outR fullShare X) := by
    rw [← owns_whole]; exact any_of c outR f
  have h1 : (iprop(∃ X, owns (c : Thread nD τ) outR fullShare X) : SP F) ⊢ bigSep Finset.univ fun t : Fin 4 × Dev nD => iprop(∃ X, owns (c : Thread nD τ) (outR.slice (blkRect t) (fun _ => rfl)) fullShare X) :=
    split_any c outR blkRect (fun _ _ => rfl) blk_disj blk_cov
  have h2 : (bigSep Finset.univ fun t : Fin 4 × Dev nD => iprop(∃ X, owns (c : Thread nD τ) (outR.slice (blkRect t) (fun _ => rfl)) fullShare X) : SP F) ⊢
      bigSep Finset.univ fun t : Fin 4 × Dev nD => outS c t.1 t.2 := bigSep_mono fun t _ => any_slot c (outR.slice (blkRect t) (fun _ => rfl))
  have h3 : (bigSep Finset.univ fun t : Fin 4 × Dev nD => outS c t.1 t.2 : SP F) = bigSep Finset.univ fun r : Fin 4 => iprop((bigSep (Finset.Ico 0 15) fun i => outS c r (chunk r c i)) ∗ outS c r (chunk r c 15)) := by
    rw [bigSep_univ_prod]; exact bigSep_congr fun r _ => chunks_last c r (fun k => outS c r k)
  exact h0.trans (h1.trans (h2.trans (Entails.of_eq h3)))

/-! ## At the end -/

variable (xv : Dev nD → Vec F S4096x256 .f32) (wv : Dev nD → Vec F S256x2048 .f32)

/-- The output's contents, the same on every device. -/
def outAll : Vec F S4096x2048 .f32 := fun i =>
  finV xv wv (blkOf i).1 (blkOf i).2 (fun a => match a with | 0 => ⟨(i 0).val % 256, Nat.mod_lt _ (by decide)⟩ | 1 => ⟨(i 1).val % 512, Nat.mod_lt _ (by decide)⟩)

/-- The output at an entry of a block is the block's entry. -/
theorem outAll_emb (t : Fin 4 × Dev nD) (j : S256x512.Idx) : outAll xv wv ((blkRect t).emb j) = finV xv wv t.1 t.2 j := by
  have h0 : (j 0).val < 256 := (j 0).isLt
  have h1 : (j 1).val < 512 := (j 1).isLt
  have e0 : (((blkRect t).emb j) 0).val = 256 * t.2.val + (j 0).val := by show 256 * t.2.val + 1 * (j 0).val = _; omega
  have e1 : (((blkRect t).emb j) 1).val = 512 * t.1.val + (j 1).val := by show 512 * t.1.val + 1 * (j 1).val = _; omega
  have hb : blkOf ((blkRect t).emb j) = t := by
    apply Prod.ext
    · apply Fin.ext; show (((blkRect t).emb j) 1).val / 512 = _; rw [e1]; omega
    · apply Fin.ext; show (((blkRect t).emb j) 0).val / 256 = _; rw [e0]; omega
  unfold outAll
  rw [hb]
  congr 1
  funext a
  apply Fin.ext
  fin_cases a
  · show (((blkRect t).emb j) 0).val % 256 = _; rw [e0]; show _ = (j 0).val; omega
  · show (((blkRect t).emb j) 1).val % 512 = _; rw [e1]; show _ = (j 1).val; omega

/-- What the body leaves makes up the accumulator and the output. -/
theorem fin_exit : (bigSep Finset.univ fun r => fin xv wv c r)
    ⊢ iprop((∃ f, ((c : Thread nD τ).loc cc0_scratch0) ↦{fullShare} f) ∗ (((c : Thread nD τ).loc main_v1) ↦{fullShare} outAll xv wv)) := by
  have e (r : Fin 4) : fin xv wv c r ⊢ bigSep Finset.univ fun k : Dev nD => iprop(accO c r k fullShare (finV xv wv r k) ∗ outO c r k (finV xv wv r k)) := by
    refine Entails.of_eq ?_
    unfold fin oux
    rw [Finset.range_eq_Ico]
    exact all_chunks c r (fun k => iprop(accO c r k fullShare (finV xv wv r k) ∗ outO c r k (finV xv wv r k)))
  have ha : (bigSep Finset.univ fun t : Fin 4 × Dev nD => accO c t.1 t.2 fullShare (finV xv wv t.1 t.2)) ⊢ iprop(∃ f, ((c : Thread nD τ).loc cc0_scratch0) ↦{fullShare} f) := by
    rw [← whole_any]
    refine BIBase.Entails.trans (bigSep_mono fun t _ => ?_) (join_any c accR blkRect (fun _ _ => rfl) blk_disj blk_cov)
    unfold accO; exact any_of c (accR.slice (blkRect t) (fun _ => rfl)) _
  have ho : (bigSep Finset.univ fun t : Fin 4 × Dev nD => outO c t.1 t.2 (finV xv wv t.1 t.2)) ⊢ iprop(((c : Thread nD τ).loc main_v1) ↦{fullShare} outAll xv wv) := by
    rw [← owns_whole]
    refine BIBase.Entails.trans (Entails.of_eq (bigSep_congr fun t _ => ?_)) (owns_of_rects (c : Thread nD τ) outR fullShare blkRect (fun _ _ => rfl) blk_disj blk_cov (outAll xv wv))
    unfold outO
    rw [show finV xv wv t.1 t.2 = (fun j => outAll xv wv ((blkRect t).emb j)) from funext fun j => (outAll_emb xv wv t j).symm]
  refine BIBase.Entails.trans (bigSep_mono fun r _ => e r) ?_
  rw [← bigSep_univ_prod (fun t : Fin 4 × Dev nD => iprop(accO c t.1 t.2 fullShare (finV xv wv t.1 t.2) ∗ outO c t.1 t.2 (finV xv wv t.1 t.2)))]
  exact (big_split _ _ _).trans (Idealize.SL.BI.Laws.sep_mono ha ho)

/-- The receive slots make up the receive buffer. -/
theorem com_exit : (bigSep Finset.univ fun r : Fin 4 => stC c r 13 15) ⊢ (iprop(∃ f, ((c : Thread nD τ).loc cc0_scratch1) ↦{fullShare} f) : SP F) := by
  rw [← whole_any]
  refine BIBase.Entails.trans ?_ (join_any c comR comRect (fun _ _ => rfl) com_disj com_cov)
  rw [bigSep_univ_prod]
  refine bigSep_mono fun r _ => ?_
  rw [two_big]
  have h (b : Fin 2) : (comS c r b.val : SP F) ⊢ iprop(∃ X, owns (c : Thread nD τ) (comR.slice (comRect (r, b)) (fun _ => rfl)) fullShare X) := by
    rw [comS_slice]; exact owns_of_slot c (comR.slice (comRect (r, b)) (fun _ => rfl))
  have e : (stC c r 13 15 : SP F) = iprop(comS c r 1 ∗ comS c r 0) := by
    have e1 : (comS c r 13 : SP F) = comS c r 1 := by rw [← slotS_ckey, ← slotS_ckey]; rfl
    have e0 : (comS c r 14 : SP F) = comS c r 0 := by rw [← slotS_ckey, ← slotS_ckey]; rfl
    unfold stC
    rw [show Finset.Ico 13 15 = {13, 14} from rfl, big_insert (by decide), bigSep_singleton, e1, e0]
  rw [e]
  exact (show iprop(comS c r 1 ∗ comS c r 0) ⊢ iprop(comS c r 0 ∗ comS c r 1) from Idealize.SL.BI.sep_comm).trans
    (Idealize.SL.BI.Laws.sep_mono (h 0) (h 1))

end Places

end Cert.KernelIdeal.Chain
-- ==== Proof.Credit.lean ====
module

public import proofs.«01_k».proof.Proof.Places

/-! What every device may expect from the others, at the start. -/

@[expose] public section

set_option synthInstance.maxSize 4096

noncomputable section

namespace Cert.KernelIdeal.Chain

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Credits
variable (c : Dev nD)

/-- What a device is owed: at its barrier cell twice; per ring the blocks and the credits of the two phases. -/
abbrev JC := Fin 2 ⊕ (Fin 4 × (Fin 15 ⊕ Fin 13 ⊕ Fin 15 ⊕ Fin 13))
/-- The time at which it is paid. -/
def timeC : JC → ℕ
  | .inl d => d.val
  | .inr (r, .inl i) => if i.val = 0 then 2 + r.val else 6 + 8 * (i.val - 1) + 2 * r.val + 1
  | .inr (r, .inr (.inl i)) => 6 + 8 * i.val + 2 * r.val
  | .inr (r, .inr (.inr (.inl i))) => if i.val = 0 then 126 + r.val else 130 + 8 * (i.val - 1) + 2 * r.val + 1
  | .inr (r, .inr (.inr (.inr i))) => 130 + 8 * i.val + 2 * r.val
set_option maxRecDepth 20000 in
/-- Different claims are paid at different times. -/
theorem timeC_inj : Function.Injective timeC := by decide +kernel
/-- Every claim is paid within the run. -/
theorem timeC_lt (j : JC) : timeC j ∈ Finset.Ico 0 250 := by
  refine Finset.mem_Ico.mpr ⟨Nat.zero_le _, ?_⟩
  revert j; decide +kernel
/-- What is paid at that time. -/
def crdC : JC → SP F
  | .inl _ => cred (tallyAt (celB c) 0 1)
  | .inr (r, .inl i) => cred (tallyAt (cel2 c 1 r i.val) i.val NN)
  | .inr (r, .inr (.inl i)) => cred (tallyAt (cel1 c 1 r) i.val 1)
  | .inr (r, .inr (.inr (.inl i))) => cred (tallyAt (cel2 c 3 r i.val) i.val NN)
  | .inr (r, .inr (.inr (.inr i))) => cred (tallyAt (cel1 c 2 r) i.val 1)

omit [FloatOps F] in
/-- If every device pays at one time to the cell of a neighbour, each device holds the credit for its own cell. -/
theorem cred_at (i : ℕ) (f finv : Dev nD → Dev nD) (h1 : ∀ c, f (finv c) = c) (h2 : ∀ d, finv (f d) = d) (k : CK) (u n : ℕ)
    (h : ∀ d, due d i = some (kcell (f d, k), u, n)) :
    (Pipeline.launchCred (fun d => tal d i) c : SP F) ⊢ cred (tallyAt (kcell (c, k)) u n) := by
  have e : (fun d => tal d i) = fun d => tallyAt (((f d).tc : Thread nD τ), locOf k) u n := funext fun d => by unfold tal; rw [h d]
  rw [e]
  exact Pipeline.launchCred_tallyAt (locOf k) f finv h1 h2 u n c

omit [FloatOps F] in
/-- The payments at a claim's time give the claim's credit. -/
theorem crdC_intro (j : JC) : (Pipeline.launchCred (fun d => tal d (timeC j)) c : SP F) ⊢ crdC c j := by
  match j with
  | .inl ⟨0, _⟩ => exact cred_at c 0 lft rgt lft_rgt rgt_lft (.inl ()) 0 1 fun d => rfl
  | .inl ⟨1, _⟩ => exact cred_at c 1 rgt lft rgt_lft lft_rgt (.inl ()) 0 1 fun d => rfl
  | .inr (r, .inl ⟨0, _⟩) => exact cred_at c (2 + r.val) (nxt r) (prv r) (nxt_prv r) (prv_nxt r) (ck2 1 r 0) 0 NN fun d => due_rs0 d r
  | .inr (r, .inl ⟨i + 1, hi⟩) =>
    exact cred_at c (6 + 8 * i + 2 * r.val + 1) (nxt r) (prv r) (nxt_prv r) (prv_nxt r) (ck2 1 r (i + 1)) (i + 1) NN fun d => by
      rw [(due_rs d r i (by omega)).2, if_pos (by omega)]; rfl
  | .inr (r, .inr (.inl ⟨i, hi⟩)) =>
    exact cred_at c (6 + 8 * i + 2 * r.val) (prv r) (nxt r) (prv_nxt r) (nxt_prv r) (ck1 1 r) i 1 fun d => by
      rw [(due_rs d r i (by omega)).1, if_pos (by omega)]; rfl
  | .inr (r, .inr (.inr (.inl ⟨0, _⟩))) =>
    exact cred_at c (126 + r.val) (nxt r) (prv r) (nxt_prv r) (prv_nxt r) (ck2 3 r 0) 0 NN fun d => due_ag0 d r
  | .inr (r, .inr (.inr (.inl ⟨i + 1, hi⟩))) =>
    exact cred_at c (130 + 8 * i + 2 * r.val + 1) (nxt r) (prv r) (nxt_prv r) (prv_nxt r) (ck2 3 r (i + 1)) (i + 1) NN fun d => by
      rw [(due_ag d r i (by omega)).2, if_pos (by omega)]; rfl
  | .inr (r, .inr (.inr (.inr ⟨i, hi⟩))) =>
    exact cred_at c (130 + 8 * i + 2 * r.val) (prv r) (nxt r) (prv_nxt r) (nxt_prv r) (ck1 2 r) i 1 fun d => by
      rw [(due_ag d r i (by omega)).1, if_pos (by omega)]; rfl

/-- What ring `r` is owed. -/
def crR (r : Fin 4) : SP F :=
  iprop((bigSep (Finset.Ico 0 15) fun i => cred (tallyAt (cel2 c 1 r i) i NN)) ∗ (bigSep (Finset.Ico 0 13) fun i => cred (tallyAt (cel1 c 1 r) i 1))
    ∗ (bigSep (Finset.Ico 0 15) fun i => cred (tallyAt (cel2 c 3 r i) i NN)) ∗ (bigSep (Finset.Ico 0 13) fun i => cred (tallyAt (cel1 c 2 r) i 1)))

omit [FloatOps F] in
/-- All payments together give the credits of the barrier and of the four rings. -/
theorem creds : (Pipeline.launchCred (owed 0) c : SP F) ⊢ iprop(cred (tallyAt (celB c) 0 2) ∗ bigSep Finset.univ fun r => crR c r) := by
  have e : (Pipeline.launchCred (owed 0) c : SP F) = bigSep (Finset.Ico 0 250) fun i => Pipeline.launchCred (fun d => tal d i) c :=
    Pipeline.launchCred_sum (Finset.Ico 0 250) (fun i d => tal d i) c
  have e2 : (bigSep Finset.univ fun j => crdC (F := F) c j) = iprop((cred (tallyAt (celB c) 0 1) ∗ cred (tallyAt (celB c) 0 1)) ∗ bigSep Finset.univ fun r => crR c r) := by
    rw [bigSep_univ_sum, two_big, bigSep_univ_prod]
    rw [show (fun r : Fin 4 => bigSep Finset.univ fun b : Fin 15 ⊕ Fin 13 ⊕ Fin 15 ⊕ Fin 13 => crdC (F := F) c (.inr (r, b))) = fun r => crR c r from
      funext fun r => by
        rw [bigSep_univ_sum, bigSep_univ_sum, bigSep_univ_sum]
        unfold crR
        simp only [← big_range]
        rfl]
    rfl
  have e3 : iprop(cred (tallyAt (celB c) 0 1) ∗ cred (tallyAt (celB c) 0 1)) ⊢ (cred (tallyAt (celB c) 0 2) : SP F) := by
    rw [show (tallyAt (celB c) 0 2 : CellTallies nD τ sig ℕ) = tallyAt (celB c) 0 1 + tallyAt (celB c) 0 1 from (tallyAt_add (celB c) 0 1 1).symm]
    exact (cred_add _ _).2
  rw [e]
  refine BIBase.Entails.trans (big_inj timeC timeC_inj _ timeC_lt _) ?_
  refine BIBase.Entails.trans (bigSep_mono fun j _ => crdC_intro c j) ?_
  rw [e2]
  exact Idealize.SL.BI.Laws.sep_mono e3 (fun _ h => h)

end Credits

end Cert.KernelIdeal.Chain
-- ==== Proof.Enter.lean ====
module

public import proofs.«01_k».proof.Proof.Credit

/-! The body, from what the launch hands a device to what the launch takes back. -/

@[expose] public section

set_option synthInstance.maxSize 4096

noncomputable section

namespace Cert.KernelIdeal.Chain

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Run
variable (xv : Dev nD → Vec F S4096x256 .f32) (wv : Dev nD → Vec F S256x2048 .f32)
variable (K : Dev nD × CK → ℕ) (ιs : Kx → ℕ) (c : Dev nD)

/-! ### Into the body -/

/-- A ring's tokens, credits and buffers are what its reduction and its gather need from the start. -/
theorem enter_ring (r : Fin 4) :
    iprop(dealR c r ∗ crR c r ∗ (comS c r 0 ∗ comS c r 1) ∗ ((bigSep (Finset.Ico 0 15) fun i => outS c r (chunk r c i)) ∗ outS c r (chunk r c 15)))
      ⊢ (iprop(rI c r ∗ gI c r) : SP F) := by
  unfold dealR crR wtR rdR posR tk1 tk2 rI gI stQ gQ gH
  simp only [bigSep_sep']
  iintro ⟨⟨⟨H1, H2⟩, ⟨H3, H4, H5, H6⟩, ⟨H7, H8⟩, ⟨H9, H10⟩, ⟨⟨H11, H12⟩, H13⟩, ⟨⟨H14, H15, H16, H17, H18⟩, H19, H20, H21⟩⟩,
    ⟨C1, C2, C3, C4⟩, ⟨S0, S1⟩, O1, O2⟩
  iframe H1 H2 H3 H4 H5 H6 H7 H8 H9 H10 H11 H12 H13 H14 H15 H16 H17 H18 H19 H20 H21 C1 C2 C3 C4 S0 S1 O1 O2

/-- What a device's body starts from. -/
def start (f : Buf (Elt F) ((c : Thread nD τ).loc main_v1)) : SP F :=
  iprop((∃ K, ∃ ιs, recs xv wv K ιs ∗ dealD c) ∗ (cred (tallyAt (celB c) 0 2) ∗ bigSep Finset.univ fun r => crR c r)
    ∗ (((c : Thread nD τ).loc main_v1) ↦{fullShare} f))
/-- What it starts from, with the buffers it may use. -/
def Phi0 (f : Buf (Elt F) ((c : Thread nD τ).loc main_v1)) : SP F :=
  iprop(start xv wv c f ∗ (∃ g, ((c : Thread nD τ).loc cc0_scratch0) ↦{fullShare} g) ∗ (∃ g, ((c : Thread nD τ).loc cc0_scratch1) ↦{fullShare} g))
/-- What it ends with: every semaphore at zero and the result. -/
def Phi1 : SP F :=
  iprop((bigSep Finset.univ fun k : CK => semVal (kcell (c, k)) 0) ∗ (∃ g, ((c : Thread nD τ).loc cc0_scratch0) ↦{fullShare} g)
    ∗ (∃ g, ((c : Thread nD τ).loc cc0_scratch1) ↦{fullShare} g) ∗ (((c : Thread nD τ).loc main_v1) ↦{fullShare} outAll xv wv))

/-- The same for the four rings together. -/
theorem enter_rings :
    iprop((bigSep Finset.univ fun r => dealR c r) ∗ (bigSep Finset.univ fun r => crR c r) ∗ (bigSep Finset.univ fun r : Fin 4 => iprop(comS c r 0 ∗ comS c r 1))
        ∗ bigSep Finset.univ fun r : Fin 4 => iprop((bigSep (Finset.Ico 0 15) fun i => outS c r (chunk r c i)) ∗ outS c r (chunk r c 15)))
      ⊢ (iprop((bigSep Finset.univ fun r => rI c r) ∗ bigSep Finset.univ fun r => gI c r) : SP F) := by
  rw [← bigSep_sep', ← bigSep_sep', ← bigSep_sep', ← bigSep_sep']
  exact bigSep_mono fun r _ => enter_ring c r

/-- What a device is dealt at the launch, with its buffers, is what the body needs. -/
theorem enter (f : Buf (Elt F) ((c : Thread nD τ).loc main_v1)) :
    iprop(dealD c ∗ (cred (tallyAt (celB c) 0 2) ∗ bigSep Finset.univ fun r => crR c r) ∗ (((c : Thread nD τ).loc main_v1) ↦{fullShare} f)
        ∗ (∃ g, ((c : Thread nD τ).loc cc0_scratch0) ↦{fullShare} g) ∗ (∃ g, ((c : Thread nD τ).loc cc0_scratch1) ↦{fullShare} g) ∗ ow c 0 ∗ inP xv wv c)
      ⊢ bodyPre xv wv c := by
  unfold dealD bodyPre barI
  iintro ⟨⟨⟨B1, B2, B3⟩, HD⟩, ⟨HB, HC⟩, HO, HA, HM, HW, HI⟩
  ihave HA := (acc_enter (F := F) c) $$ HA
  ihave HM := (com_enter (F := F) c) $$ HM
  ihave HO := (out_enter (F := F) c f) $$ HO
  ihave HE := (enter_rings (F := F) c) $$ [HD HC HM HO]
  · iframe HD HC HM HO
  icases HE with ⟨HR, HG⟩
  iframe HW B1 B2 B3 HB HR HG HI HA

/-! ### Out of the body -/

/-- The rounds a cell runs through. -/
def finR : CK → ℕ
  | .inl _ => 1
  | .inr (.inl (_, _, b)) => if b = 0 then 8 else 7
  | .inr (.inr _) => 1

omit [FloatOps F] in
/-- After its last round a cell has no duties. -/
theorem finR_duties (k : CK) (R : ℕ) (h : finR k ≤ R) : dutK k R = ∅ := by
  rcases k with _ | ⟨f, r, b⟩ | ⟨f, r⟩
  · exact if_neg (by have h' : 1 ≤ R := h; omega)
  · refine if_neg ?_
    have h' : (if b = 0 then 8 else 7) ≤ R := h
    fin_cases b
    · have : 8 ≤ R := h'
      show ¬ (2 * R + 0 < 15); omega
    · have : 7 ≤ R := h'
      show ¬ (2 * R + 1 < 15); omega
  · exact if_neg (by have h' : 1 ≤ R := h; omega)

/-- Once every cell has run through its rounds, every semaphore is at zero. -/
theorem close_all :
    iprop(recs xv wv K ιs ∗ bigSep Finset.univ fun k : CK => atPos ER (kcell (c, k)) (finR k) ∅ 0)
      ⊢ (|={Set.univ}=> bigSep Finset.univ fun k : CK => semVal (kcell (c, k)) 0 : SP F) := by
  have h1 (k : CK) : iprop(recs xv wv K ιs ∗ atPos ER (kcell (c, k)) (finR k) ∅ 0) ⊢ (|={Set.univ}=> semVal (kcell (c, k)) 0 : SP F) :=
    (Idealize.SL.BI.Laws.sep_mono (recs_cell xv wv K ιs (c, k)) (fun _ h => h)).trans
      (Rounds.cell_close ER (Rd xv wv) (Set.mem_univ (K (c, k))) (fun h => h) (R := finR k) fun R hR => by rw [Rd_duties]; exact finR_duties k R hR)
  exact (bigSep_with_persistent fun k _ => h1 k).trans (bigSep_fupd _ _)

/-- Where a ring's cells stand at the end, by kind of cell. -/
theorem ends_ring (r : Fin 4) :
    iprop(rsEnd c r ∗ agEnd c r)
      ⊢ (iprop((bigSep Finset.univ fun f : Fin 5 => iprop(atPos ER (kcell (c, ck2 f r 0)) 8 ∅ 0 ∗ atPos ER (kcell (c, ck2 f r 1)) 7 ∅ 0))
        ∗ (bigSep Finset.univ fun f : Fin 3 => atPos ER (kcell (c, ck1 f r)) 1 ∅ 0) ∗ stC c r 13 15) : SP F) := by
  have e (f : Fin 5) : Pos (F := F) c f r 15 = iprop(atPos ER (kcell (c, ck2 f r 1)) 7 ∅ 0 ∗ atPos ER (kcell (c, ck2 f r 0)) 8 ∅ 0) := rfl
  have e' (f : Fin 3) : CrPos (F := F) c f r 13 = atPos ER (kcell (c, ck1 f r)) 1 ∅ 0 := if_neg (by decide)
  rw [five_big, three_big]
  unfold rsEnd agEnd
  rw [e, e, e, e, e, e', e']
  iintro ⟨⟨⟨A1, A2⟩, ⟨A3, A4⟩, A5, A6⟩, ⟨A7, A8⟩, A9, ⟨A10, A11⟩, ⟨A12, A13⟩, A14⟩
  iframe A1 A2 A3 A4 A5 A6 A7 A8 A9 A10 A11 A12 A13
  iexact A14

/-- Where all of a device's cells stand at the end. -/
theorem ends :
    iprop(atPos ER (celB c) 1 ∅ 0 ∗ (bigSep Finset.univ fun r => rsEnd c r) ∗ bigSep Finset.univ fun r => agEnd c r)
      ⊢ (iprop((bigSep Finset.univ fun k : CK => atPos ER (kcell (c, k)) (finR k) ∅ 0) ∗ bigSep Finset.univ fun r => stC c r 13 15) : SP F) := by
  have h : iprop((bigSep Finset.univ fun r => rsEnd c r) ∗ bigSep Finset.univ fun r => agEnd c r)
      ⊢ (iprop((bigSep Finset.univ fun r : Fin 4 => bigSep Finset.univ fun f : Fin 5 => iprop(atPos ER (kcell (c, ck2 f r 0)) 8 ∅ 0 ∗ atPos ER (kcell (c, ck2 f r 1)) 7 ∅ 0))
        ∗ (bigSep Finset.univ fun r : Fin 4 => bigSep Finset.univ fun f : Fin 3 => atPos ER (kcell (c, ck1 f r)) 1 ∅ 0) ∗ bigSep Finset.univ fun r => stC c r 13 15) : SP F) := by
    rw [← bigSep_sep', ← bigSep_sep', ← bigSep_sep']
    exact bigSep_mono fun r _ => ends_ring c r
  rw [cells_split]
  iintro ⟨HB, HR⟩
  ihave HR := h $$ HR
  icases HR with ⟨H1, H2, H3⟩
  isplitl [HB H1 H2]
  · isplitl [HB]; · iexact HB
    isplitl [H1]; · iexact H1
    iexact H2
  iexact H3

/-- What the body ends with gives every semaphore at zero, the result and the operands. -/
theorem leave :
    iprop(recs xv wv K ιs ∗ bodyPost xv wv c) ⊢ |={Set.univ}=> iprop(ow c 250 ∗ Phi1 xv wv c ∗ inP xv wv c) := by
  unfold bodyPost Phi1
  iintro ⟨#HR, HO, HB, HE, HG, HF, HI⟩
  ihave HX := (ends (F := F) c) $$ [HB HE HG]
  · iframe HB HE HG
  icases HX with ⟨HA, HC⟩
  ihave HC := (com_exit (F := F) c) $$ HC
  ihave HF := (fin_exit c xv wv) $$ HF
  icases HF with ⟨HS, HV⟩
  imod (close_all xv wv K ιs c) $$ [HA] with HZ
  · isplitr; · iexact HR
    iexact HA
  imodintro
  iframe HO HI HZ HS HC HV

/-- The body as the pipeline calls it. -/
theorem body_run (f : Buf (Elt F) ((c : Thread nD τ).loc main_v1)) :
    iprop(Phi0 xv wv c f ∗ ow c 0 ∗ inP xv wv c)
      ⊢ WP c (.op .deviceId fun d0 => body (printed d0) xM wM) (fun _ => iprop(ow c 250 ∗ Phi1 xv wv c ∗ inP xv wv c)) := by
  unfold WP; rw [wp_deviceId]
  unfold Phi0 start
  iintro ⟨⟨⟨⟨%K, %ιs, #HR, HD⟩, HC, HV⟩, HA, HM⟩, HO, HI⟩
  iapply (body_wp xv wv K ιs c fun _ => iprop(ow c 250 ∗ Phi1 xv wv c ∗ inP xv wv c))
  isplitr; · iexact HR
  isplitl
  · iapply (enter xv wv c f)
    isplitl [HD]; · iexact HD
    isplitl [HC]; · iexact HC
    isplitl [HV]; · iexact HV
    isplitl [HA]; · iexact HA
    isplitl [HM]; · iexact HM
    isplitl [HO] <;> iassumption
  · iintro HP
    iapply (leave xv wv K ιs c)
    isplitr; · iexact HR
    iexact HP

end Run

end Cert.KernelIdeal.Chain
-- ==== Proof.Run.lean ====
module

public import proofs.«01_k».proof.Proof.Enter
public import Idealize.ShloMosaic.Lib.Pipeline.CollectiveSegs

/-! The launch: from any memory, the mesh runs to its end. -/

@[expose] public section

set_option synthInstance.maxSize 4096

noncomputable section

namespace Cert.KernelIdeal.Chain

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Launch
variable (m : (ℓ : Loc nD τ sig) → Buf (Elt F) ℓ) (ρ : Dev nD → PrngReg)

/-- The state at the start. -/
def s₀ : MemSt nD τ sig (Elt F) := ⟨m, fun _ => 0, ρ⟩
/-- A device's block of `x`, staged. -/
def xv (c : Dev nD) : Vec F S4096x256 .f32 := (win0_0.blk (0 : Fin 1)).view.read (Elt F) (m ((c : Thread nD τ).loc main_arg0))
/-- A device's block of `w`, staged. -/
def wv (c : Dev nD) : Vec F S256x2048 .f32 := (win0_1.blk (0 : Fin 1)).view.read (Elt F) (m ((c : Thread nD τ).loc main_arg1))

/-- What the kernel finds at its start. -/
def Φ₀ (c : Dev nD) : SP F := Phi0 (xv m) (wv m) c (m ((c : Thread nD τ).loc main_v1))
/-- What the kernel leaves at its end. -/
def Φ₁ (c : Dev nD) : SP F := Phi1 (xv m) (wv m) c

/-- The proof data of the one region. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xv m c
    | ⟨1, _⟩ => wv m c
  Φ t := match t with
    | ⟨0, _⟩ => Φ₀ m c
    | ⟨_ + 1, _⟩ => Φ₁ m c
  q _ := fullShare
  owed t := match t with
    | ⟨0, _⟩ => owed 0 c
    | ⟨_ + 1, _⟩ => 0

/-- A family over the two windows, one by one. -/
theorem bigSep_W (Φ : Fin cfg0.W → SP F) : bigSep Finset.univ Φ = iprop(Φ (0 : Fin 2) ∗ Φ (1 : Fin 2)) := bigSep_W0 Φ
/-- The grid has one point. -/
theorem fin_N (t : Fin cfg0.N) : t = t0_0 := fin_N0 t

omit [FloatOps F] in
/-- A whole buffer with given contents, said in two ways. -/
theorem owns_all_eq (c : Dev nD) (b : Ref sig .tc) (X : b.ty.Contents (Elt F)) :
    (owns (c : Thread nD τ) (Memref.whole b) fullShare X : SP F)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staged buffer at its contents. -/
abbrev stg (c : Dev nD) (b : Ref sig .tc) (X : b.ty.Contents (Elt F)) : SP F :=
  iprop(∃ f : Buf (Elt F) (((c : Dev nD) : Thread nD τ).loc b), ⌜f = X⌝ ∗ (((c : Thread nD τ).loc b) ↦{fullShare} f))

/-- What the pipeline hands the body. -/
def given (c : Dev nD) : SP F :=
  iprop(Φ₀ m c ∗ (dats m ρ 0 c).owesAt (0 : ℕ) t0_0.castSucc
    ∗ (∃ d, stg c cc0_stg0_0 ((dats m ρ 0 c).before (0 : Fin 2) t0_0 d))
    ∗ (∃ d, stg c cc0_stg1_0 ((dats m ρ 0 c).before (1 : Fin 2) t0_0 d)))
/-- What it takes back. -/
def taken (c : Dev nD) : SP F :=
  iprop(Φ₁ m c ∗ (dats m ρ 0 c).owesAt (0 : ℕ) t0_0.succ ∗ stg c cc0_stg0_0 (xv m c) ∗ stg c cc0_stg1_0 (wv m c))

/-- What the pipeline hands to the body is what the body starts from. -/
theorem given_use (c : Dev nD) : given m ρ c ⊢ iprop(Phi0 (xv m) (wv m) c (m ((c : Thread nD τ).loc main_v1)) ∗ ow c 0 ∗ inP (xv m) (wv m) c) := by
  unfold given Φ₀ ow inP Dat.owesAt Pipeline.owesWithin
  rw [show (dats m ρ 0 c).owed t0_0.castSucc = owed 0 c from rfl]
  iintro ⟨HP, ⟨%W, -, HO⟩, ⟨%d0, %g0, %hg0, Hx⟩, ⟨%d1, %g1, %hg1, Hw⟩⟩
  have hx : g0 = xv m c := by rw [hg0]; unfold Dat.before; rw [if_pos (fetch0_0 t0_0)]; rfl
  have hw : g1 = wv m c := by rw [hg1]; unfold Dat.before; rw [if_pos (fetch0_1 t0_0)]; rfl
  subst hx; subst hw
  isplitl [HP]; · iexact HP
  isplitl [HO]; · iexists W; iexact HO
  isplitl [Hx] <;> iassumption

/-- What the body ends with is what the pipeline takes back. -/
theorem taken_make (c : Dev nD) : iprop(ow c 250 ∗ Phi1 (xv m) (wv m) c ∗ inP (xv m) (wv m) c) ⊢ taken m ρ c := by
  unfold taken Φ₁ ow inP Dat.owesAt Pipeline.owesWithin
  rw [show (dats m ρ 0 c).owed t0_0.succ = 0 from rfl, owed_end]
  iintro ⟨⟨%W, HO⟩, HP, Hx, Hw⟩
  isplitl [HP]; · iexact HP
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hw

/-- The first window is staged in the operand's buffer. -/
theorem stage_x : win0_0.stage (cfg0.slots t0_0 0) = xM := rfl
/-- The second window is staged in the weights' buffer. -/
theorem stage_w : win0_1.stage (cfg0.slots t0_0 1) = wM := rfl

/-- The kernel's row of the body table. -/
theorem body_row : (defs₀ (F := F)) .tc 0 (t0_0, cfg0.slots t0_0) = .op .deviceId fun d0 => body (printed d0) xM wM := by
  have h := body_printed (F := F) (win0_0.stage (cfg0.slots t0_0 0)) (hstage0_0 (cfg0.slots t0_0 0)) (win0_1.stage (cfg0.slots t0_0 1)) (hstage0_1 (cfg0.slots t0_0 1))
  refine Eq.trans ?_ (h.trans ?_)
  · unfold defs₀; rfl
  · rw [stage_x, stage_w]

/-- What the body is handed besides the windows. -/
theorem phi_start (c : Dev nD) : (dats m ρ 0 c).Φ t0_0.castSucc = Φ₀ m c := rfl
/-- What the body gives back besides the windows. -/
theorem phi_end (c : Dev nD) : (dats m ρ 0 c).Φ t0_0.succ = Φ₁ m c := rfl
/-- The staged operand after the body is as before it. -/
theorem after_x (c : Dev nD) : (dats m ρ 0 c).after (0 : Fin 2) t0_0 = xv m c := by dsimp only [dats]
/-- The staged weights after the body are as before it. -/
theorem after_w (c : Dev nD) : (dats m ρ 0 c).after (1 : Fin 2) t0_0 = wv m c := by dsimp only [dats]

/-- The body's run, as the pipeline hands and takes. -/
theorem body_given (c : Dev nD) : given m ρ c ⊢ WP c ((defs₀ (F := F)) .tc 0 (t0_0, cfg0.slots t0_0)) (fun _ => taken m ρ c) := by
  have h := body_run (xv m) (wv m) c (m ((c : Thread nD τ).loc main_v1))
  rw [← body_row] at h
  exact BIBase.Entails.trans (given_use m ρ c) (BIBase.Entails.trans h ((wp _ _ _ _).mono fun _ => taken_make m ρ c))

/-- The library's body obligation. -/
theorem body_obligation (c : Dev nD) : BodyObligation (dats (F := F) m ρ 0 c) (defs₀ (F := F)) 𝒱₀ (0 : ℕ) Set.univ := fun t => by
  rw [fin_N t]
  rw [bigSep_W, bigSep_W]
  simp only [owns_all_eq]
  rw [phi_start, phi_end, after_x, after_w]
  have e : ∀ P Q : SP F, P = given m ρ c → Q = WP c ((defs₀ (F := F)) .tc 0 (t0_0, cfg0.slots t0_0)) (fun _ => taken m ρ c) → P ⊢ Q := by
    intro P Q h1 h2; subst h1; subst h2; exact body_given m ρ c
  refine e _ _ ?_ ?_
  · rfl
  · congr 1

/-- The kernel's semaphores are scoped and are not the pipeline's. -/
theorem ownSemFacts : Pipeline.OwnSemFacts cfg0.spec osem := by decide +kernel

/-- The windows' arrays are held in full. -/
theorem share_eq (c : Dev nD) (w : Fin cfg0.W) : (dats m ρ 0 c).share w = fullShare := by unfold Dat.share; split <;> rfl

omit [FloatOps F] in
/-- A staging wait is allowed before the body, when everything is owed, and after it, when nothing is. -/
theorem mayWait_stage (c : Dev nD) (q : DmaSem sig) (hq : kindOf (.dma q) = none) (O : CellTallies nD τ sig ℕ) (hO : O = owed 0 c ∨ O = 0) :
    (levAts L lv : SP F) ⊢ MayWait (c : Thread nD τ) (.dma q) 0 O := by
  rcases hO with rfl | rfl
  · refine Pipeline.mayWait_of_levAts (by rw [L_tc]; exact Finset.mem_range.mpr (by decide)) fun g i hg => ?_
    obtain ⟨j, h1, h2, h3, h4⟩ := owed_pos hg
    refine ⟨h3, ?_⟩
    rw [h4]
    have e : lv ((c : Thread nD τ), .dma q) 0 = 0 := by dsimp only [lv]; rw [hq]
    rw [e]; unfold lvT; split_ifs <;> omega
  · rw [MayWait_zero]; iintro -; iempintro

/-- All staging waits are allowed. -/
theorem waits (c : Dev nD) : (levAts L lv : SP F) ⊢ Pipeline.cellsWaits cfgs (dats m ρ) (0 : ℕ) 0 c :=
  Pipeline.cellsWaits_intro cfgs (dats m ρ) (0 : ℕ) 0 c fun w s t =>
    mayWait_stage c _ (by fin_cases w <;> fin_cases s <;> decide) _ (by
      rcases t with ⟨_ | _, ht⟩
      · exact Or.inl rfl
      · exact Or.inr rfl)

/-- What the launch gives a device is what the body starts from, the buffers apart. -/
theorem start_intro (c : Dev nD) :
    iprop(Pipeline.unscopedRestP Pipeline.Prefetch.none cfg0.spec c (fun b => m ((c : Thread nD τ).loc b)) ∗ levAts L lv
        ∗ Pipeline.launchCred (owed 0) c ∗ prngReg c (ρ c) ∗ G' (xv m) (wv m) c)
      ⊢ (|={Set.univ}=> iprop(start (xv m) (wv m) c (m ((c : Thread nD τ).loc main_v1)) ∗ emp) : SP F) := by
  have e : (Pipeline.unscopedRestP Pipeline.Prefetch.none cfg0.spec c (fun b => m ((c : Thread nD τ).loc b)) : SP F)
      = (((c : Thread nD τ).loc main_v1) ↦{fullShare} m ((c : Thread nD τ).loc main_v1)) :=
    Pipeline.unscopedRestP_eq_of_list cfg0.spec c Pipeline.Prefetch.none _ [main_v1] (by decide) (by decide)
  rw [e]
  unfold G' start
  iintro ⟨HV, #HL, HC, -, ⟨%K, %ιs, #HR, HD⟩⟩
  ihave HC := (creds (F := F) c) $$ HC
  imodintro
  isplitl
  · isplitl [HD]
    · iexists K, ιs
      isplitr
      · unfold recs recs0
        icases HR with ⟨#H1, #H2, #H3⟩
        isplitr; · iexact H1
        isplitr; · iexact H2
        isplitr; · iexact H3
        iexact HL
      · iexact HD
    isplitl [HC]; · iexact HC
    iexact HV
  · iempintro

/-- With the scoped buffers that is all the body is handed. -/
theorem phi0_intro (c : Dev nD) :
    iprop(start (xv m) (wv m) c (m ((c : Thread nD τ).loc main_v1)) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ Phi0
  iintro ⟨Hs, -, Hr⟩
  isplitl [Hs]; · iexact Hs
  iexact Hr

/-- What a device keeps after the region: the barrier's counter at zero and the result. -/
def kept (c : Dev nD) : SP F := iprop(unscopedSems0 c ∗ (((c : Thread nD τ).loc main_v1) ↦{fullShare} outAll (xv m) (wv m)))

/-- What the body gives back is the result, the semaphores at zero and the scoped buffers. -/
theorem phi1_exit (c : Dev nD) :
    (dats m ρ 0 c).Φ (Fin.last cfg0.N) ⊢ iprop(kept m c ∗ Pipeline.ownSems0 osem c ∗ Pipeline.scopedRest cfg0.spec c) := by
  rw [show (dats m ρ 0 c).Φ (Fin.last cfg0.N) = Φ₁ m c from rfl, scopedRest0_eq]
  unfold Φ₁ Phi1 kept
  rw [← sems_eq]
  iintro ⟨⟨H1, H2⟩, H3, H4, H5⟩
  isplitl [H2 H5]
  · isplitl [H2] <;> iassumption
  isplitl [H1]; · iexact H1
  isplitl [H3] <;> iassumption

/-- What a final state shows of a device: the arguments as launched and the result. -/
def Final (s : MemSt nD τ sig (Elt F)) (c : Dev nD) : Prop :=
  s.mem ((c : Thread nD τ).loc main_v1) = outAll (xv m) (wv m)
    ∧ s.mem ((c : Thread nD τ).loc main_arg0) = m ((c : Thread nD τ).loc main_arg0)
    ∧ s.mem ((c : Thread nD τ).loc main_arg1) = m ((c : Thread nD τ).loc main_arg1)

/-- At the end the memory holds the result and the unscoped semaphores read zero. -/
theorem kept_read (c : Dev nD) (s' : Phys nD τ sig (Elt F)) :
    iprop(kept m c ∗ emp ∗ SI s') ⊢ (|={Set.univ}=> iprop(⌜s'.mem.mem ((c : Thread nD τ).loc main_v1) = outAll (xv m) (wv m)
      ∧ ∀ sm : SemLoc sig, sm.isScoped .tc = false → s'.mem.sem ((c.tc : Thread nD τ), sm) = 0⌝ ∗ SI s') : SP F) := by
  unfold kept
  iintro ⟨⟨Hu, HV⟩, -, HSI⟩
  icombine HSI HV gives %h0
  imod (Pipeline.unscopedSems0_read (X := unscopedSems0 c) (c := c) fupd_intro s') $$ [Hu HSI] with ⟨%h1, HSI⟩
  · isplitl [Hu] <;> iassumption
  imodintro
  isplitr
  · ipureintro; exact ⟨Buf.eq_of_forall_mem_univ h0, h1⟩
  iexact HSI

set_option maxRecDepth 8000 in
/-- At any float values, from any memory with zero counters: every weakly fair execution of the program on the sixteen
    devices ends, and every final state has the arguments as launched, each device's result at the stated contents and
    every semaphore counter at zero. -/
theorem run_main : θ_run defs (onTc (τ := τ) (main (F := F))) (s₀ m ρ) (fun r => (∀ c, Final m r.2 c) ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := owed 0) (howed₀ := fun _ => rfl) (howedN := fun _ => rfl)
    (L := L) (lv := lv) (hL := L_of_ne) (hwaits := waits m ρ)
    (G := G (xv m) (wv m)) (G' := G' (xv m) (wv m)) (u₀ := u₀)
    (hu₀ := by
      unfold u₀
      iintro Hu
      ihave H := (ownU_pair _ _) $$ Hu
      icases H with ⟨HP, HX⟩
      imod (fund_all (xv m) (wv m)) $$ HX with HG
      imodintro
      isplitl [HP] <;> iassumption)
    (hglob := glob (xv m) (wv m))
    (hA := fun _ _ => rfl) (hpf := fun _ k => k.elim0)
    (X := fun c => start (xv m) (wv m) c (m ((c : Thread nD τ).loc main_v1))) (Y := kept m) (Z := fun _ => iprop(emp))
    (hX := start_intro m ρ) (hin := phi0_intro m ρ) (hout := phi1_exit m ρ)
    (QY := fun c s => s.mem ((c : Thread nD τ).loc main_v1) = outAll (xv m) (wv m)
      ∧ ∀ sm : SemLoc sig, sm.isScoped .tc = false → s.sem ((c.tc : Thread nD τ), sm) = 0)
    (hY := kept_read m)
    (hQ := fun _ h hs => ⟨fun c => ⟨(h c).2.2.1,
        ((h c).1 (0 : Fin 2)).trans ((dats (F := F) m ρ 0 c).arrAt_in (0 : Fin 2) rfl _),
        ((h c).1 (1 : Fin 2)).trans ((dats (F := F) m ρ 0 c).arrAt_in (1 : Fin 2) rfl _)⟩,
      sem_eq_zero hs fun c => (h c).2.2.2⟩)

end Launch

end Cert.KernelIdeal.Chain
-- ==== Proof.RefRun.lean ====
module

public import Idealize.ShloMosaic.Lib.StableHlo.Run
public import proofs.«01_k».proof.Proof.Gen.ReferenceIdeal

/-! The reference on its one device: a product of the two matrices, then a maximum with zero. -/

@[expose] public section

noncomputable section

namespace Cert.ReferenceIdeal.Whole

open Cert.ReferenceIdeal Cert.ReferenceIdeal.Gen
open Idealize.ShloMosaic Idealize.ShloMosaic.TcCoe Idealize.ShloMosaic.StableHlo Idealize.SL.Sem

variable {F : FTy → Type} [FloatOps F]

/-- The product of the matrices, each entry bounded below by zero. -/
def want (x : FVec F S4096x4096 .f32) (w : FVec F S4096x2048 .f32) : FVec F S4096x2048 .f32 :=
  maximumf (Host.dotGeneral dot_S4096x4096_S4096x2048_S4096x2048_1_0_0_1_n_n none x w)
    (broadcastInDim S4096x2048 ![] bcast_S_S4096x2048 (constant (F := F) S_ .f32 0x00000000#32))

/-- The four host operations of the reference, in order. -/
def line : List (HloOp τ sig (Elt F)) :=
  [ binary main_arg0 main_arg1 main_v0 (fun l r => Host.dotGeneral dot_S4096x4096_S4096x2048_S4096x2048_1_0_0_1_n_n none l r),
    nullary main_cst (constant S_ .f32 0x00000000#32),
    unary main_cst main_v1 (broadcastInDim S4096x2048 ![] bcast_S_S4096x2048),
    binary main_v0 main_v1 main_v2 maximumf ]

/-- The reference is that line of operations. -/
theorem main_line (c : Dev nD) : main (F := F) c = seq line := rfl

/-- The result after the line. -/
theorem line_out (V : Valuation τ sig (Elt F)) :
    after line V (main_v2 : DevRef τ sig) = want (V (main_arg0 : DevRef τ sig)) (V (main_arg1 : DevRef τ sig)) := by
  unfold line
  after_results
  rfl

/-- The first matrix after the line. -/
theorem line_x (V : Valuation τ sig (Elt F)) : after line V (main_arg0 : DevRef τ sig) = V (main_arg0 : DevRef τ sig) := by
  unfold line
  after_results

/-- The second matrix after the line. -/
theorem line_w (V : Valuation τ sig (Elt F)) : after line V (main_arg1 : DevRef τ sig) = V (main_arg1 : DevRef τ sig) := by
  unfold line
  after_results

/-- No buffer of the reference is scoped. -/
theorem no_refs : (Finset.univ.filter fun b : Ref sig .tc => b.isScoped) = ∅ := by decide
/-- No semaphore of the reference is scoped. -/
theorem no_sems : (Finset.univ.filter fun sm : SemLoc sig => sm.isScoped .tc) = ∅ := by decide

/-- The line touches buffers of the TensorCore alone. -/
theorem line_sub : (line : List (HloOp τ sig (Elt F))).Forall fun op => op.bufs ⊆ tcRefs τ sig :=
  ⟨binary_bufs_sub .., nullary_bufs_sub .., unary_bufs_sub .., binary_bufs_sub ..⟩

/-- From any memory with zero counters, every weakly fair execution of the reference ends with `want` of the arguments
    in its result and with the arguments as they were. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD,
        r.2.mem ((c.tc : Thread nD τ).loc main_v2)
          = want (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono
    (fun _ h c => ⟨(h c main_v2).trans (line_out _), (h c main_arg0).trans (line_x _), (h c main_arg1).trans (line_w _)⟩)
    (run_seq no_refs no_sems defs main (fun _ => line) main_line (fun _ => line_sub) m ρ)

end Cert.ReferenceIdeal.Whole
-- ==== Proof.Frames.lean ====
module

public import proofs.«01_k».proof.Proof.Run
public import proofs.«01_k».proof.Proof.RefRun
public import proofs.«01_k».proof.Defs
public import proofs.«01_k».proof.Proof.Gen.Kernel

/-! The three frames: every execution ends, arguments as launched, counters at zero. -/

@[expose] public section

noncomputable section

namespace Cert.Proof

open Idealize.ShloMosaic Idealize.SL.Sem

/-- The two printings of the kernel have one body table before the pipeline's. -/
theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

/-- The two printings have one body table. -/
theorem tables_eq : Cert.Kernel.defs (F := Bits) = Cert.KernelIdeal.defs (F := Bits) :=
  congrArg (fun d => Pipeline.defs Cert.KernelIdeal.pcfgs d) bodies_eq

/-- A run under one table is a run under an equal one. -/
theorem run_of_eq {D D' : Defs Cert.KernelIdeal.nD Cert.KernelIdeal.τ Cert.KernelIdeal.sig (Elt Bits) (Pipeline.Sig Cert.KernelIdeal.Λ₀ (Fin 1) fun p => (Cert.KernelIdeal.pcfgs (F := Bits) p).Adm)}
    (h : D' = D) {p s Q} (H : θ_run D p s Q) : θ_run D' p s Q := h ▸ H

/-- The idealized kernel ends everywhere with its arguments as launched and every counter at zero. -/
theorem frame_kernelIdeal : Cert.quiescent_KernelIdeal := fun m ρ _ =>
  (θ_run Cert.KernelIdeal.defs _ _).mono (fun _ h => ⟨fun c => (h.1 c).2, h.2⟩)
    (Cert.KernelIdeal.Chain.run_main (F := Ideal) m ρ)

/-- The same text over the device's own floats, in the idealized printing's names. -/
theorem frame_text (m : (ℓ : Loc Cert.KernelIdeal.nD Cert.KernelIdeal.τ Cert.KernelIdeal.sig) → Buf (Elt Bits) ℓ)
    (ρ : Dev Cert.KernelIdeal.nD → PrngReg) :
    θ_run (Cert.KernelIdeal.defs (F := Bits)) (onTc (τ := Cert.KernelIdeal.τ) (Cert.KernelIdeal.main (F := Bits))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c => (h.1 c).2, h.2⟩)
    (Cert.KernelIdeal.Chain.run_main (F := Bits) m ρ)

/-- The kernel ends everywhere with its arguments as launched and every counter at zero. -/
theorem frame_kernel : Cert.quiescent_Kernel := fun m ρ _ => run_of_eq tables_eq (frame_text m ρ)

/-- The reference ends with its arguments as they were and every counter at zero. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Whole.run_main (F := Ideal) m ρ)

end Cert.Proof
-- ==== Proof.Sums.lean ====
module

public import proofs.«01_k».proof.Proof.Places
public import Idealize.ShloMosaic.Lib.KernelVsHost
public import Idealize.ShloMosaic.Lib.StackMember
public import Mathlib.Algebra.BigOperators.Fin

/-! Over the extended reals: a running sum around a ring is the sum over all devices. -/

@[expose] public section

noncomputable section

namespace Cert.KernelIdeal.Chain

open Cert.KernelIdeal Cert.KernelIdeal.Gen
open Idealize.ShloMosaic Idealize.ShloMosaic.ValueIdx
open scoped BigOperators

/-- A device's product of one band, at an entry. -/
theorem gemm_at (x : Vec Ideal S256x256 .f32) (w : Vec Ideal S256x2048 .f32) (a : Fin 256) (b : Fin 2048) :
    gemmPay (F := Ideal) x w (ix2 a b) = ∑ e : Fin 256, (x (ix2 a e) : EReal) * (w (ix2 e b) : EReal) := by
  unfold gemmPay k0_pay1
  rw [shapeCast_self, shapeCast_self, shapeCast_self, matmul_zero_eq_dotGeneral]
  exact Idealize.ShloMosaic.StackMember.dotGeneral_plain_apply none x w a b

/-- A sum of two blocks, at an entry. -/
theorem add2_at (a b : Vec Ideal S256x512 .f32) (i : S256x512.Idx) : (add2 (F := Ideal) a b i : EReal) = (a i : EReal) + (b i : EReal) := by
  unfold add2
  rw [shapeCast_self]
  rfl

/-- A positive part, at an entry. -/
theorem relu_at (a : Vec Ideal S256x512 .f32) (i : S256x512.Idx) : (reluPay (F := Ideal) a i : EReal) = max (a i : EReal) 0 := by
  unfold reluPay k0_pay88
  rw [shapeCast_self]
  show max (a i : EReal) (Ideal.ofBits .f32 0x00000000#32) = _
  rw [Ideal.ofBits_zero_f32]

section
variable (xv : Dev nD → Vec Ideal S4096x256 .f32) (wv : Dev nD → Vec Ideal S256x2048 .f32)

/-- The running sum after `j` blocks is the sum of the blocks of the devices passed. -/
theorem run_sum (r : Fin 4) (i : S256x512.Idx) : ∀ (j : ℕ) (c : Dev nD),
    (runV xv wv r j c i : EReal) = ∑ t ∈ Finset.range (j + 1), (partV xv wv r (chunk r c t) (chunk r c j) i : EReal)
  | 0, c => by
      rw [Finset.sum_range_one]
      have h : chunk r c 0 = c := by apply Fin.ext; have : c.val < 16 := c.isLt; simp only [chunk]; omega
      show (partV xv wv r c (chunk r c 0) i : EReal) = _
      rw [h]
  | j + 1, c => by
      rw [Finset.sum_range_succ']
      have h : chunk r c 0 = c := by apply Fin.ext; have : c.val < 16 := c.isLt; simp only [chunk]; omega
      show (add2 (partV xv wv r c (chunk r c (j + 1))) (runV xv wv r j (prv r c)) i : EReal) = _
      rw [add2_at, run_sum r i j (prv r c), h, add_comm, chunk_prv]
      congr 1
      exact Finset.sum_congr rfl fun t _ => by rw [chunk_prv]

/-- Once round the ring every device is passed once. -/
theorem sum_round (r : Fin 4) (c : Dev nD) (f : Dev nD → EReal) : ∑ t ∈ Finset.range 16, f (chunk r c t) = ∑ d : Dev nD, f d := by
  refine Finset.sum_bij (fun t _ => chunk r c t) (fun _ _ => Finset.mem_univ _)
    (fun s hs t ht h => chunk_inj r c (Finset.mem_range.mp hs) (Finset.mem_range.mp ht) h)
    (fun d _ => ⟨stepOf r c d, Finset.mem_range.mpr (stepOf_lt r c d), chunk_stepOf r c d⟩) (fun _ _ => rfl)

/-- A block of the result: the positive part of the sum of all devices' blocks. -/
theorem fin_sum (r : Fin 4) (k : Dev nD) (i : S256x512.Idx) :
    (finV xv wv r k i : EReal) = max (∑ d : Dev nD, (partV xv wv r d k i : EReal)) 0 := by
  unfold finV
  rw [relu_at, run_sum]
  have h : chunk r (prv r k) 15 = k := by rw [chunk_prv]; exact (chunk_16 r k 0).trans (by apply Fin.ext; have : k.val < 16 := k.isLt; simp only [chunk]; omega)
  rw [h, sum_round r (prv r k) fun d => (partV xv wv r d k i : EReal)]

end

/-- A sum over the whole contraction is a sum over the devices of sums over their parts. -/
theorem sum_cut (f : Fin 4096 → EReal) :
    ∑ d : Fin 16, ∑ e : Fin 256, f ⟨256 * d.val + e.val, by have := d.isLt; have := e.isLt; omega⟩ = ∑ k : Fin 4096, f k := by
  rw [← Fintype.sum_prod_type']
  refine Fintype.sum_equiv (finProdFinEquiv (m := 16) (n := 256)) _ _ fun p => ?_
  congr 1
  apply Fin.ext
  show 256 * p.1.val + p.2.val = p.2.val + 256 * p.1.val
  omega

end Cert.KernelIdeal.Chain
-- ==== Proof.Value.lean ====
module

public import proofs.«01_k».proof.Proof.Sums
public import proofs.«01_k».proof.Proof.Run
public import proofs.«01_k».proof.Proof.RefRun
public import proofs.«01_k».proof.Defs

/-! Over the extended reals: the kernel's result is the reference's. -/

@[expose] public section

noncomputable section

namespace Cert.KernelIdeal.Chain

open Cert.KernelIdeal Cert.KernelIdeal.Gen
open Idealize.ShloMosaic Idealize.ShloMosaic.TcCoe Idealize.ShloMosaic.ValueIdx Idealize.SL.Sem
open scoped BigOperators

/-- The reference's result at an entry. -/
theorem want_at (X : FVec Ideal Cert.ReferenceIdeal.S4096x4096 .f32) (W : FVec Ideal Cert.ReferenceIdeal.S4096x2048 .f32) (a : Fin 4096) (b : Fin 2048) :
    (Cert.ReferenceIdeal.Whole.want X W (ix2 a b) : EReal) = max (∑ k : Fin 4096, (X (ix2 a k) : EReal) * (W (ix2 k b) : EReal)) 0 := by
  unfold Cert.ReferenceIdeal.Whole.want
  show max (Host.dotGeneral Cert.ReferenceIdeal.dot_S4096x4096_S4096x2048_S4096x2048_1_0_0_1_n_n none X W (ix2 a b) : EReal)
    (Ideal.ofBits .f32 0x00000000#32) = _
  rw [Ideal.ofBits_zero_f32]
  exact congrArg (fun z : EReal => max z 0) (Idealize.ShloMosaic.StackMember.dotGeneral_plain_apply none X W a b)

/-- A device's block of a product, at an entry: the part of the contraction that the device holds. -/
theorem part_at (xv : Dev nD → Vec Ideal S4096x256 .f32) (wv : Dev nD → Vec Ideal S256x2048 .f32) (r : Fin 4) (d k : Dev nD) (a : Fin 256) (b : Fin 512) :
    (partV xv wv r d k (ix2 a b) : EReal)
      = ∑ e : Fin 256, (xv d (ix2 (⟨256 * k.val + a.val, by have : k.val < 16 := k.isLt; have := a.isLt; omega⟩ : Fin 4096) e) : EReal)
          * (wv d (ix2 e (⟨512 * r.val + b.val, by have := r.isLt; have := b.isLt; omega⟩ : Fin 2048)) : EReal) := by
  unfold partV bandV
  have hc : (colRect r).emb (ix2 a b) = ix2 a (⟨512 * r.val + b.val, by have := r.isLt; have := b.isLt; omega⟩ : Fin 2048) := by
    funext t; apply Fin.ext
    fin_cases t
    · show 0 + 1 * a.val = a.val; omega
    · show 512 * r.val + 1 * b.val = 512 * r.val + b.val; omega
  rw [hc, gemm_at]
  refine Finset.sum_congr rfl fun e _ => ?_
  have hx : (xRect k).emb (ix2 a e) = ix2 (⟨256 * k.val + a.val, by have : k.val < 16 := k.isLt; have := a.isLt; omega⟩ : Fin 4096) e := by
    funext t; apply Fin.ext
    fin_cases t
    · show 256 * k.val + 1 * a.val = 256 * k.val + a.val; omega
    · show 0 + 1 * e.val = e.val; omega
  rw [hx]

/-- If every device holds its columns of `X` and its rows of `W`, the result is the reference's. -/
theorem out_want (X : FVec Ideal Cert.ReferenceIdeal.S4096x4096 .f32) (W : FVec Ideal Cert.ReferenceIdeal.S4096x2048 .f32)
    (xv : Dev nD → Vec Ideal S4096x256 .f32) (wv : Dev nD → Vec Ideal S256x2048 .f32)
    (hx : ∀ (d : Dev nD) (a : Fin 4096) (e : Fin 256), xv d (ix2 a e) = X (ix2 a (⟨256 * d.val + e.val, by have : d.val < 16 := d.isLt; have := e.isLt; omega⟩ : Fin 4096)))
    (hw : ∀ (d : Dev nD) (e : Fin 256) (b : Fin 2048), wv d (ix2 e b) = W (ix2 (⟨256 * d.val + e.val, by have : d.val < 16 := d.isLt; have := e.isLt; omega⟩ : Fin 4096) b)) :
    outAll xv wv = Cert.ReferenceIdeal.Whole.want X W := by
  funext i
  obtain ⟨a, b, rfl⟩ : ∃ (a : Fin 4096) (b : Fin 2048), i = ix2 a b := ⟨i 0, i 1, eq_ix2 i⟩
  refine Eq.trans ?_ (want_at X W a b).symm
  have hab : (blkRect (blkOf (ix2 a b))).emb (ix2 (⟨a.val % 256, Nat.mod_lt _ (by decide)⟩ : Fin 256) (⟨b.val % 512, Nat.mod_lt _ (by decide)⟩ : Fin 512)) = ix2 a b := by
    funext t; apply Fin.ext
    fin_cases t
    · show 256 * (a.val / 256) + 1 * (a.val % 256) = a.val; omega
    · show 512 * (b.val / 512) + 1 * (b.val % 512) = b.val; omega
  refine (congrArg (outAll xv wv) hab.symm).trans ((outAll_emb xv wv _ _).trans ?_)
  refine (fin_sum xv wv _ _ _).trans (congrArg (fun z : EReal => max z 0) ?_)
  refine Eq.trans ?_ (sum_cut fun k => (X (ix2 a k) : EReal) * (W (ix2 k b) : EReal))
  refine Finset.sum_congr rfl fun d _ => (part_at xv wv _ _ _ _ _).trans (Finset.sum_congr rfl fun e _ => ?_)
  rw [hx, hw]
  congr 3
  · refine Fin.ext ?_
    show 256 * (a.val / 256) + a.val % 256 = a.val; omega
  · refine Fin.ext ?_
    show 512 * (b.val / 512) + b.val % 512 = b.val; omega

section Claim
variable (m : (ℓ : Loc nD τ sig) → Buf (Elt Ideal) ℓ)

/-- The staged part of `x` is the device's argument. -/
theorem xv_arg (c : Dev nD) : xv m c = m ((c : Thread nD τ).loc main_arg0) := by
  funext i
  refine congrArg (m ((c : Thread nD τ).loc main_arg0)) ?_
  funext a; apply Fin.ext
  fin_cases a
  · show 0 * 4096 + 1 * (i 0).val = (i 0).val; omega
  · show 0 * 256 + 1 * (i 1).val = (i 1).val; omega
/-- The staged part of `w` is the device's argument. -/
theorem wv_arg (c : Dev nD) : wv m c = m ((c : Thread nD τ).loc main_arg1) := by
  funext i
  refine congrArg (m ((c : Thread nD τ).loc main_arg1)) ?_
  funext a; apply Fin.ext
  fin_cases a
  · show 0 * 256 + 1 * (i 0).val = (i 0).val; omega
  · show 0 * 2048 + 1 * (i 1).val = (i 1).val; omega

end Claim

/-- A block of columns, at an entry. -/
theorem cols_at (X : FVec Ideal Cert.ReferenceIdeal.S4096x4096 .f32) (c : Fin 16) (a : Fin 4096) (e : Fin 256) :
    Layout.block ⟨2, ![4096, 256]⟩ ⟨2, ![4096, 4096]⟩ 1 16 c X (by decide) (ix2 a e)
      = X (ix2 a (⟨256 * c.val + e.val, by have := c.isLt; have := e.isLt; omega⟩ : Fin 4096)) := by
  rw [Layout.block_apply]
  refine congrArg X ?_
  funext t; apply Fin.ext
  fin_cases t
  · rfl
  · show c.val * 256 + e.val = 256 * c.val + e.val; omega
/-- A block of rows, at an entry. -/
theorem rows_at (W : FVec Ideal Cert.ReferenceIdeal.S4096x2048 .f32) (c : Fin 16) (e : Fin 256) (b : Fin 2048) :
    Layout.block ⟨2, ![256, 2048]⟩ ⟨2, ![4096, 2048]⟩ 0 16 c W (by decide) (ix2 e b)
      = W (ix2 (⟨256 * c.val + e.val, by have := c.isLt; have := e.isLt; omega⟩ : Fin 4096) b) := by
  rw [Layout.block_apply]
  refine congrArg W ?_
  funext t; apply Fin.ext
  fin_cases t
  · show c.val * 256 + e.val = 256 * c.val + e.val; omega
  · rfl

end Cert.KernelIdeal.Chain
-- ==== Proof.Equal.lean ====
module

public import proofs.«01_k».proof.Proof.Value

/-! The value claim: every device's result is the reference's result. -/

@[expose] public section

noncomputable section

namespace Cert.Proof

open Idealize.ShloMosaic Idealize.SL.Sem

/-- Over the extended reals, from arguments cut over the devices, every device ends with the whole of the reference's
    result, and both programs keep their arguments. -/
theorem algebraic_kernel_reference : Cert.algebraic_KernelIdeal_ReferenceIdeal := by
  intro m ρ m' ρ' _ hagree
  refine ⟨Cert.ReferenceIdeal.Whole.want (F := Ideal)
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨(h.1 c).1.trans ?_, (h.1 c).2⟩)
      (Cert.KernelIdeal.Chain.run_main (F := Ideal) m ρ)
    refine Cert.KernelIdeal.Chain.out_want _ _ _ _ (fun d a e => ?_) (fun d e b => ?_)
    · exact (congrFun ((Cert.KernelIdeal.Chain.xv_arg m d).trans (hagree d).1) _).trans (Cert.KernelIdeal.Chain.cols_at _ d a e)
    · exact (congrFun ((Cert.KernelIdeal.Chain.wv_arg m d).trans (hagree d).2) _).trans (Cert.KernelIdeal.Chain.rows_at _ d e b)
  · exact (θ_run Cert.ReferenceIdeal.defs _ _).mono (fun _ h => h 0) (Cert.ReferenceIdeal.Whole.run_main (F := Ideal) m' ρ')

end Cert.Proof
-- ==== Proof.lean ====
/- The claims of this certificate, put together: what each rests on is in the modules under Proof/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Equal

@[expose] public section

noncomputable section

namespace Cert.Proof

open Idealize.ShloMosaic Idealize.SL.Sem

/-- All the claims, after the side conditions of the printed programs. -/
theorem claim : Cert.Claim :=
  ⟨Cert.Kernel.Gen.facts, Cert.KernelIdeal.Gen.facts, Cert.ReferenceIdeal.Gen.facts,
    frame_kernel, frame_kernelIdeal, frame_referenceIdeal, trivial, algebraic_kernel_reference⟩

end Cert.Proof

end
